-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_scores [hPre_finite_scores : Cert.Pre_finite_scores.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3))).1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3))).2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3))).2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_RefOprojIdeal (m : (ℓ : Loc Cert.RefOprojIdeal.nD Cert.RefOprojIdeal.τ Cert.RefOprojIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_RefFinalIdeal (m : (ℓ : Loc Cert.RefFinalIdeal.nD Cert.RefFinalIdeal.τ Cert.RefFinalIdeal.sig) → Buf (Elt Ideal) ℓ) : Prop :=
  True

def Pre_Sattn (m : (ℓ : Loc Cert.Sattn.nD Cert.Sattn.τ Cert.Sattn.sig) → Buf (Elt Bits) ℓ) : Prop :=
  True

def Pre_SattnIdeal (m : (ℓ : Loc Cert.SattnIdeal.nD Cert.SattnIdeal.τ Cert.SattnIdeal.sig) → Buf (Elt Ideal) ℓ) : Prop :=
  True

def Pre_SattnIdeal_finite_sample_scores [hPre_finite_sample_scores : Cert.Pre_finite_sample_scores.Facts] (m : (ℓ : Loc Cert.SattnIdeal.nD Cert.SattnIdeal.τ Cert.SattnIdeal.sig) → Buf (Elt Ideal) ℓ) : Prop :=
  ∀ c : Dev Cert.SattnIdeal.nD,
    (Cert.Pre_finite_sample_scores.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5))).1 = (fun _ => 1#1)
    ∧ (Cert.Pre_finite_sample_scores.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5))).2.1 = (fun _ => 1#1)
    ∧ (Cert.Pre_finite_sample_scores.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5))).2.2.1 = (fun _ => 1#1)
    ∧ (Cert.Pre_finite_sample_scores.fn (F := Ideal) (m ((c.tc : Thread Cert.SattnIdeal.nD Cert.SattnIdeal.τ).loc Cert.SattnIdeal.main_arg0)) (m ((c.tc : Thread Cert.SattnIdeal.nD Cert.SattnIdeal.τ).loc Cert.SattnIdeal.main_arg1)) (m ((c.tc : Thread Cert.SattnIdeal.nD Cert.SattnIdeal.τ).loc Cert.SattnIdeal.main_arg2)) (m ((c.tc : Thread Cert.SattnIdeal.nD Cert.SattnIdeal.τ).loc Cert.SattnIdeal.main_arg3)) (m ((c.tc : Thread Cert.SattnIdeal.nD Cert.SattnIdeal.τ).loc Cert.SattnIdeal.main_arg4)) (m ((c.tc : Thread Cert.SattnIdeal.nD Cert.SattnIdeal.τ).loc Cert.SattnIdeal.main_arg5))).2.2.2 = (fun _ => 1#1)

def Pre_RefSattnIdeal (m : (ℓ : Loc Cert.RefSattnIdeal.nD Cert.RefSattnIdeal.τ Cert.RefSattnIdeal.sig) → Buf (Elt Ideal) ℓ) : Prop :=
  True

def Pre_RefSattnIdeal_finite_sample_scores [hPre_finite_sample_scores : Cert.Pre_finite_sample_scores.Facts] (m : (ℓ : Loc Cert.RefSattnIdeal.nD Cert.RefSattnIdeal.τ Cert.RefSattnIdeal.sig) → Buf (Elt Ideal) ℓ) : Prop :=
  ∀ c : Dev Cert.RefSattnIdeal.nD,
    (Cert.Pre_finite_sample_scores.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5))).1 = (fun _ => 1#1)
    ∧ (Cert.Pre_finite_sample_scores.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5))).2.1 = (fun _ => 1#1)
    ∧ (Cert.Pre_finite_sample_scores.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5))).2.2.1 = (fun _ => 1#1)
    ∧ (Cert.Pre_finite_sample_scores.fn (F := Ideal) (m ((c.tc : Thread Cert.RefSattnIdeal.nD Cert.RefSattnIdeal.τ).loc Cert.RefSattnIdeal.main_arg0)) (m ((c.tc : Thread Cert.RefSattnIdeal.nD Cert.RefSattnIdeal.τ).loc Cert.RefSattnIdeal.main_arg1)) (m ((c.tc : Thread Cert.RefSattnIdeal.nD Cert.RefSattnIdeal.τ).loc Cert.RefSattnIdeal.main_arg2)) (m ((c.tc : Thread Cert.RefSattnIdeal.nD Cert.RefSattnIdeal.τ).loc Cert.RefSattnIdeal.main_arg3)) (m ((c.tc : Thread Cert.RefSattnIdeal.nD Cert.RefSattnIdeal.τ).loc Cert.RefSattnIdeal.main_arg4)) (m ((c.tc : Thread Cert.RefSattnIdeal.nD Cert.RefSattnIdeal.τ).loc Cert.RefSattnIdeal.main_arg5))).2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_RefAttnIdeal_pre_finite_scores [hRefAttnIdeal : Cert.RefAttnIdeal.Facts] [hPre_finite_scores : Cert.Pre_finite_scores.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_scores m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_RefOprojIdeal [hRefOprojIdeal : Cert.RefOprojIdeal.Facts] : Prop :=
  ∀ (m : (ℓ : Loc Cert.RefOprojIdeal.nD Cert.RefOprojIdeal.τ Cert.RefOprojIdeal.sig) → Buf (Elt Ideal) ℓ) (g : Dev Cert.RefOprojIdeal.nD → PrngReg), Pre_RefOprojIdeal m →
    θ_run (Cert.RefOprojIdeal.defs (F := Ideal)) (onTc (τ := Cert.RefOprojIdeal.τ) (Cert.RefOprojIdeal.main (F := Ideal))) ⟨m, fun _ => 0, g⟩ (fun r => (∀ c : Dev Cert.RefOprojIdeal.nD,
      r.2.mem ((c.tc : Thread Cert.RefOprojIdeal.nD Cert.RefOprojIdeal.τ).loc Cert.RefOprojIdeal.main_arg0) = m ((c.tc : Thread Cert.RefOprojIdeal.nD Cert.RefOprojIdeal.τ).loc Cert.RefOprojIdeal.main_arg0)
      ∧ r.2.mem ((c.tc : Thread Cert.RefOprojIdeal.nD Cert.RefOprojIdeal.τ).loc Cert.RefOprojIdeal.main_arg1) = m ((c.tc : Thread Cert.RefOprojIdeal.nD Cert.RefOprojIdeal.τ).loc Cert.RefOprojIdeal.main_arg1)
      ∧ r.2.mem ((c.tc : Thread Cert.RefOprojIdeal.nD Cert.RefOprojIdeal.τ).loc Cert.RefOprojIdeal.main_arg2) = m ((c.tc : Thread Cert.RefOprojIdeal.nD Cert.RefOprojIdeal.τ).loc Cert.RefOprojIdeal.main_arg2)
      ∧ r.2.mem ((c.tc : Thread Cert.RefOprojIdeal.nD Cert.RefOprojIdeal.τ).loc Cert.RefOprojIdeal.main_arg3) = m ((c.tc : Thread Cert.RefOprojIdeal.nD Cert.RefOprojIdeal.τ).loc Cert.RefOprojIdeal.main_arg3)
      ∧ r.2.mem ((c.tc : Thread Cert.RefOprojIdeal.nD Cert.RefOprojIdeal.τ).loc Cert.RefOprojIdeal.main_arg4) = m ((c.tc : Thread Cert.RefOprojIdeal.nD Cert.RefOprojIdeal.τ).loc Cert.RefOprojIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_RefFinalIdeal [hRefFinalIdeal : Cert.RefFinalIdeal.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1)
      ∧ r.2.mem ((c.tc : Thread Cert.RefFinalIdeal.nD Cert.RefFinalIdeal.τ).loc Cert.RefFinalIdeal.main_arg2) = m ((c.tc : Thread Cert.RefFinalIdeal.nD Cert.RefFinalIdeal.τ).loc Cert.RefFinalIdeal.main_arg2)
      ∧ r.2.mem ((c.tc : Thread Cert.RefFinalIdeal.nD Cert.RefFinalIdeal.τ).loc Cert.RefFinalIdeal.main_arg3) = m ((c.tc : Thread Cert.RefFinalIdeal.nD Cert.RefFinalIdeal.τ).loc Cert.RefFinalIdeal.main_arg3)
      ∧ r.2.mem ((c.tc : Thread Cert.RefFinalIdeal.nD Cert.RefFinalIdeal.τ).loc Cert.RefFinalIdeal.main_arg4) = m ((c.tc : Thread Cert.RefFinalIdeal.nD Cert.RefFinalIdeal.τ).loc Cert.RefFinalIdeal.main_arg4)
      ∧ r.2.mem ((c.tc : Thread Cert.RefFinalIdeal.nD Cert.RefFinalIdeal.τ).loc Cert.RefFinalIdeal.main_arg5) = m ((c.tc : Thread Cert.RefFinalIdeal.nD Cert.RefFinalIdeal.τ).loc Cert.RefFinalIdeal.main_arg5))
      ∧ r.2.sem = fun _ => 0)

def quiescent_Sattn [hSattn : Cert.Sattn.Facts] : Prop :=
  ∀ (m : (ℓ : Loc Cert.Sattn.nD Cert.Sattn.τ Cert.Sattn.sig) → Buf (Elt Bits) ℓ) (g : Dev Cert.Sattn.nD → PrngReg), Pre_Sattn m →
    θ_run (Cert.Sattn.defs (F := Bits)) (onTc (τ := Cert.Sattn.τ) (Cert.Sattn.main (F := Bits))) ⟨m, fun _ => 0, g⟩ (fun r => (∀ c : Dev Cert.Sattn.nD,
      r.2.mem ((c.tc : Thread Cert.Sattn.nD Cert.Sattn.τ).loc Cert.Sattn.main_arg0) = m ((c.tc : Thread Cert.Sattn.nD Cert.Sattn.τ).loc Cert.Sattn.main_arg0)
      ∧ r.2.mem ((c.tc : Thread Cert.Sattn.nD Cert.Sattn.τ).loc Cert.Sattn.main_arg1) = m ((c.tc : Thread Cert.Sattn.nD Cert.Sattn.τ).loc Cert.Sattn.main_arg1)
      ∧ r.2.mem ((c.tc : Thread Cert.Sattn.nD Cert.Sattn.τ).loc Cert.Sattn.main_arg2) = m ((c.tc : Thread Cert.Sattn.nD Cert.Sattn.τ).loc Cert.Sattn.main_arg2)
      ∧ r.2.mem ((c.tc : Thread Cert.Sattn.nD Cert.Sattn.τ).loc Cert.Sattn.main_arg3) = m ((c.tc : Thread Cert.Sattn.nD Cert.Sattn.τ).loc Cert.Sattn.main_arg3)
      ∧ r.2.mem ((c.tc : Thread Cert.Sattn.nD Cert.Sattn.τ).loc Cert.Sattn.main_arg4) = m ((c.tc : Thread Cert.Sattn.nD Cert.Sattn.τ).loc Cert.Sattn.main_arg4)
      ∧ r.2.mem ((c.tc : Thread Cert.Sattn.nD Cert.Sattn.τ).loc Cert.Sattn.main_arg5) = m ((c.tc : Thread Cert.Sattn.nD Cert.Sattn.τ).loc Cert.Sattn.main_arg5))
      ∧ r.2.sem = fun _ => 0)

def quiescent_SattnIdeal [hSattnIdeal : Cert.SattnIdeal.Facts] : Prop :=
  ∀ (m : (ℓ : Loc Cert.SattnIdeal.nD Cert.SattnIdeal.τ Cert.SattnIdeal.sig) → Buf (Elt Ideal) ℓ) (g : Dev Cert.SattnIdeal.nD → PrngReg), Pre_SattnIdeal m →
    θ_run (Cert.SattnIdeal.defs (F := Ideal)) (onTc (τ := Cert.SattnIdeal.τ) (Cert.SattnIdeal.main (F := Ideal))) ⟨m, fun _ => 0, g⟩ (fun r => (∀ c : Dev Cert.SattnIdeal.nD,
      r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
      ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
      ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
      ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
      ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
      ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5))
      ∧ r.2.sem = fun _ => 0)

def quiescent_SattnIdeal_pre_finite_sample_scores [hSattnIdeal : Cert.SattnIdeal.Facts] [hPre_finite_sample_scores : Cert.Pre_finite_sample_scores.Facts] : Prop :=
  ∀ (m : (ℓ : Loc Cert.SattnIdeal.nD Cert.SattnIdeal.τ Cert.SattnIdeal.sig) → Buf (Elt Ideal) ℓ) (g : Dev Cert.SattnIdeal.nD → PrngReg), Pre_SattnIdeal_finite_sample_scores m →
    θ_run (Cert.SattnIdeal.defs (F := Ideal)) (onTc (τ := Cert.SattnIdeal.τ) (Cert.SattnIdeal.main (F := Ideal))) ⟨m, fun _ => 0, g⟩ (fun r => (∀ c : Dev Cert.SattnIdeal.nD,
      r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
      ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
      ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
      ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
      ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
      ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5))
      ∧ r.2.sem = fun _ => 0)

def quiescent_RefSattnIdeal [hRefSattnIdeal : Cert.RefSattnIdeal.Facts] : Prop :=
  ∀ (m : (ℓ : Loc Cert.RefSattnIdeal.nD Cert.RefSattnIdeal.τ Cert.RefSattnIdeal.sig) → Buf (Elt Ideal) ℓ) (g : Dev Cert.RefSattnIdeal.nD → PrngReg), Pre_RefSattnIdeal m →
    θ_run (Cert.RefSattnIdeal.defs (F := Ideal)) (onTc (τ := Cert.RefSattnIdeal.τ) (Cert.RefSattnIdeal.main (F := Ideal))) ⟨m, fun _ => 0, g⟩ (fun r => (∀ c : Dev Cert.RefSattnIdeal.nD,
      r.2.mem ((c.tc : Thread Cert.RefSattnIdeal.nD Cert.RefSattnIdeal.τ).loc Cert.RefSattnIdeal.main_arg0) = m ((c.tc : Thread Cert.RefSattnIdeal.nD Cert.RefSattnIdeal.τ).loc Cert.RefSattnIdeal.main_arg0)
      ∧ r.2.mem ((c.tc : Thread Cert.RefSattnIdeal.nD Cert.RefSattnIdeal.τ).loc Cert.RefSattnIdeal.main_arg1) = m ((c.tc : Thread Cert.RefSattnIdeal.nD Cert.RefSattnIdeal.τ).loc Cert.RefSattnIdeal.main_arg1)
      ∧ r.2.mem ((c.tc : Thread Cert.RefSattnIdeal.nD Cert.RefSattnIdeal.τ).loc Cert.RefSattnIdeal.main_arg2) = m ((c.tc : Thread Cert.RefSattnIdeal.nD Cert.RefSattnIdeal.τ).loc Cert.RefSattnIdeal.main_arg2)
      ∧ r.2.mem ((c.tc : Thread Cert.RefSattnIdeal.nD Cert.RefSattnIdeal.τ).loc Cert.RefSattnIdeal.main_arg3) = m ((c.tc : Thread Cert.RefSattnIdeal.nD Cert.RefSattnIdeal.τ).loc Cert.RefSattnIdeal.main_arg3)
      ∧ r.2.mem ((c.tc : Thread Cert.RefSattnIdeal.nD Cert.RefSattnIdeal.τ).loc Cert.RefSattnIdeal.main_arg4) = m ((c.tc : Thread Cert.RefSattnIdeal.nD Cert.RefSattnIdeal.τ).loc Cert.RefSattnIdeal.main_arg4)
      ∧ r.2.mem ((c.tc : Thread Cert.RefSattnIdeal.nD Cert.RefSattnIdeal.τ).loc Cert.RefSattnIdeal.main_arg5) = m ((c.tc : Thread Cert.RefSattnIdeal.nD Cert.RefSattnIdeal.τ).loc Cert.RefSattnIdeal.main_arg5))
      ∧ r.2.sem = fun _ => 0)

def quiescent_RefSattnIdeal_pre_finite_sample_scores [hRefSattnIdeal : Cert.RefSattnIdeal.Facts] [hPre_finite_sample_scores : Cert.Pre_finite_sample_scores.Facts] : Prop :=
  ∀ (m : (ℓ : Loc Cert.RefSattnIdeal.nD Cert.RefSattnIdeal.τ Cert.RefSattnIdeal.sig) → Buf (Elt Ideal) ℓ) (g : Dev Cert.RefSattnIdeal.nD → PrngReg), Pre_RefSattnIdeal_finite_sample_scores m →
    θ_run (Cert.RefSattnIdeal.defs (F := Ideal)) (onTc (τ := Cert.RefSattnIdeal.τ) (Cert.RefSattnIdeal.main (F := Ideal))) ⟨m, fun _ => 0, g⟩ (fun r => (∀ c : Dev Cert.RefSattnIdeal.nD,
      r.2.mem ((c.tc : Thread Cert.RefSattnIdeal.nD Cert.RefSattnIdeal.τ).loc Cert.RefSattnIdeal.main_arg0) = m ((c.tc : Thread Cert.RefSattnIdeal.nD Cert.RefSattnIdeal.τ).loc Cert.RefSattnIdeal.main_arg0)
      ∧ r.2.mem ((c.tc : Thread Cert.RefSattnIdeal.nD Cert.RefSattnIdeal.τ).loc Cert.RefSattnIdeal.main_arg1) = m ((c.tc : Thread Cert.RefSattnIdeal.nD Cert.RefSattnIdeal.τ).loc Cert.RefSattnIdeal.main_arg1)
      ∧ r.2.mem ((c.tc : Thread Cert.RefSattnIdeal.nD Cert.RefSattnIdeal.τ).loc Cert.RefSattnIdeal.main_arg2) = m ((c.tc : Thread Cert.RefSattnIdeal.nD Cert.RefSattnIdeal.τ).loc Cert.RefSattnIdeal.main_arg2)
      ∧ r.2.mem ((c.tc : Thread Cert.RefSattnIdeal.nD Cert.RefSattnIdeal.τ).loc Cert.RefSattnIdeal.main_arg3) = m ((c.tc : Thread Cert.RefSattnIdeal.nD Cert.RefSattnIdeal.τ).loc Cert.RefSattnIdeal.main_arg3)
      ∧ r.2.mem ((c.tc : Thread Cert.RefSattnIdeal.nD Cert.RefSattnIdeal.τ).loc Cert.RefSattnIdeal.main_arg4) = m ((c.tc : Thread Cert.RefSattnIdeal.nD Cert.RefSattnIdeal.τ).loc Cert.RefSattnIdeal.main_arg4)
      ∧ r.2.mem ((c.tc : Thread Cert.RefSattnIdeal.nD Cert.RefSattnIdeal.τ).loc Cert.RefSattnIdeal.main_arg5) = m ((c.tc : Thread Cert.RefSattnIdeal.nD Cert.RefSattnIdeal.τ).loc Cert.RefSattnIdeal.main_arg5))
      ∧ r.2.sem = fun _ => 0)

def preserves_Attn_AttnIdeal : Prop :=
  IdealRules.named_const.Statement Cert.AttnIdeal.κ "mask" .f32 0xF149F2CA#32 ⊥

def algebraic_AttnIdeal_RefAttnIdeal_pre_finite_scores [hAttnIdeal : Cert.AttnIdeal.Facts] [hRefAttnIdeal : Cert.RefAttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_scores m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v61) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v25_0)) (v1 : (c : Dev Cert.QkvIdeal.nD) → Buf (Elt Ideal) ((c.tc : Thread Cert.QkvIdeal.nD Cert.QkvIdeal.τ).loc Cert.QkvIdeal.main_v25_1)) (v2 : (c : Dev Cert.QkvIdeal.nD) → Buf (Elt Ideal) ((c.tc : Thread Cert.QkvIdeal.nD Cert.QkvIdeal.τ).loc Cert.QkvIdeal.main_v25_2)) (v3 : (c : Dev Cert.QkvIdeal.nD) → Buf (Elt Ideal) ((c.tc : Thread Cert.QkvIdeal.nD Cert.QkvIdeal.τ).loc Cert.QkvIdeal.main_v25_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v25_0) = v0 c
          ∧ r.2.mem ((c.tc : Thread Cert.QkvIdeal.nD Cert.QkvIdeal.τ).loc Cert.QkvIdeal.main_v25_1) = v1 c
          ∧ r.2.mem ((c.tc : Thread Cert.QkvIdeal.nD Cert.QkvIdeal.τ).loc Cert.QkvIdeal.main_v25_2) = v2 c
          ∧ r.2.mem ((c.tc : Thread Cert.QkvIdeal.nD Cert.QkvIdeal.τ).loc Cert.QkvIdeal.main_v25_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v84) = v0 c
          ∧ r.2.mem ((c.tc : Thread Cert.RefQkvIdeal.nD Cert.RefQkvIdeal.τ).loc Cert.RefQkvIdeal.main_v86) = v1 c
          ∧ r.2.mem ((c.tc : Thread Cert.RefQkvIdeal.nD Cert.RefQkvIdeal.τ).loc Cert.RefQkvIdeal.main_v87) = v2 c
          ∧ r.2.mem ((c.tc : Thread Cert.RefQkvIdeal.nD Cert.RefQkvIdeal.τ).loc Cert.RefQkvIdeal.main_v88) = v3 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v34) = v0 c
          ∧ r.2.mem ((c.tc : Thread Cert.RefConvIdeal.nD Cert.RefConvIdeal.τ).loc Cert.RefConvIdeal.main_v31) = v1 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v36) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6))

def preserves_Oproj_OprojIdeal : Prop :=
  True

def algebraic_OprojIdeal_RefOprojIdeal [hOprojIdeal : Cert.OprojIdeal.Facts] [hRefOprojIdeal : Cert.RefOprojIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.RefOprojIdeal.nD Cert.RefOprojIdeal.τ Cert.RefOprojIdeal.sig) → Buf (Elt Ideal) ℓ) (g' : Dev Cert.RefOprojIdeal.nD → PrngReg), Pre_OprojIdeal m →
    (∀ c : Dev Cert.OprojIdeal.nD,
      m' ((c.tc : Thread Cert.RefOprojIdeal.nD Cert.RefOprojIdeal.τ).loc Cert.RefOprojIdeal.main_arg0) = m ((c.tc : Thread Cert.OprojIdeal.nD Cert.OprojIdeal.τ).loc Cert.OprojIdeal.main_arg0)
      ∧ m' ((c.tc : Thread Cert.RefOprojIdeal.nD Cert.RefOprojIdeal.τ).loc Cert.RefOprojIdeal.main_arg1) = m ((c.tc : Thread Cert.OprojIdeal.nD Cert.OprojIdeal.τ).loc Cert.OprojIdeal.main_arg1)
      ∧ m' ((c.tc : Thread Cert.RefOprojIdeal.nD Cert.RefOprojIdeal.τ).loc Cert.RefOprojIdeal.main_arg2) = m ((c.tc : Thread Cert.OprojIdeal.nD Cert.OprojIdeal.τ).loc Cert.OprojIdeal.main_arg2)
      ∧ m' ((c.tc : Thread Cert.RefOprojIdeal.nD Cert.RefOprojIdeal.τ).loc Cert.RefOprojIdeal.main_arg3) = m ((c.tc : Thread Cert.OprojIdeal.nD Cert.OprojIdeal.τ).loc Cert.OprojIdeal.main_arg3)
      ∧ m' ((c.tc : Thread Cert.RefOprojIdeal.nD Cert.RefOprojIdeal.τ).loc Cert.RefOprojIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.RefOprojIdeal.defs (F := Ideal)) (onTc (τ := Cert.RefOprojIdeal.τ) (Cert.RefOprojIdeal.main (F := Ideal))) ⟨m', fun _ => 0, g'⟩ (fun r => ∀ c : Dev Cert.RefOprojIdeal.nD,
          r.2.mem ((c.tc : Thread Cert.RefOprojIdeal.nD Cert.RefOprojIdeal.τ).loc Cert.RefOprojIdeal.main_v17) = v0 c
          ∧ r.2.mem ((c.tc : Thread Cert.RefOprojIdeal.nD Cert.RefOprojIdeal.τ).loc Cert.RefOprojIdeal.main_v32) = v1 c
          ∧ r.2.mem ((c.tc : Thread Cert.RefOprojIdeal.nD Cert.RefOprojIdeal.τ).loc Cert.RefOprojIdeal.main_arg0) = m' ((c.tc : Thread Cert.RefOprojIdeal.nD Cert.RefOprojIdeal.τ).loc Cert.RefOprojIdeal.main_arg0)
          ∧ r.2.mem ((c.tc : Thread Cert.RefOprojIdeal.nD Cert.RefOprojIdeal.τ).loc Cert.RefOprojIdeal.main_arg1) = m' ((c.tc : Thread Cert.RefOprojIdeal.nD Cert.RefOprojIdeal.τ).loc Cert.RefOprojIdeal.main_arg1)
          ∧ r.2.mem ((c.tc : Thread Cert.RefOprojIdeal.nD Cert.RefOprojIdeal.τ).loc Cert.RefOprojIdeal.main_arg2) = m' ((c.tc : Thread Cert.RefOprojIdeal.nD Cert.RefOprojIdeal.τ).loc Cert.RefOprojIdeal.main_arg2)
          ∧ r.2.mem ((c.tc : Thread Cert.RefOprojIdeal.nD Cert.RefOprojIdeal.τ).loc Cert.RefOprojIdeal.main_arg3) = m' ((c.tc : Thread Cert.RefOprojIdeal.nD Cert.RefOprojIdeal.τ).loc Cert.RefOprojIdeal.main_arg3)
          ∧ r.2.mem ((c.tc : Thread Cert.RefOprojIdeal.nD Cert.RefOprojIdeal.τ).loc Cert.RefOprojIdeal.main_arg4) = m' ((c.tc : Thread Cert.RefOprojIdeal.nD Cert.RefOprojIdeal.τ).loc Cert.RefOprojIdeal.main_arg4))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)
      ∧ m' ((c.tc : Thread Cert.RefUpIdeal.nD Cert.RefUpIdeal.τ).loc Cert.RefUpIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v49) = v0 c
          ∧ r.2.mem ((c.tc : Thread Cert.RefUpIdeal.nD Cert.RefUpIdeal.τ).loc Cert.RefUpIdeal.main_v29) = v1 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v3) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_Final_FinalIdeal : Prop :=
  True

def algebraic_FinalIdeal_RefFinalIdeal [hFinalIdeal : Cert.FinalIdeal.Facts] [hRefFinalIdeal : Cert.RefFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.RefFinalIdeal.nD Cert.RefFinalIdeal.τ Cert.RefFinalIdeal.sig) → Buf (Elt Ideal) ℓ) (g' : Dev Cert.RefFinalIdeal.nD → PrngReg), Pre_FinalIdeal m →
    (∀ c : Dev Cert.FinalIdeal.nD,
      m' ((c.tc : Thread Cert.RefFinalIdeal.nD Cert.RefFinalIdeal.τ).loc Cert.RefFinalIdeal.main_arg0) = m ((c.tc : Thread Cert.FinalIdeal.nD Cert.FinalIdeal.τ).loc Cert.FinalIdeal.main_arg0)
      ∧ m' ((c.tc : Thread Cert.RefFinalIdeal.nD Cert.RefFinalIdeal.τ).loc Cert.RefFinalIdeal.main_arg1) = m ((c.tc : Thread Cert.FinalIdeal.nD Cert.FinalIdeal.τ).loc Cert.FinalIdeal.main_arg1)
      ∧ m' ((c.tc : Thread Cert.RefFinalIdeal.nD Cert.RefFinalIdeal.τ).loc Cert.RefFinalIdeal.main_arg2) = m ((c.tc : Thread Cert.FinalIdeal.nD Cert.FinalIdeal.τ).loc Cert.FinalIdeal.main_arg2)
      ∧ m' ((c.tc : Thread Cert.RefFinalIdeal.nD Cert.RefFinalIdeal.τ).loc Cert.RefFinalIdeal.main_arg3) = m ((c.tc : Thread Cert.FinalIdeal.nD Cert.FinalIdeal.τ).loc Cert.FinalIdeal.main_arg3)
      ∧ m' ((c.tc : Thread Cert.RefFinalIdeal.nD Cert.RefFinalIdeal.τ).loc Cert.RefFinalIdeal.main_arg4) = m ((c.tc : Thread Cert.FinalIdeal.nD Cert.FinalIdeal.τ).loc Cert.FinalIdeal.main_arg4)
      ∧ m' ((c.tc : Thread Cert.RefFinalIdeal.nD Cert.RefFinalIdeal.τ).loc Cert.RefFinalIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.RefFinalIdeal.defs (F := Ideal)) (onTc (τ := Cert.RefFinalIdeal.τ) (Cert.RefFinalIdeal.main (F := Ideal))) ⟨m', fun _ => 0, g'⟩ (fun r => ∀ c : Dev Cert.RefFinalIdeal.nD,
          r.2.mem ((c.tc : Thread Cert.RefFinalIdeal.nD Cert.RefFinalIdeal.τ).loc Cert.RefFinalIdeal.main_v27) = v0 c
          ∧ r.2.mem ((c.tc : Thread Cert.RefFinalIdeal.nD Cert.RefFinalIdeal.τ).loc Cert.RefFinalIdeal.main_arg0) = m' ((c.tc : Thread Cert.RefFinalIdeal.nD Cert.RefFinalIdeal.τ).loc Cert.RefFinalIdeal.main_arg0)
          ∧ r.2.mem ((c.tc : Thread Cert.RefFinalIdeal.nD Cert.RefFinalIdeal.τ).loc Cert.RefFinalIdeal.main_arg1) = m' ((c.tc : Thread Cert.RefFinalIdeal.nD Cert.RefFinalIdeal.τ).loc Cert.RefFinalIdeal.main_arg1)
          ∧ r.2.mem ((c.tc : Thread Cert.RefFinalIdeal.nD Cert.RefFinalIdeal.τ).loc Cert.RefFinalIdeal.main_arg2) = m' ((c.tc : Thread Cert.RefFinalIdeal.nD Cert.RefFinalIdeal.τ).loc Cert.RefFinalIdeal.main_arg2)
          ∧ r.2.mem ((c.tc : Thread Cert.RefFinalIdeal.nD Cert.RefFinalIdeal.τ).loc Cert.RefFinalIdeal.main_arg3) = m' ((c.tc : Thread Cert.RefFinalIdeal.nD Cert.RefFinalIdeal.τ).loc Cert.RefFinalIdeal.main_arg3)
          ∧ r.2.mem ((c.tc : Thread Cert.RefFinalIdeal.nD Cert.RefFinalIdeal.τ).loc Cert.RefFinalIdeal.main_arg4) = m' ((c.tc : Thread Cert.RefFinalIdeal.nD Cert.RefFinalIdeal.τ).loc Cert.RefFinalIdeal.main_arg4)
          ∧ r.2.mem ((c.tc : Thread Cert.RefFinalIdeal.nD Cert.RefFinalIdeal.τ).loc Cert.RefFinalIdeal.main_arg5) = m' ((c.tc : Thread Cert.RefFinalIdeal.nD Cert.RefFinalIdeal.τ).loc Cert.RefFinalIdeal.main_arg5))

def preserves_Sattn_SattnIdeal : Prop :=
  True

def algebraic_SattnIdeal_RefSattnIdeal_pre_finite_sample_scores [hSattnIdeal : Cert.SattnIdeal.Facts] [hRefSattnIdeal : Cert.RefSattnIdeal.Facts] [hPre_finite_sample_scores : Cert.Pre_finite_sample_scores.Facts] : Prop :=
  ∀ (m : (ℓ : Loc Cert.SattnIdeal.nD Cert.SattnIdeal.τ Cert.SattnIdeal.sig) → Buf (Elt Ideal) ℓ) (g : Dev Cert.SattnIdeal.nD → PrngReg)
    (m' : (ℓ : Loc Cert.RefSattnIdeal.nD Cert.RefSattnIdeal.τ Cert.RefSattnIdeal.sig) → Buf (Elt Ideal) ℓ) (g' : Dev Cert.RefSattnIdeal.nD → PrngReg), Pre_SattnIdeal_finite_sample_scores m →
    (∀ c : Dev Cert.SattnIdeal.nD,
      m' ((c.tc : Thread Cert.RefSattnIdeal.nD Cert.RefSattnIdeal.τ).loc Cert.RefSattnIdeal.main_arg0) = m ((c.tc : Thread Cert.SattnIdeal.nD Cert.SattnIdeal.τ).loc Cert.SattnIdeal.main_arg0)
      ∧ m' ((c.tc : Thread Cert.RefSattnIdeal.nD Cert.RefSattnIdeal.τ).loc Cert.RefSattnIdeal.main_arg1) = m ((c.tc : Thread Cert.SattnIdeal.nD Cert.SattnIdeal.τ).loc Cert.SattnIdeal.main_arg1)
      ∧ m' ((c.tc : Thread Cert.RefSattnIdeal.nD Cert.RefSattnIdeal.τ).loc Cert.RefSattnIdeal.main_arg2) = m ((c.tc : Thread Cert.SattnIdeal.nD Cert.SattnIdeal.τ).loc Cert.SattnIdeal.main_arg2)
      ∧ m' ((c.tc : Thread Cert.RefSattnIdeal.nD Cert.RefSattnIdeal.τ).loc Cert.RefSattnIdeal.main_arg3) = m ((c.tc : Thread Cert.SattnIdeal.nD Cert.SattnIdeal.τ).loc Cert.SattnIdeal.main_arg3)
      ∧ m' ((c.tc : Thread Cert.RefSattnIdeal.nD Cert.RefSattnIdeal.τ).loc Cert.RefSattnIdeal.main_arg4) = m ((c.tc : Thread Cert.SattnIdeal.nD Cert.SattnIdeal.τ).loc Cert.SattnIdeal.main_arg4)
      ∧ m' ((c.tc : Thread Cert.RefSattnIdeal.nD Cert.RefSattnIdeal.τ).loc Cert.RefSattnIdeal.main_arg5) = m ((c.tc : Thread Cert.SattnIdeal.nD Cert.SattnIdeal.τ).loc Cert.SattnIdeal.main_arg5)) →
    ∃ (v0 : (c : Dev Cert.SattnIdeal.nD) → Buf (Elt Ideal) ((c.tc : Thread Cert.SattnIdeal.nD Cert.SattnIdeal.τ).loc Cert.SattnIdeal.main_v6_0)) (v1 : (c : Dev Cert.SattnIdeal.nD) → Buf (Elt Ideal) ((c.tc : Thread Cert.SattnIdeal.nD Cert.SattnIdeal.τ).loc Cert.SattnIdeal.main_v6_1)) (v2 : (c : Dev Cert.SattnIdeal.nD) → Buf (Elt Ideal) ((c.tc : Thread Cert.SattnIdeal.nD Cert.SattnIdeal.τ).loc Cert.SattnIdeal.main_v6_2)),
      θ_run (Cert.SattnIdeal.defs (F := Ideal)) (onTc (τ := Cert.SattnIdeal.τ) (Cert.SattnIdeal.main (F := Ideal))) ⟨m, fun _ => 0, g⟩ (fun r => ∀ c : Dev Cert.SattnIdeal.nD,
          r.2.mem ((c.tc : Thread Cert.SattnIdeal.nD Cert.SattnIdeal.τ).loc Cert.SattnIdeal.main_v6_0) = v0 c
          ∧ r.2.mem ((c.tc : Thread Cert.SattnIdeal.nD Cert.SattnIdeal.τ).loc Cert.SattnIdeal.main_v6_1) = v1 c
          ∧ r.2.mem ((c.tc : Thread Cert.SattnIdeal.nD Cert.SattnIdeal.τ).loc Cert.SattnIdeal.main_v6_2) = v2 c
          ∧ r.2.mem ((c.tc : Thread Cert.SattnIdeal.nD Cert.SattnIdeal.τ).loc Cert.SattnIdeal.main_arg0) = m ((c.tc : Thread Cert.SattnIdeal.nD Cert.SattnIdeal.τ).loc Cert.SattnIdeal.main_arg0)
          ∧ r.2.mem ((c.tc : Thread Cert.SattnIdeal.nD Cert.SattnIdeal.τ).loc Cert.SattnIdeal.main_arg1) = m ((c.tc : Thread Cert.SattnIdeal.nD Cert.SattnIdeal.τ).loc Cert.SattnIdeal.main_arg1)
          ∧ r.2.mem ((c.tc : Thread Cert.SattnIdeal.nD Cert.SattnIdeal.τ).loc Cert.SattnIdeal.main_arg2) = m ((c.tc : Thread Cert.SattnIdeal.nD Cert.SattnIdeal.τ).loc Cert.SattnIdeal.main_arg2)
          ∧ r.2.mem ((c.tc : Thread Cert.SattnIdeal.nD Cert.SattnIdeal.τ).loc Cert.SattnIdeal.main_arg3) = m ((c.tc : Thread Cert.SattnIdeal.nD Cert.SattnIdeal.τ).loc Cert.SattnIdeal.main_arg3)
          ∧ r.2.mem ((c.tc : Thread Cert.SattnIdeal.nD Cert.SattnIdeal.τ).loc Cert.SattnIdeal.main_arg4) = m ((c.tc : Thread Cert.SattnIdeal.nD Cert.SattnIdeal.τ).loc Cert.SattnIdeal.main_arg4)
          ∧ r.2.mem ((c.tc : Thread Cert.SattnIdeal.nD Cert.SattnIdeal.τ).loc Cert.SattnIdeal.main_arg5) = m ((c.tc : Thread Cert.SattnIdeal.nD Cert.SattnIdeal.τ).loc Cert.SattnIdeal.main_arg5))
      ∧ θ_run (Cert.RefSattnIdeal.defs (F := Ideal)) (onTc (τ := Cert.RefSattnIdeal.τ) (Cert.RefSattnIdeal.main (F := Ideal))) ⟨m', fun _ => 0, g'⟩ (fun r => ∀ c : Dev Cert.RefSattnIdeal.nD,
          r.2.mem ((c.tc : Thread Cert.RefSattnIdeal.nD Cert.RefSattnIdeal.τ).loc Cert.RefSattnIdeal.main_v47) = v0 c
          ∧ r.2.mem ((c.tc : Thread Cert.RefSattnIdeal.nD Cert.RefSattnIdeal.τ).loc Cert.RefSattnIdeal.main_v49) = v1 c
          ∧ r.2.mem ((c.tc : Thread Cert.RefSattnIdeal.nD Cert.RefSattnIdeal.τ).loc Cert.RefSattnIdeal.main_v51) = v2 c
          ∧ r.2.mem ((c.tc : Thread Cert.RefSattnIdeal.nD Cert.RefSattnIdeal.τ).loc Cert.RefSattnIdeal.main_arg0) = m' ((c.tc : Thread Cert.RefSattnIdeal.nD Cert.RefSattnIdeal.τ).loc Cert.RefSattnIdeal.main_arg0)
          ∧ r.2.mem ((c.tc : Thread Cert.RefSattnIdeal.nD Cert.RefSattnIdeal.τ).loc Cert.RefSattnIdeal.main_arg1) = m' ((c.tc : Thread Cert.RefSattnIdeal.nD Cert.RefSattnIdeal.τ).loc Cert.RefSattnIdeal.main_arg1)
          ∧ r.2.mem ((c.tc : Thread Cert.RefSattnIdeal.nD Cert.RefSattnIdeal.τ).loc Cert.RefSattnIdeal.main_arg2) = m' ((c.tc : Thread Cert.RefSattnIdeal.nD Cert.RefSattnIdeal.τ).loc Cert.RefSattnIdeal.main_arg2)
          ∧ r.2.mem ((c.tc : Thread Cert.RefSattnIdeal.nD Cert.RefSattnIdeal.τ).loc Cert.RefSattnIdeal.main_arg3) = m' ((c.tc : Thread Cert.RefSattnIdeal.nD Cert.RefSattnIdeal.τ).loc Cert.RefSattnIdeal.main_arg3)
          ∧ r.2.mem ((c.tc : Thread Cert.RefSattnIdeal.nD Cert.RefSattnIdeal.τ).loc Cert.RefSattnIdeal.main_arg4) = m' ((c.tc : Thread Cert.RefSattnIdeal.nD Cert.RefSattnIdeal.τ).loc Cert.RefSattnIdeal.main_arg4)
          ∧ r.2.mem ((c.tc : Thread Cert.RefSattnIdeal.nD Cert.RefSattnIdeal.τ).loc Cert.RefSattnIdeal.main_arg5) = m' ((c.tc : Thread Cert.RefSattnIdeal.nD Cert.RefSattnIdeal.τ).loc Cert.RefSattnIdeal.main_arg5))

def Claim : Prop :=
  ∃ (hAttn : Cert.Attn.Facts) (hAttnIdeal : Cert.AttnIdeal.Facts) (hRefAttnIdeal : Cert.RefAttnIdeal.Facts) (hQkv : Cert.Qkv.Facts) (hQkvIdeal : Cert.QkvIdeal.Facts) (hRefQkvIdeal : Cert.RefQkvIdeal.Facts) (hConv : Cert.Conv.Facts) (hConvIdeal : Cert.ConvIdeal.Facts) (hRefConvIdeal : Cert.RefConvIdeal.Facts) (hMerge : Cert.Merge.Facts) (hMergeIdeal : Cert.MergeIdeal.Facts) (hRefMergeIdeal : Cert.RefMergeIdeal.Facts) (hOproj : Cert.Oproj.Facts) (hOprojIdeal : Cert.OprojIdeal.Facts) (hRefOprojIdeal : Cert.RefOprojIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hFinal : Cert.Final.Facts) (hFinalIdeal : Cert.FinalIdeal.Facts) (hRefFinalIdeal : Cert.RefFinalIdeal.Facts) (hSattn : Cert.Sattn.Facts) (hSattnIdeal : Cert.SattnIdeal.Facts) (hRefSattnIdeal : Cert.RefSattnIdeal.Facts) (hPre_finite_scores : Cert.Pre_finite_scores.Facts) (hPre_finite_sample_scores : Cert.Pre_finite_sample_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_RefAttnIdeal (hRefAttnIdeal := hRefAttnIdeal)
    ∧ quiescent_RefAttnIdeal_pre_finite_scores (hRefAttnIdeal := hRefAttnIdeal) (hPre_finite_scores := hPre_finite_scores)
    ∧ quiescent_Qkv (hQkv := hQkv)
    ∧ quiescent_QkvIdeal (hQkvIdeal := hQkvIdeal)
    ∧ quiescent_RefQkvIdeal (hRefQkvIdeal := hRefQkvIdeal)
    ∧ quiescent_Conv (hConv := hConv)
    ∧ quiescent_ConvIdeal (hConvIdeal := hConvIdeal)
    ∧ quiescent_RefConvIdeal (hRefConvIdeal := hRefConvIdeal)
    ∧ quiescent_Merge (hMerge := hMerge)
    ∧ quiescent_MergeIdeal (hMergeIdeal := hMergeIdeal)
    ∧ quiescent_RefMergeIdeal (hRefMergeIdeal := hRefMergeIdeal)
    ∧ quiescent_Oproj (hOproj := hOproj)
    ∧ quiescent_OprojIdeal (hOprojIdeal := hOprojIdeal)
    ∧ quiescent_RefOprojIdeal (hRefOprojIdeal := hRefOprojIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_Final (hFinal := hFinal)
    ∧ quiescent_FinalIdeal (hFinalIdeal := hFinalIdeal)
    ∧ quiescent_RefFinalIdeal (hRefFinalIdeal := hRefFinalIdeal)
    ∧ quiescent_Sattn (hSattn := hSattn)
    ∧ quiescent_SattnIdeal (hSattnIdeal := hSattnIdeal)
    ∧ quiescent_SattnIdeal_pre_finite_sample_scores (hSattnIdeal := hSattnIdeal) (hPre_finite_sample_scores := hPre_finite_sample_scores)
    ∧ quiescent_RefSattnIdeal (hRefSattnIdeal := hRefSattnIdeal)
    ∧ quiescent_RefSattnIdeal_pre_finite_sample_scores (hRefSattnIdeal := hRefSattnIdeal) (hPre_finite_sample_scores := hPre_finite_sample_scores)
    ∧ preserves_Attn_AttnIdeal
    ∧ algebraic_AttnIdeal_RefAttnIdeal_pre_finite_scores (hAttnIdeal := hAttnIdeal) (hRefAttnIdeal := hRefAttnIdeal) (hPre_finite_scores := hPre_finite_scores)
    ∧ preserves_Qkv_QkvIdeal
    ∧ algebraic_QkvIdeal_RefQkvIdeal (hQkvIdeal := hQkvIdeal) (hRefQkvIdeal := hRefQkvIdeal)
    ∧ preserves_Conv_ConvIdeal
    ∧ algebraic_ConvIdeal_RefConvIdeal (hConvIdeal := hConvIdeal) (hRefConvIdeal := hRefConvIdeal)
    ∧ preserves_Merge_MergeIdeal
    ∧ algebraic_MergeIdeal_RefMergeIdeal (hMergeIdeal := hMergeIdeal) (hRefMergeIdeal := hRefMergeIdeal)
    ∧ preserves_Oproj_OprojIdeal
    ∧ algebraic_OprojIdeal_RefOprojIdeal (hOprojIdeal := hOprojIdeal) (hRefOprojIdeal := hRefOprojIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_Final_FinalIdeal
    ∧ algebraic_FinalIdeal_RefFinalIdeal (hFinalIdeal := hFinalIdeal) (hRefFinalIdeal := hRefFinalIdeal)
    ∧ preserves_Sattn_SattnIdeal
    ∧ algebraic_SattnIdeal_RefSattnIdeal_pre_finite_sample_scores (hSattnIdeal := hSattnIdeal) (hRefSattnIdeal := hRefSattnIdeal) (hPre_finite_sample_scores := hPre_finite_sample_scores)
-- ==== Pre_finite_sample_scores.lean ====
abbrev S1x16 : Shape := ⟨2, ![1, 16]⟩
abbrev S32x1024 : Shape := ⟨2, ![32, 1024]⟩
abbrev S32x128 : Shape := ⟨2, ![32, 128]⟩
abbrev S32x128x2x64 : Shape := ⟨4, ![32, 128, 2, 64]⟩
abbrev S_ : Shape := ⟨0, ![]⟩

class Facts : Prop where
  bcast_S_S1x16 : S_.BroadcastsInDim S1x16 (![] : Fin 0 → Fin S1x16.rank)
  bcast_S_S32x1024 : S_.BroadcastsInDim S32x1024 (![] : Fin 0 → Fin S32x1024.rank)
  bcast_S_S32x128 : S_.BroadcastsInDim S32x128 (![] : Fin 0 → Fin S32x128.rank)
  bcast_S_S32x128x2x64 : S_.BroadcastsInDim S32x128x2x64 (![] : Fin 0 → Fin S32x128x2x64.rank)

variable [Facts]

def fn {F : FTy → Type} [FloatOps F] (main_arg0 : FVec F S1x16 .f32) (main_arg1 : FVec F S32x1024 .bf16) (main_arg2 : FVec F S32x128 .f32) (main_arg3 : FVec F S32x128 .f32) (main_arg4 : FVec F S32x128x2x64 .f32) (main_arg5 : FVec F S32x128x2x64 .f32) : IVec S1x16 1 × IVec S32x1024 1 × IVec S32x128 1 × IVec S32x128x2x64 1 :=
  let main_v0 : FVec F S1x16 .f32 := Host.absf main_arg0
  let main_cst : FVec F S_ .f32 := constant S_ .f32 0x7F800000#32
  let main_v1 : FVec F S1x16 .f32 := broadcastInDim S1x16 ![] bcast_S_S1x16 main_cst
  let main_v2 : IVec S1x16 1 := cmpf .olt main_v0 main_v1
  let main_v3 : FVec F S32x1024 .bf16 := Host.absf main_arg1
  let main_cst_0 : FVec F S_ .bf16 := constant S_ .bf16 0x7F80#16
  let main_v4 : FVec F S32x1024 .bf16 := broadcastInDim S32x1024 ![] bcast_S_S32x1024 main_cst_0
  let main_v5 : IVec S32x1024 1 := cmpf .olt main_v3 main_v4
  let main_v6 : FVec F S32x128 .f32 := Host.absf main_arg2
  let main_cst_1 : FVec F S_ .f32 := constant S_ .f32 0x7F800000#32
  let main_v7 : FVec F S32x128 .f32 := broadcastInDim S32x128 ![] bcast_S_S32x128 main_cst_1
  let main_v8 : IVec S32x128 1 := cmpf .olt main_v6 main_v7
  let main_v9 : FVec F S32x128x2x64 .f32 := Host.absf main_arg4
  let main_cst_2 : FVec F S_ .f32 := constant S_ .f32 0x7F800000#32
  let main_v10 : FVec F S32x128x2x64 .f32 := broadcastInDim S32x128x2x64 ![] bcast_S_S32x128x2x64 main_cst_2
  let main_v11 : IVec S32x128x2x64 1 := cmpf .olt main_v9 main_v10
  (main_v2, main_v5, main_v8, main_v11)
-- ==== Pre_finite_scores.lean ====
abbrev S1x16 : Shape := ⟨2, ![1, 16]⟩
abbrev S8192x1024 : Shape := ⟨2, ![8192, 1024]⟩
abbrev S8192x128 : Shape := ⟨2, ![8192, 128]⟩
abbrev S_ : Shape := ⟨0, ![]⟩

class Facts : Prop where
  bcast_S_S1x16 : S_.BroadcastsInDim S1x16 (![] : Fin 0 → Fin S1x16.rank)
  bcast_S_S8192x1024 : S_.BroadcastsInDim S8192x1024 (![] : Fin 0 → Fin S8192x1024.rank)
  bcast_S_S8192x128 : S_.BroadcastsInDim S8192x128 (![] : Fin 0 → Fin S8192x128.rank)

variable [Facts]

def fn {F : FTy → Type} [FloatOps F] (main_arg0 : FVec F S1x16 .f32) (main_arg1 : FVec F S8192x1024 .bf16) (main_arg2 : FVec F S8192x128 .f32) (main_arg3 : FVec F S8192x128 .f32) : IVec S1x16 1 × IVec S8192x1024 1 × IVec S8192x128 1 :=
  let main_v0 : FVec F S1x16 .f32 := Host.absf main_arg0
  let main_cst : FVec F S_ .f32 := constant S_ .f32 0x7F800000#32
  let main_v1 : FVec F S1x16 .f32 := broadcastInDim S1x16 ![] bcast_S_S1x16 main_cst
  let main_v2 : IVec S1x16 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  (main_v2, main_v5, main_v8)
-- ==== Attn.lean ====
abbrev S1x16 : Shape := ⟨2, ![1, 16]⟩
abbrev S8192x1024 : Shape := ⟨2, ![8192, 1024]⟩
abbrev S8192x128 : Shape := ⟨2, ![8192, 128]⟩
abbrev S16 : Shape := ⟨1, ![16]⟩
abbrev S128x1024 : Shape := ⟨2, ![128, 1024]⟩
abbrev S128x128 : Shape := ⟨2, ![128, 128]⟩
abbrev S128x256 : Shape := ⟨2, ![128, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 6
  | .vmem => 12
  | .smem => 1
  | _ => 0

abbrev bufTy : (tb : Table) → Fin (tcTables nBuf tb) → BufTy
  | .hbm, ⟨0, _⟩ => ⟨S1x16, .f32⟩
  | .hbm, ⟨1, _⟩ => ⟨S8192x1024, .bf16⟩
  | .hbm, ⟨2, _⟩ => ⟨S8192x128, .f32⟩
  | .hbm, ⟨3, _⟩ => ⟨S8192x128, .f32⟩
  | .hbm, ⟨4, _⟩ => ⟨S16, .f32⟩
  | .hbm, ⟨5, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .smem, ⟨0, _⟩ => ⟨S16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== RefAttnIdeal.lean ====
abbrev S1x16 : Shape := ⟨2, ![1, 16]⟩
abbrev S8192x1024 : Shape := ⟨2, ![8192, 1024]⟩
abbrev S8192x128 : Shape := ⟨2, ![8192, 128]⟩
abbrev S2x32x128x2x8x64 : Shape := ⟨6, ![2, 32, 128, 2, 8, 64]⟩
abbrev S2x32x128x2x64 : Shape := ⟨5, ![2, 32, 128, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S2x31x128x2x64 : Shape := ⟨5, ![2, 31, 128, 2, 64]⟩
abbrev S2x32x256x2x64 : Shape := ⟨5, ![2, 32, 256, 2, 64]⟩
abbrev S2x32x2x256x128x8 : Shape := ⟨6, ![2, 32, 2, 256, 128, 8]⟩
abbrev S2x32x2x8x128x256 : Shape := ⟨6, ![2, 32, 2, 8, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S2x32x2x8x128x1 : Shape := ⟨6, ![2, 32, 2, 8, 128, 1]⟩
abbrev S2x32x2x8x128x257 : Shape := ⟨6, ![2, 32, 2, 8, 128, 257]⟩
abbrev S2x32x2x8x128 : Shape := ⟨5, ![2, 32, 2, 8, 128]⟩
abbrev S2x32x2x64x8x128 : Shape := ⟨6, ![2, 32, 2, 64, 8, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S8192x1024, .bf16⟩
  | .hbm, ⟨2, _⟩ => ⟨S8192x128, .f32⟩
  | .hbm, ⟨3, _⟩ => ⟨S8192x128, .f32⟩
  | .hbm, ⟨4, _⟩ => ⟨S8192x1024, .f32⟩
  | .hbm, ⟨5, _⟩ => ⟨S2x32x128x2x8x64, .f32⟩
  | .hbm, ⟨6, _⟩ => ⟨S2x32x128x2x64, .f32⟩
  | .hbm, ⟨7, _⟩ => ⟨S2x32x128x2x64, .f32⟩
  | .hbm, ⟨8, _⟩ => ⟨S128, .i32⟩
  | .hbm, ⟨9, _⟩ => ⟨S128x1, .i32⟩
  | .hbm, ⟨10, _⟩ => ⟨S256, .i32⟩
  | .hbm, ⟨11, _⟩ => ⟨S1x256, .i32⟩
  | .hbm, ⟨12, _⟩ => ⟨S_, .i32⟩
  | .hbm, ⟨13, _⟩ => ⟨S128x1, .i32⟩
  | .hbm, ⟨14, _⟩ => ⟨S128x1, .i32⟩
  | .hbm, ⟨15, _⟩ => ⟨S128x256, .i32⟩
  | .hbm, ⟨16, _⟩ => ⟨S128x256, .i32⟩
  | .hbm, ⟨17, _⟩ => ⟨S128x256, .i32⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S128x256, .i1⟩
  | .hbm, ⟨25, _⟩ => ⟨S32, .i32⟩
  | .hbm, ⟨26, _⟩ => ⟨S32x1x1, .i32⟩
  | .hbm, ⟨27, _⟩ => ⟨S1x128x256, .i1⟩
  | .hbm, ⟨28, _⟩ => ⟨S_, .i32⟩
  | .hbm, ⟨29, _⟩ => ⟨S32x1x1, .i32⟩
  | .hbm, ⟨30, _⟩ => ⟨S32x1x1, .i1⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x1x256, .i1⟩
  | .hbm, ⟨35, _⟩ => ⟨S32x1x256, .i1⟩
  | .hbm, ⟨36, _⟩ => ⟨S32x1x256, .i1⟩
  | .hbm, ⟨37, _⟩ => ⟨S32x1x256, .i1⟩
  | .hbm, ⟨38, _⟩ => ⟨S32x128x256, .i1⟩
  | .hbm, ⟨39, _⟩ => ⟨S32x128x256, .i1⟩
  | .hbm, ⟨40, _⟩ => ⟨S32x128x256, .i1⟩
  | .hbm, ⟨41, _⟩ => ⟨S2x31x128x2x64, .f32⟩
  | .hbm, ⟨42, _⟩ => ⟨S_, .i32⟩
  | .hbm, ⟨43, _⟩ => ⟨S_, .f32⟩
  | .hbm, ⟨44, _⟩ => ⟨S2x32x128x2x64, .f32⟩
  | .hbm, ⟨45, _⟩ => ⟨S2x32x256x2x64, .f32⟩
  | .hbm, ⟨46, _⟩ => ⟨S2x31x128x2x64, .f32⟩
  | .hbm, ⟨47, _⟩ => ⟨S_, .i32⟩
  | .hbm, ⟨48, _⟩ => ⟨S_, .f32⟩
  | .hbm, ⟨49, _⟩ => ⟨S2x32x128x2x64, .f32⟩
  | .hbm, ⟨50, _⟩ => ⟨S2x32x256x2x64, .f32⟩
  | .hbm, ⟨51, _⟩ => ⟨S2x32x2x256x128x8, .f32⟩
  | .hbm, ⟨52, _⟩ => ⟨S2x32x2x8x128x256, .f32⟩
  | .hbm, ⟨53, _⟩ => ⟨S1x32x1x1x128x256, .i1⟩
  | .hbm, ⟨54, _⟩ => ⟨S_, .f32⟩
  | .hbm, ⟨55, _⟩ => ⟨S_, .f32⟩
  | .hbm, ⟨56, _⟩ => ⟨S2x32x2x8x128x256, .i1⟩
  | .hbm, ⟨57, _⟩ => ⟨S2x32x2x8x128x256, .f32⟩
  | .hbm, ⟨58, _⟩ => ⟨S2x32x2x8x128x256, .f32⟩
  | .hbm, ⟨59, _⟩ => ⟨S2x8, .f32⟩
  | .hbm, ⟨60, _⟩ => ⟨S1x1x2x8x1x1, .f32⟩
  | .hbm, ⟨61, _⟩ => ⟨S2x32x2x8x128x1, .f32⟩
  | .hbm, ⟨62, _⟩ => ⟨S2x32x2x8x128x257, .f32⟩
  | .hbm, ⟨63, _⟩ => ⟨S_, .f32⟩
  | .hbm, ⟨64, _⟩ => ⟨S2x32x2x8x128, .f32⟩
  | .hbm, ⟨65, _⟩ => ⟨S_, .f32⟩
  | .hbm, ⟨66, _⟩ => ⟨S2x32x2x8x128, .f32⟩
  | .hbm, ⟨67, _⟩ => ⟨S2x32x2x8x128, .f32⟩
  | .hbm, ⟨68, _⟩ => ⟨S2x32x2x8x128x1, .f32⟩
  | .hbm, ⟨69, _⟩ => ⟨S2x32x2x8x128x257, .f32⟩
  | .hbm, ⟨70, _⟩ => ⟨S2x32x2x8x128x257, .f32⟩
  | .hbm, ⟨71, _⟩ => ⟨S2x32x2x8x128x257, .f32⟩
  | .hbm, ⟨72, _⟩ => ⟨S_, .f32⟩
  | .hbm, ⟨73, _⟩ => ⟨S2x32x2x8x128, .f32⟩
  | .hbm, ⟨74, _⟩ => ⟨S2x32x2x8x128x1, .f32⟩
  | .hbm, ⟨75, _⟩ => ⟨S2x32x2x8x128x257, .f32⟩
  | .hbm, ⟨76, _⟩ => ⟨S2x32x2x8x128x257, .f32⟩
  | .hbm, ⟨77, _⟩ => ⟨S2x32x2x8x128x256, .f32⟩
  | .hbm, ⟨78, _⟩ => ⟨S2x32x2x64x8x128, .f32⟩
  | .hbm, ⟨79, _⟩ => ⟨S2x32x128x2x8x64, .f32⟩
  | .hbm, ⟨80, _⟩ => ⟨S8192x1024, .f32⟩
  | .hbm, ⟨81, _⟩ => ⟨S8192x1024, .bf16⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_call1_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Qkv.lean ====
abbrev S2x4096x2048 : Shape := ⟨3, ![2, 4096, 2048]⟩
abbrev S1x2048 : Shape := ⟨2, ![1, 2048]⟩
abbrev S1x2048x8448 : Shape := ⟨3, ![1, 2048, 8448]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x2048 : Shape := ⟨2, ![8192, 2048]⟩
abbrev S8192x1024 : Shape := ⟨2, ![8192, 1024]⟩
abbrev S8192x128 : Shape := ⟨2, ![8192, 128]⟩
abbrev S512x2048 : Shape := ⟨2, ![512, 2048]⟩
abbrev S1x2048x1280 : Shape := ⟨3, ![1, 2048, 1280]⟩
abbrev S512x128 : Shape := ⟨2, ![512, 128]⟩
abbrev S512x1024 : Shape := ⟨2, ![512, 1024]⟩
abbrev S2048x1280 : Shape := ⟨2, ![2048, 1280]⟩
abbrev S512 : Shape := ⟨1, ![512]⟩
abbrev S512x1 : Shape := ⟨2, ![512, 1]⟩
abbrev S512x1280 : Shape := ⟨2, ![512, 1280]⟩

abbrev nBuf : Space → Nat
  | .hbm => 34
  | .vmem => 17
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x8448, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S8192x2048, .f32⟩
  | .hbm, ⟨30, _⟩ => ⟨S8192x2048, .bf16⟩
  | .hbm, ⟨31, _⟩ => ⟨S8192x1024, .bf16⟩
  | .hbm, ⟨32, _⟩ => ⟨S8192x128, .f32⟩
  | .hbm, ⟨33, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1280, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S2048x1280, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefQkvIdeal.lean ====
abbrev S2x4096x2048 : Shape := ⟨3, ![2, 4096, 2048]⟩
abbrev S1x2048 : Shape := ⟨2, ![1, 2048]⟩
abbrev S1x2048x8448 : Shape := ⟨3, ![1, 2048, 8448]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x8448 : Shape := ⟨2, ![2048, 8448]⟩
abbrev S2048x1280 : Shape := ⟨2, ![2048, 1280]⟩
abbrev S2x4096x1280 : Shape := ⟨3, ![2, 4096, 1280]⟩
abbrev S2x4096x1024 : Shape := ⟨3, ![2, 4096, 1024]⟩
abbrev S2x4096x128 : Shape := ⟨3, ![2, 4096, 128]⟩
abbrev S4096 : Shape := ⟨1, ![4096]⟩
abbrev S2x4096x16x64 : Shape := ⟨4, ![2, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S2x4096x2x64 : Shape := ⟨4, ![2, 4096, 2, 64]⟩
abbrev S2x4096x2x32 : Shape := ⟨4, ![2, 4096, 2, 32]⟩
abbrev S8192x2048 : Shape := ⟨2, ![8192, 2048]⟩
abbrev S8192x1024 : Shape := ⟨2, ![8192, 1024]⟩
abbrev S8192x128 : Shape := ⟨2, ![8192, 128]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x8448, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x8448, .f32⟩
  | .hbm, ⟨21, _⟩ => ⟨S2048x1280, .f32⟩
  | .hbm, ⟨22, _⟩ => ⟨S2x4096x1280, .f32⟩
  | .hbm, ⟨23, _⟩ => ⟨S2x4096x1024, .f32⟩
  | .hbm, ⟨24, _⟩ => ⟨S2x4096x128, .f32⟩
  | .hbm, ⟨25, _⟩ => ⟨S2x4096x128, .f32⟩
  | .hbm, ⟨26, _⟩ => ⟨S4096, .i32⟩
  | .hbm, ⟨27, _⟩ => ⟨S2x4096x16x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S1x4096x1x32, .f32⟩
  | .hbm, ⟨44, _⟩ => ⟨S4096x32, .f32⟩
  | .hbm, ⟨45, _⟩ => ⟨S1x4096x1x32, .f32⟩
  | .hbm, ⟨46, _⟩ => ⟨S2x4096x16x32, .f32⟩
  | .hbm, ⟨47, _⟩ => ⟨S2x4096x16x32, .f32⟩
  | .hbm, ⟨48, _⟩ => ⟨S2x4096x16x32, .f32⟩
  | .hbm, ⟨49, _⟩ => ⟨S2x4096x16x32, .f32⟩
  | .hbm, ⟨50, _⟩ => ⟨S2x4096x16x32, .f32⟩
  | .hbm, ⟨51, _⟩ => ⟨S2x4096x16x32, .f32⟩
  | .hbm, ⟨52, _⟩ => ⟨S2x4096x16x32, .f32⟩
  | .hbm, ⟨53, _⟩ => ⟨S2x4096x16x32, .f32⟩
  | .hbm, ⟨54, _⟩ => ⟨S2x4096x16x32, .f32⟩
  | .hbm, ⟨55, _⟩ => ⟨S2x4096x16x32, .f32⟩
  | .hbm, ⟨56, _⟩ => ⟨S2x4096x16x32, .f32⟩
  | .hbm, ⟨57, _⟩ => ⟨S2x4096x16x32, .f32⟩
  | .hbm, ⟨58, _⟩ => ⟨S2x4096x16x64, .f32⟩
  | .hbm, ⟨59, _⟩ => ⟨S_, .f32⟩
  | .hbm, ⟨60, _⟩ => ⟨S2x4096x16x64, .f32⟩
  | .hbm, ⟨61, _⟩ => ⟨S2x4096x16x64, .f32⟩
  | .hbm, ⟨62, _⟩ => ⟨S2x4096x2x64, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S4096, .f32⟩
  | .hbm, ⟨72, _⟩ => ⟨S4096x1, .f32⟩
  | .hbm, ⟨73, _⟩ => ⟨S1x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S1x4096x1x32, .f32⟩
  | .hbm, ⟨79, _⟩ => ⟨S4096x32, .f32⟩
  | .hbm, ⟨80, _⟩ => ⟨S1x4096x1x32, .f32⟩
  | .hbm, ⟨81, _⟩ => ⟨S2x4096x2x32, .f32⟩
  | .hbm, ⟨82, _⟩ => ⟨S2x4096x2x32, .f32⟩
  | .hbm, ⟨83, _⟩ => ⟨S2x4096x2x32, .f32⟩
  | .hbm, ⟨84, _⟩ => ⟨S2x4096x2x32, .f32⟩
  | .hbm, ⟨85, _⟩ => ⟨S2x4096x2x32, .f32⟩
  | .hbm, ⟨86, _⟩ => ⟨S2x4096x2x32, .f32⟩
  | .hbm, ⟨87, _⟩ => ⟨S2x4096x2x32, .f32⟩
  | .hbm, ⟨88, _⟩ => ⟨S2x4096x2x32, .f32⟩
  | .hbm, ⟨89, _⟩ => ⟨S2x4096x2x32, .f32⟩
  | .hbm, ⟨90, _⟩ => ⟨S2x4096x2x32, .f32⟩
  | .hbm, ⟨91, _⟩ => ⟨S2x4096x2x32, .f32⟩
  | .hbm, ⟨92, _⟩ => ⟨S2x4096x2x32, .f32⟩
  | .hbm, ⟨93, _⟩ => ⟨S2x4096x2x64, .f32⟩
  | .hbm, ⟨94, _⟩ => ⟨S8192x2048, .f32⟩
  | .hbm, ⟨95, _⟩ => ⟨S8192x2048, .bf16⟩
  | .hbm, ⟨96, _⟩ => ⟨S8192x1024, .f32⟩
  | .hbm, ⟨97, _⟩ => ⟨S8192x1024, .bf16⟩
  | .hbm, ⟨98, _⟩ => ⟨S8192x128, .f32⟩
  | .hbm, ⟨99, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩

abbrev nD : Nat := 1
abbrev τ : Topo := Topo.v7x

variable {F : FTy → Type} [FloatOps F]
-- ==== Conv.lean ====
abbrev S8192x2048 : Shape := ⟨2, ![8192, 2048]⟩
abbrev S1x2048x8448 : Shape := ⟨3, ![1, 2048, 8448]⟩
abbrev S1x3x1024 : Shape := ⟨3, ![1, 3, 1024]⟩
abbrev S8192x1024 : Shape := ⟨2, ![8192, 1024]⟩
abbrev S2x2x1024 : Shape := ⟨3, ![2, 2, 1024]⟩
abbrev S1024x2048 : Shape := ⟨2, ![1024, 2048]⟩
abbrev S1x2048x256 : Shape := ⟨3, ![1, 2048, 256]⟩
abbrev S1x3x256 : Shape := ⟨3, ![1, 3, 256]⟩
abbrev S1024x256 : Shape := ⟨2, ![1024, 256]⟩
abbrev S1x2x256 : Shape := ⟨3, ![1, 2, 256]⟩
abbrev S2048x768 : Shape := ⟨2, ![2048, 768]⟩
abbrev S2x256 : Shape := ⟨2, ![2, 256]⟩
abbrev S2048x256 : Shape := ⟨2, ![2048, 256]⟩
abbrev S1024x768 : Shape := ⟨2, ![1024, 768]⟩
abbrev S1x256 : Shape := ⟨2, ![1, 256]⟩
abbrev S1x1x256 : Shape := ⟨3, ![1, 1, 256]⟩

abbrev nBuf : Space → Nat
  | .hbm => 5
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S1x2048x8448, .f32⟩
  | .hbm, ⟨2, _⟩ => ⟨S1x3x1024, .f32⟩
  | .hbm, ⟨3, _⟩ => ⟨S8192x1024, .bf16⟩
  | .hbm, ⟨4, _⟩ => ⟨S2x2x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x3x256, .f32⟩
  | .local _ .vmem, ⟨9, _⟩ => ⟨S1x3x256, .f32⟩
  | .local _ .vmem, ⟨10, _⟩ => ⟨S1024x256, .bf16⟩
  | .local _ .vmem, ⟨11, _⟩ => ⟨S1024x256, .bf16⟩
  | .local _ .vmem, ⟨12, _⟩ => ⟨S1x2x256, .f32⟩
  | .local _ .vmem, ⟨13, _⟩ => ⟨S1x2x256, .f32⟩
  | .local _ .vmem, ⟨14, _⟩ => ⟨S2048x768, .bf16⟩
  | .local _ .vmem, ⟨15, _⟩ => ⟨S2x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c1280_i32 : BitVec 32 := 1280#32
  let arg0 : BitVec 32 := BitVec.ofNat 32 (i 0).val
  let c256_i32 : BitVec 32 := 256#32
  let v0 : BitVec 32 := Scalar.muli arg0 c256_i32
  let v1 : BitVec 32 := Scalar.addi c1280_i32 v0
  v1
def k0_mult2 (i : grid0.Coords) : BitVec 32 :=
  let c2304_i32 : BitVec 32 := 2304#32
  let arg0 : BitVec 32 := BitVec.ofNat 32 (i 0).val
  let c256_i32 : BitVec 32 := 256#32
  let v0 : BitVec 32 := Scalar.muli arg0 c256_i32
  let v1 : BitVec 32 := Scalar.addi c2304_i32 v0
  v1
def k0_mult3 (i : grid0.Coords) : BitVec 32 :=
  let c3328_i32 : BitVec 32 := 3328#32
  let arg0 : BitVec 32 := BitVec.ofNat 32 (i 0).val
  let c256_i32 : BitVec 32 := 256#32
  let v0 : BitVec 32 := Scalar.muli arg0 c256_i32
  let v1 : BitVec 32 := Scalar.addi c3328_i32 v0
  v1
def k0_cond3 (i : grid0.Coords) : BitVec 1 :=
  let arg1 : BitVec 32 := BitVec.ofNat 32 (i 1).val
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi arg1 v48
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let c0_i32_21 : BitVec 32 := 0#32
  let v50 : BitVec 1 := Scalar.cmpi .ne v49 c0_i32_21
  let v54 : BitVec 1 := Scalar.andi v53 v50
  let v55 : BitVec 32 := Scalar.addi v49 v48
  let v56 : BitVec 32 := Scalar.select v54 v55 v49
  let c3_i32 : BitVec 32 := 3#32
  let v57 : BitVec 1 := Scalar.cmpi .eq v56 c3_i32
  let v58 : BitVec 32 := Scalar.extui v57
  let c0_i32_24 : BitVec 32 := 0#32
  let v59 : BitVec 1 := Scalar.cmpi .ne v58 c0_i32_24
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c1280_i32 : BitVec 32 := 1280#32
  let v1 : BitVec 32 := Scalar.addi c1280_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c2304_i32 : BitVec 32 := 2304#32
  let v1 : BitVec 32 := Scalar.addi c2304_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c3328_i32 : BitVec 32 := 3328#32
  let v1 : BitVec 32 := Scalar.addi c3328_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefConvIdeal.lean ====
abbrev S8192x2048 : Shape := ⟨2, ![8192, 2048]⟩
abbrev S1x2048x8448 : Shape := ⟨3, ![1, 2048, 8448]⟩
abbrev S1x3x1024 : Shape := ⟨3, ![1, 3, 1024]⟩
abbrev S2x4096x2048 : Shape := ⟨3, ![2, 4096, 2048]⟩
abbrev S2048x8448 : Shape := ⟨2, ![2048, 8448]⟩
abbrev S2x4096x8448 : Shape := ⟨3, ![2, 4096, 8448]⟩
abbrev S2x4096x1024 : Shape := ⟨3, ![2, 4096, 1024]⟩
abbrev S3x1024 : Shape := ⟨2, ![3, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8448, .f32⟩
  | .hbm, ⟨2, _⟩ => ⟨S1x3x1024, .f32⟩
  | .hbm, ⟨3, _⟩ => ⟨S8192x2048, .f32⟩
  | .hbm, ⟨4, _⟩ => ⟨S2x4096x2048, .f32⟩
  | .hbm, ⟨5, _⟩ => ⟨S2048x8448, .f32⟩
  | .hbm, ⟨6, _⟩ => ⟨S2x4096x8448, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S3x1024, .f32⟩
  | .hbm, ⟨12, _⟩ => ⟨S_, .f32⟩
  | .hbm, ⟨13, _⟩ => ⟨S2x2x1024, .f32⟩
  | .hbm, ⟨14, _⟩ => ⟨S2x4098x1024, .f32⟩
  | .hbm, ⟨15, _⟩ => ⟨S1x1024, .f32⟩
  | .hbm, ⟨16, _⟩ => ⟨S1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S1x1024, .f32⟩
  | .hbm, ⟨22, _⟩ => ⟨S1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S1x1024, .f32⟩
  | .hbm, ⟨29, _⟩ => ⟨S1024, .f32⟩
  | .hbm, ⟨30, _⟩ => ⟨S2x4096x1024, .f32⟩
  | .hbm, ⟨31, _⟩ => ⟨S1x1x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x2x1024, .f32⟩
  | .hbm, ⟨36, _⟩ => ⟨S2x4096x1024, .f32⟩
  | .hbm, ⟨37, _⟩ => ⟨S8192x1024, .f32⟩
  | .hbm, ⟨38, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S1x2048x8448 : Shape := ⟨3, ![1, 2048, 8448]⟩
abbrev S1x1024x2048 : Shape := ⟨3, ![1, 1024, 2048]⟩
abbrev S1x2x2048 : Shape := ⟨3, ![1, 2, 2048]⟩
abbrev S512x2048 : Shape := ⟨2, ![512, 2048]⟩
abbrev S512x1024 : Shape := ⟨2, ![512, 1024]⟩
abbrev S1x2048x512 : Shape := ⟨3, ![1, 2048, 512]⟩
abbrev S1x1024x512 : Shape := ⟨3, ![1, 1024, 512]⟩
abbrev S1x2x512 : Shape := ⟨3, ![1, 2, 512]⟩
abbrev S512x512 : Shape := ⟨2, ![512, 512]⟩
abbrev S2048x1024 : Shape := ⟨2, ![2048, 1024]⟩
abbrev S1024x512 : Shape := ⟨2, ![1024, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 8
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S1x2048x8448, .f32⟩
  | .hbm, ⟨4, _⟩ => ⟨S1x1024x2048, .f32⟩
  | .hbm, ⟨5, _⟩ => ⟨S1x1024x2048, .f32⟩
  | .hbm, ⟨6, _⟩ => ⟨S1x2x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x2x512, .f32⟩
  | .local _ .vmem, ⟨15, _⟩ => ⟨S1x2x512, .f32⟩
  | .local _ .vmem, ⟨16, _⟩ => ⟨S512x512, .bf16⟩
  | .local _ .vmem, ⟨17, _⟩ => ⟨S512x512, .bf16⟩
  | .local _ .vmem, ⟨18, _⟩ => ⟨S2048x1024, .bf16⟩
  | .local _ .vmem, ⟨19, _⟩ => ⟨S1024x512, .bf16⟩
  | .local _ .vmem, ⟨20, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c4352_i32 : BitVec 32 := 4352#32
  let arg0 : BitVec 32 := BitVec.ofNat 32 (i 0).val
  let c512_i32 : BitVec 32 := 512#32
  let v0 : BitVec 32 := Scalar.muli arg0 c512_i32
  let v1 : BitVec 32 := Scalar.addi c4352_i32 v0
  v1
def k0_mult2 (i : grid0.Coords) : BitVec 32 :=
  let c6400_i32 : BitVec 32 := 6400#32
  let arg0 : BitVec 32 := BitVec.ofNat 32 (i 0).val
  let c512_i32 : BitVec 32 := 512#32
  let v0 : BitVec 32 := Scalar.muli arg0 c512_i32
  let v1 : BitVec 32 := Scalar.addi c6400_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4352_i32 : BitVec 32 := 4352#32
  let v1 : BitVec 32 := Scalar.addi c4352_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6400_i32 : BitVec 32 := 6400#32
  let v1 : BitVec 32 := Scalar.addi c6400_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefMergeIdeal.lean ====
abbrev S8192x2048 : Shape := ⟨2, ![8192, 2048]⟩
abbrev S8192x1024 : Shape := ⟨2, ![8192, 1024]⟩
abbrev S1x2048x8448 : Shape := ⟨3, ![1, 2048, 8448]⟩
abbrev S1x1024x2048 : Shape := ⟨3, ![1, 1024, 2048]⟩
abbrev S1x2x2048 : Shape := ⟨3, ![1, 2, 2048]⟩
abbrev S2048x8448 : Shape := ⟨2, ![2048, 8448]⟩
abbrev S8192x8448 : Shape := ⟨2, ![8192, 8448]⟩
abbrev S1024x2048 : Shape := ⟨2, ![1024, 2048]⟩
abbrev S1x1x2048 : Shape := ⟨3, ![1, 1, 2048]⟩
abbrev S2048 : Shape := ⟨1, ![2048]⟩
abbrev S1x2048 : Shape := ⟨2, ![1, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S1x2048x8448, .f32⟩
  | .hbm, ⟨4, _⟩ => ⟨S1x1024x2048, .f32⟩
  | .hbm, ⟨5, _⟩ => ⟨S1x1024x2048, .f32⟩
  | .hbm, ⟨6, _⟩ => ⟨S1x2x2048, .f32⟩
  | .hbm, ⟨7, _⟩ => ⟨S8192x2048, .f32⟩
  | .hbm, ⟨8, _⟩ => ⟨S2048x8448, .f32⟩
  | .hbm, ⟨9, _⟩ => ⟨S8192x8448, .f32⟩
  | .hbm, ⟨10, _⟩ => ⟨S8192x2048, .f32⟩
  | .hbm, ⟨11, _⟩ => ⟨S8192x2048, .f32⟩
  | .hbm, ⟨12, _⟩ => ⟨S8192x1024, .f32⟩
  | .hbm, ⟨13, _⟩ => ⟨S1024x2048, .f32⟩
  | .hbm, ⟨14, _⟩ => ⟨S8192x2048, .f32⟩
  | .hbm, ⟨15, _⟩ => ⟨S8192x1024, .f32⟩
  | .hbm, ⟨16, _⟩ => ⟨S1024x2048, .f32⟩
  | .hbm, ⟨17, _⟩ => ⟨S8192x2048, .f32⟩
  | .hbm, ⟨18, _⟩ => ⟨S1x1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x1x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Oproj.lean ====
abbrev S8192x2048 : Shape := ⟨2, ![8192, 2048]⟩
abbrev S1x2048x2048 : Shape := ⟨3, ![1, 2048, 2048]⟩
abbrev S1x2048 : Shape := ⟨2, ![1, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOprojIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Up.lean ====
abbrev S8192x2048 : Shape := ⟨2, ![8192, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S8192x5632 : Shape := ⟨2, ![8192, 5632]⟩
abbrev S2x2x5632 : Shape := ⟨3, ![2, 2, 5632]⟩
abbrev S1024x2048 : Shape := ⟨2, ![1024, 2048]⟩
abbrev S1x2048x512 : Shape := ⟨3, ![1, 2048, 512]⟩
abbrev S1x3x512 : Shape := ⟨3, ![1, 3, 512]⟩
abbrev S1x512 : Shape := ⟨2, ![1, 512]⟩
abbrev S1024x512 : Shape := ⟨2, ![1024, 512]⟩
abbrev S1x2x512 : Shape := ⟨3, ![1, 2, 512]⟩
abbrev S2048x1024 : Shape := ⟨2, ![2048, 1024]⟩
abbrev S2x512 : Shape := ⟨2, ![2, 512]⟩
abbrev S2048x512 : Shape := ⟨2, ![2048, 512]⟩
abbrev S1024x1024 : Shape := ⟨2, ![1024, 1024]⟩
abbrev S1x1x512 : Shape := ⟨3, ![1, 1, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S8192x5632, .bf16⟩
  | .hbm, ⟨5, _⟩ => ⟨S2x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1x2x512, .f32⟩
  | .local _ .vmem, ⟨13, _⟩ => ⟨S1x2x512, .f32⟩
  | .local _ .vmem, ⟨14, _⟩ => ⟨S2048x1024, .bf16⟩
  | .local _ .vmem, ⟨15, _⟩ => ⟨S2x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def k0_cond3 (i : grid0.Coords) : BitVec 1 :=
  let arg1 : BitVec 32 := BitVec.ofNat 32 (i 1).val
  let c4_i32_18 : BitVec 32 := 4#32
  let c0_i32_19 : BitVec 32 := 0#32
  let v45 : BitVec 1 := Scalar.cmpi .eq c4_i32_18 c0_i32_19
  let c1_i32_20 : BitVec 32 := 1#32
  let v46 : BitVec 32 := Scalar.select v45 c1_i32_20 c4_i32_18
  let v47 : BitVec 32 := Scalar.remsi arg1 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c3_i32 : BitVec 32 := 3#32
  let v55 : BitVec 1 := Scalar.cmpi .eq v54 c3_i32
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefUpIdeal.lean ====
abbrev S8192x2048 : Shape := ⟨2, ![8192, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S2x4096x2048 : Shape := ⟨3, ![2, 4096, 2048]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S3x5632 : Shape := ⟨2, ![3, 5632]⟩
abbrev S_ : Shape := ⟨0, ![]⟩
abbrev S2x2x5632 : Shape := ⟨3, ![2, 2, 5632]⟩
abbrev S2x4098x5632 : Shape := ⟨3, ![2, 4098, 5632]⟩
abbrev S5632 : Shape := ⟨1, ![5632]⟩
abbrev S1x1x5632 : Shape := ⟨3, ![1, 1, 5632]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S8192x2048, .f32⟩
  | .hbm, ⟨5, _⟩ => ⟨S2x4096x2048, .f32⟩
  | .hbm, ⟨6, _⟩ => ⟨S2048x11264, .f32⟩
  | .hbm, ⟨7, _⟩ => ⟨S2x4096x11264, .f32⟩
  | .hbm, ⟨8, _⟩ => ⟨S2x4096x5632, .f32⟩
  | .hbm, ⟨9, _⟩ => ⟨S2x4096x5632, .f32⟩
  | .hbm, ⟨10, _⟩ => ⟨S3x5632, .f32⟩
  | .hbm, ⟨11, _⟩ => ⟨S_, .f32⟩
  | .hbm, ⟨12, _⟩ => ⟨S2x2x5632, .f32⟩
  | .hbm, ⟨13, _⟩ => ⟨S2x4098x5632, .f32⟩
  | .hbm, ⟨14, _⟩ => ⟨S1x5632, .f32⟩
  | .hbm, ⟨15, _⟩ => ⟨S5632, .f32⟩
  | .hbm, ⟨16, _⟩ => ⟨S2x4096x5632, .f32⟩
  | .hbm, ⟨17, _⟩ => ⟨S1x1x5632, .f32⟩
  | .hbm, ⟨18, _⟩ => ⟨S2x4096x5632, .f32⟩
  | .hbm, ⟨19, _⟩ => ⟨S2x4096x5632, .f32⟩
  | .hbm, ⟨20, _⟩ => ⟨S1x5632, .f32⟩
  | .hbm, ⟨21, _⟩ => ⟨S5632, .f32⟩
  | .hbm, ⟨22, _⟩ => ⟨S2x4096x5632, .f32⟩
  | .hbm, ⟨23, _⟩ => ⟨S1x1x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S1x5632, .f32⟩
  | .hbm, ⟨28, _⟩ => ⟨S5632, .f32⟩
  | .hbm, ⟨29, _⟩ => ⟨S2x4096x5632, .f32⟩
  | .hbm, ⟨30, _⟩ => ⟨S1x1x5632, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x2x5632, .f32⟩
  | .hbm, ⟨35, _⟩ => ⟨S5632, .f32⟩
  | .hbm, ⟨36, _⟩ => ⟨S1x1x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S_, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S_, .f32⟩
  | .hbm, ⟨46, _⟩ => ⟨S2x4096x5632, .f32⟩
  | .hbm, ⟨47, _⟩ => ⟨S2x4096x5632, .f32⟩
  | .hbm, ⟨48, _⟩ => ⟨S2x4096x5632, .f32⟩
  | .hbm, ⟨49, _⟩ => ⟨S_, .f32⟩
  | .hbm, ⟨50, _⟩ => ⟨S2x4096x5632, .f32⟩
  | .hbm, ⟨51, _⟩ => ⟨S2x4096x5632, .f32⟩
  | .hbm, ⟨52, _⟩ => ⟨S_, .f32⟩
  | .hbm, ⟨53, _⟩ => ⟨S2x4096x5632, .f32⟩
  | .hbm, ⟨54, _⟩ => ⟨S2x4096x5632, .f32⟩
  | .hbm, ⟨55, _⟩ => ⟨S2x4096x5632, .f32⟩
  | .hbm, ⟨56, _⟩ => ⟨S2x4096x5632, .f32⟩
  | .hbm, ⟨57, _⟩ => ⟨S8192x5632, .f32⟩
  | .hbm, ⟨58, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_0 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Down.lean ====
abbrev S8192x5632 : Shape := ⟨2, ![8192, 5632]⟩
abbrev S1x5632x2048 : Shape := ⟨3, ![1, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .bf16⟩
  | .local _ .vmem, ⟨5, _⟩ => ⟨S512x512, .bf16⟩
  | .local _ .vmem, ⟨6, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownIdeal.lean ====
abbrev S8192x5632 : Shape := ⟨2, ![8192, 5632]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x5632, .f32⟩
  | .hbm, ⟨3, _⟩ => ⟨S5632x2048, .f32⟩
  | .hbm, ⟨4, _⟩ => ⟨S8192x2048, .f32⟩
  | .hbm, ⟨5, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Final.lean ====
abbrev S8192x2048 : Shape := ⟨2, ![8192, 2048]⟩
abbrev S8192x256 : Shape := ⟨2, ![8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S256x2048 : Shape := ⟨2, ![256, 2048]⟩
abbrev S256x256 : Shape := ⟨2, ![256, 256]⟩
abbrev S2048x2048 : Shape := ⟨2, ![2048, 2048]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S1x2048, .f32⟩
  | .local _ .vmem, ⟨7, _⟩ => ⟨S1x2048x2048, .f32⟩
  | .local _ .vmem, ⟨8, _⟩ => ⟨S1x256x2048, .f32⟩
  | .local _ .vmem, ⟨9, _⟩ => ⟨S256x2048, .f32⟩
  | .local _ .vmem, ⟨10, _⟩ => ⟨S256x2048, .f32⟩
  | .local _ .vmem, ⟨11, _⟩ => ⟨S2048x2048, .bf16⟩
  | .local _ .vmem, ⟨12, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefFinalIdeal.lean ====
abbrev S8192x2048 : Shape := ⟨2, ![8192, 2048]⟩
abbrev S8192x256 : Shape := ⟨2, ![8192, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S256x2048 : Shape := ⟨2, ![256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S1x2048, .f32⟩
  | .hbm, ⟨4, _⟩ => ⟨S1x2048x2048, .f32⟩
  | .hbm, ⟨5, _⟩ => ⟨S1x256x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S256x2048, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Sattn.lean ====
abbrev S1x16 : Shape := ⟨2, ![1, 16]⟩
abbrev S32x1024 : Shape := ⟨2, ![32, 1024]⟩
abbrev S32x128 : Shape := ⟨2, ![32, 128]⟩
abbrev S32x128x2x64 : Shape := ⟨4, ![32, 128, 2, 64]⟩
abbrev S16x1 : Shape := ⟨2, ![16, 1]⟩
abbrev S32x16x64 : Shape := ⟨3, ![32, 16, 64]⟩
abbrev S32x1x128 : Shape := ⟨3, ![32, 1, 128]⟩
abbrev S32x128x128 : Shape := ⟨3, ![32, 128, 128]⟩
abbrev S32x127x128 : Shape := ⟨3, ![32, 127, 128]⟩
abbrev S32x128x64 : Shape := ⟨3, ![32, 128, 64]⟩
abbrev S32x8x64 : Shape := ⟨3, ![32, 8, 64]⟩
abbrev S32x8x128 : Shape := ⟨3, ![32, 8, 128]⟩
abbrev S8x1 : Shape := ⟨2, ![8, 1]⟩
abbrev S1x8x1 : Shape := ⟨3, ![1, 8, 1]⟩
abbrev S32x8 : Shape := ⟨2, ![32, 8]⟩
abbrev S32x8x1 : Shape := ⟨3, ![32, 8, 1]⟩

abbrev nBuf : Space → Nat
  | .hbm => 15
  | .vmem => 9
  | .smem => 0
  | _ => 0

abbrev bufTy : (tb : Table) → Fin (tcTables nBuf tb) → BufTy
  | .hbm, ⟨0, _⟩ => ⟨S1x16, .f32⟩
  | .hbm, ⟨1, _⟩ => ⟨S32x1024, .bf16⟩
  | .hbm, ⟨2, _⟩ => ⟨S32x128, .f32⟩
  | .hbm, ⟨3, _⟩ => ⟨S32x128, .f32⟩
  | .hbm, ⟨4, _⟩ => ⟨S32x128x2x64, .f32⟩
  | .hbm, ⟨5, _⟩ => ⟨S32x128x2x64, .f32⟩
  | .hbm, ⟨6, _⟩ => ⟨S16x1, .f32⟩
  | .hbm, ⟨7, _⟩ => ⟨S32x16x64, .bf16⟩
  | .hbm, ⟨8, _⟩ => ⟨S32x1x128, .f32⟩
  | .hbm, ⟨9, _⟩ => ⟨S32x1x128, .f32⟩
  | .hbm, ⟨10, _⟩ => ⟨S32x128x128, .f32⟩
  | .hbm, ⟨11, _⟩ => ⟨S32x128x128, .f32⟩
  | .hbm, ⟨12, _⟩ => ⟨S32x16x64, .bf16⟩
  | .hbm, ⟨13, _⟩ => ⟨S32x128x128, .f32⟩
  | .hbm, ⟨14, _⟩ => ⟨S32x128x128, .f32⟩
  | .local _ .vmem, ⟨0, _⟩ => ⟨S16x1, .f32⟩
  | .local _ .vmem, ⟨1, _⟩ => ⟨S32x16x64, .bf16⟩
  | .local _ .vmem, ⟨2, _⟩ => ⟨S32x1x128, .f32⟩
  | .local _ .vmem, ⟨3, _⟩ => ⟨S32x1x128, .f32⟩
  | .local _ .vmem, ⟨4, _⟩ => ⟨S32x128x128, .f32⟩
  | .local _ .vmem, ⟨5, _⟩ => ⟨S32x128x128, .f32⟩
  | .local _ .vmem, ⟨6, _⟩ => ⟨S32x16x64, .bf16⟩
  | .local _ .vmem, ⟨7, _⟩ => ⟨S32x128x128, .f32⟩
  | .local _ .vmem, ⟨8, _⟩ => ⟨S32x128x128, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== RefSattnIdeal.lean ====
abbrev S1x16 : Shape := ⟨2, ![1, 16]⟩
abbrev S32x1024 : Shape := ⟨2, ![32, 1024]⟩
abbrev S32x128 : Shape := ⟨2, ![32, 128]⟩
abbrev S32x128x2x64 : Shape := ⟨4, ![32, 128, 2, 64]⟩
abbrev S32x1x2x64 : Shape := ⟨4, ![32, 1, 2, 64]⟩
abbrev S32x129x2x64 : Shape := ⟨4, ![32, 129, 2, 64]⟩
abbrev S1 : Shape := ⟨1, ![1]⟩
abbrev S_ : Shape := ⟨0, ![]⟩
abbrev S129 : Shape := ⟨1, ![129]⟩
abbrev S1x1 : Shape := ⟨2, ![1, 1]⟩
abbrev S1x129 : Shape := ⟨2, ![1, 129]⟩
abbrev S1x1x129 : Shape := ⟨3, ![1, 1, 129]⟩
abbrev S32x1x1x2x8x64 : Shape := ⟨6, ![32, 1, 1, 2, 8, 64]⟩
abbrev S32x1x129x2x64 : Shape := ⟨5, ![32, 1, 129, 2, 64]⟩
abbrev S32x1x2x129x1x8 : Shape := ⟨6, ![32, 1, 2, 129, 1, 8]⟩
abbrev S32x1x2x8x1x129 : Shape := ⟨6, ![32, 1, 2, 8, 1, 129]⟩
abbrev S1x1x1x1x1x129 : Shape := ⟨6, ![1, 1, 1, 1, 1, 129]⟩
abbrev S2x8 : Shape := ⟨2, ![2, 8]⟩
abbrev S1x1x2x8x1x1 : Shape := ⟨6, ![1, 1, 2, 8, 1, 1]⟩
abbrev S32x1x2x8x1x1 : Shape := ⟨6, ![32, 1, 2, 8, 1, 1]⟩
abbrev S32x1x2x8x1x130 : Shape := ⟨6, ![32, 1, 2, 8, 1, 130]⟩
abbrev S32x1x2x8x1 : Shape := ⟨5, ![32, 1, 2, 8, 1]⟩
abbrev S32x1x2x64x8x1 : Shape := ⟨6, ![32, 1, 2, 64, 8, 1]⟩
abbrev S32x16x64 : Shape := ⟨3, ![32, 16, 64]⟩
abbrev S32x128x128 : Shape := ⟨3, ![32, 128, 128]⟩

abbrev nBuf : Space → Nat
  | .hbm => 69
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S32x1024, .bf16⟩
  | .hbm, ⟨2, _⟩ => ⟨S32x128, .f32⟩
  | .hbm, ⟨3, _⟩ => ⟨S32x128, .f32⟩
  | .hbm, ⟨4, _⟩ => ⟨S32x128x2x64, .f32⟩
  | .hbm, ⟨5, _⟩ => ⟨S32x128x2x64, .f32⟩
  | .hbm, ⟨6, _⟩ => ⟨S32x1x2x64, .f32⟩
  | .hbm, ⟨7, _⟩ => ⟨S32x1x2x64, .f32⟩
  | .hbm, ⟨8, _⟩ => ⟨S32x129x2x64, .f32⟩
  | .hbm, ⟨9, _⟩ => ⟨S32x129x2x64, .f32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S129, .i32⟩
  | .hbm, ⟨15, _⟩ => ⟨S_, .i32⟩
  | .hbm, ⟨16, _⟩ => ⟨S129, .i32⟩
  | .hbm, ⟨17, _⟩ => ⟨S129, .i32⟩
  | .hbm, ⟨18, _⟩ => ⟨S1x1, .i32⟩
  | .hbm, ⟨19, _⟩ => ⟨S1x129, .i32⟩
  | .hbm, ⟨20, _⟩ => ⟨S1x129, .i32⟩
  | .hbm, ⟨21, _⟩ => ⟨S1x129, .i32⟩
  | .hbm, ⟨22, _⟩ => ⟨S_, .i32⟩
  | .hbm, ⟨23, _⟩ => ⟨S1x129, .i32⟩
  | .hbm, ⟨24, _⟩ => ⟨S1x129, .i1⟩
  | .hbm, ⟨25, _⟩ => ⟨S_, .i32⟩
  | .hbm, ⟨26, _⟩ => ⟨S1x129, .i32⟩
  | .hbm, ⟨27, _⟩ => ⟨S1x129, .i1⟩
  | .hbm, ⟨28, _⟩ => ⟨S1x129, .i1⟩
  | .hbm, ⟨29, _⟩ => ⟨S1x1x129, .i1⟩
  | .hbm, ⟨30, _⟩ => ⟨S32x1024, .f32⟩
  | .hbm, ⟨31, _⟩ => ⟨S32x1x1x2x8x64, .f32⟩
  | .hbm, ⟨32, _⟩ => ⟨S32x1x129x2x64, .f32⟩
  | .hbm, ⟨33, _⟩ => ⟨S32x1x2x129x1x8, .f32⟩
  | .hbm, ⟨34, _⟩ => ⟨S32x1x2x8x1x129, .f32⟩
  | .hbm, ⟨35, _⟩ => ⟨S1x1x1x1x1x129, .i1⟩
  | .hbm, ⟨36, _⟩ => ⟨S_, .f32⟩
  | .hbm, ⟨37, _⟩ => ⟨S_, .f32⟩
  | .hbm, ⟨38, _⟩ => ⟨S32x1x2x8x1x129, .i1⟩
  | .hbm, ⟨39, _⟩ => ⟨S32x1x2x8x1x129, .f32⟩
  | .hbm, ⟨40, _⟩ => ⟨S32x1x2x8x1x129, .f32⟩
  | .hbm, ⟨41, _⟩ => ⟨S2x8, .f32⟩
  | .hbm, ⟨42, _⟩ => ⟨S1x1x2x8x1x1, .f32⟩
  | .hbm, ⟨43, _⟩ => ⟨S32x1x2x8x1x1, .f32⟩
  | .hbm, ⟨44, _⟩ => ⟨S32x1x2x8x1x130, .f32⟩
  | .hbm, ⟨45, _⟩ => ⟨S_, .f32⟩
  | .hbm, ⟨46, _⟩ => ⟨S32x1x2x8x1, .f32⟩
  | .hbm, ⟨47, _⟩ => ⟨S_, .f32⟩
  | .hbm, ⟨48, _⟩ => ⟨S32x1x2x8x1, .f32⟩
  | .hbm, ⟨49, _⟩ => ⟨S32x1x2x8x1, .f32⟩
  | .hbm, ⟨50, _⟩ => ⟨S32x1x2x8x1x1, .f32⟩
  | .hbm, ⟨51, _⟩ => ⟨S32x1x2x8x1x130, .f32⟩
  | .hbm, ⟨52, _⟩ => ⟨S32x1x2x8x1x130, .f32⟩
  | .hbm, ⟨53, _⟩ => ⟨S32x1x2x8x1x130, .f32⟩
  | .hbm, ⟨54, _⟩ => ⟨S_, .f32⟩
  | .hbm, ⟨55, _⟩ => ⟨S32x1x2x8x1, .f32⟩
  | .hbm, ⟨56, _⟩ => ⟨S32x1x2x8x1x1, .f32⟩
  | .hbm, ⟨57, _⟩ => ⟨S32x1x2x8x1x130, .f32⟩
  | .hbm, ⟨58, _⟩ => ⟨S32x1x2x8x1x130, .f32⟩
  | .hbm, ⟨59, _⟩ => ⟨S32x1x2x8x1x129, .f32⟩
  | .hbm, ⟨60, _⟩ => ⟨S32x1x129x2x64, .f32⟩
  | .hbm, ⟨61, _⟩ => ⟨S32x1x2x64x8x1, .f32⟩
  | .hbm, ⟨62, _⟩ => ⟨S32x1x1x2x8x64, .f32⟩
  | .hbm, ⟨63, _⟩ => ⟨S32x16x64, .f32⟩
  | .hbm, ⟨64, _⟩ => ⟨S32x16x64, .bf16⟩
  | .hbm, ⟨65, _⟩ => ⟨S32x128x2x64, .f32⟩
  | .hbm, ⟨66, _⟩ => ⟨S32x128x128, .f32⟩
  | .hbm, ⟨67, _⟩ => ⟨S32x128x2x64, .f32⟩
  | .hbm, ⟨68, _⟩ => ⟨S32x128x128, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Proof.Softmax.lean ====
module

public import Idealize.ShloMosaic.Lib.Pointwise

@[expose] public section

noncomputable section

namespace Cert.Soft

open Idealize.ShloMosaic

/-- The greatest of the scores and the sink. -/
def top {n : ℕ} (s : Fin n → EReal) (sink : EReal) : EReal := max (Finset.univ.fold max ⊥ s) sink

/-- The sum of the exponentials of the scores and the sink, each less the greatest. -/
def den {n : ℕ} (s : Fin n → EReal) (sink : EReal) : EReal :=
  ∑ x, Ideal.exp (s x - top s sink) + Ideal.exp (sink - top s sink)

/-- The weighted sum of the values `v` under the scores `s` and a sink, divided at the end. -/
def soft {n : ℕ} (s v : Fin n → EReal) (sink : EReal) : EReal :=
  Ideal.div (∑ x, Ideal.exp (s x - top s sink) * v x) (den s sink)

/-- A finite factor that is not negative goes into a sum. -/
theorem sum_mul_coe {n : ℕ} (f : Fin n → EReal) (r : ℝ) (hr : 0 ≤ r) : (∑ x, f x) * (r : EReal) = ∑ x, f x * (r : EReal) := by
  induction n with
  | zero => simp
  | succ n ih =>
    rw [Fin.sum_univ_succ, Fin.sum_univ_succ, ← ih, mul_comm,
      EReal.left_distrib_of_nonneg_of_ne_top (by exact_mod_cast hr) (EReal.coe_ne_top r), mul_comm, mul_comm (r : EReal)]

/-- A sum of real numbers is real. -/
theorem coe_sum {n : ℕ} (r : Fin n → ℝ) : ((∑ x, r x : ℝ) : EReal) = ∑ x, (r x : EReal) :=
  map_sum (⟨⟨fun r : ℝ => (r : EReal), rfl⟩, EReal.coe_add⟩ : ℝ →+ EReal) r Finset.univ

/-- A sum of products of finite numbers is below +∞. -/
theorem sum_mul_ne_top {n : ℕ} (f g : Fin n → EReal) (hf : ∀ x, f x ≠ ⊥ ∧ f x ≠ ⊤) (hg : ∀ x, g x ≠ ⊥ ∧ g x ≠ ⊤) :
    ∑ x, f x * g x ≠ ⊤ := by
  have h : ∀ x, ∃ r : ℝ, f x * g x = (r : EReal) := fun x =>
    ⟨(f x).toReal * (g x).toReal, by rw [EReal.coe_mul, EReal.coe_toReal (hf x).2 (hf x).1, EReal.coe_toReal (hg x).2 (hg x).1]⟩
  choose r hr using h
  rw [Finset.sum_congr rfl fun x _ => hr x]
  rw [← coe_sum]
  exact EReal.coe_ne_top _

/-- The greatest of one more score is the greatest of the scores and that one. -/
theorem fold_max_succ {n : ℕ} (f : Fin (n + 1) → EReal) :
    Finset.univ.fold max ⊥ f = max (Finset.univ.fold max ⊥ fun x : Fin n => f x.castSucc) (f (Fin.last n)) := by
  refine eq_of_forall_gt_iff fun c => ?_
  simp only [Finset.fold_max_lt, Finset.mem_univ, true_implies, max_lt_iff, Fin.forall_fin_succ']
  tauto

/-- Dividing each weight before the sum, or the sum at the end, is the same where the scores are below +∞ and the sink is finite;
    the values need to agree only where the score is not −∞. -/
theorem soft_eq {n : ℕ} (s v v' : Fin n → EReal) (sink : EReal) (hb : sink ≠ ⊥) (ht : sink ≠ ⊤)
    (hs : ∀ x, s x ≠ ⊤) (hv : ∀ x, s x = ⊥ ∨ v x = v' x) :
    soft s v sink = ∑ x, v' x * Ideal.div (Ideal.exp (s x - top s sink)) (den s sink) := by
  have hM : top s sink ≠ ⊤ := by
    refine ne_of_lt (max_lt ?_ (lt_top_iff_ne_top.2 ht))
    rw [Finset.fold_max_lt]
    exact ⟨bot_lt_top, fun x _ => lt_top_iff_ne_top.2 (hs x)⟩
  have hM' : top s sink ≠ ⊥ := fun h => hb (le_bot_iff.1 (h ▸ le_max_right _ _))
  obtain ⟨a, ha⟩ : ∃ a : ℝ, (a : EReal) = top s sink := ⟨_, EReal.coe_toReal hM hM'⟩
  obtain ⟨b, hb'⟩ : ∃ b : ℝ, (b : EReal) = sink := ⟨_, EReal.coe_toReal ht hb⟩
  have hp : ∀ x, ∃ p : ℝ, 0 ≤ p ∧ Ideal.exp (s x - top s sink) = (p : EReal) ∧ (s x = ⊥ → p = 0) := by
    intro x
    rcases eq_or_ne (s x) ⊥ with h | h
    · exact ⟨0, le_rfl, by rw [h, EReal.bot_sub]; rfl, fun _ => rfl⟩
    · obtain ⟨u, hu⟩ : ∃ u : ℝ, (u : EReal) = s x := ⟨_, EReal.coe_toReal (hs x) h⟩
      refine ⟨Real.exp (u - a), (Real.exp_pos _).le, ?_, fun h' => absurd h' h⟩
      rw [← hu, ← ha, ← EReal.coe_sub]; rfl
  choose p hp0 hpe hpb using hp
  have he : Ideal.exp (sink - top s sink) = ((Real.exp (b - a) : ℝ) : EReal) := by
    rw [← ha, ← hb', ← EReal.coe_sub]; rfl
  have hd : den s sink = ((∑ x, p x + Real.exp (b - a) : ℝ) : EReal) := by
    unfold den
    rw [he, Finset.sum_congr rfl fun x _ => hpe x, EReal.coe_add]
    congr 1
    exact (coe_sum p).symm
  have hd0 : 0 < ∑ x, p x + Real.exp (b - a) := add_pos_of_nonneg_of_pos (Finset.sum_nonneg fun x _ => hp0 x) (Real.exp_pos _)
  unfold soft
  rw [hd, Ideal.div_coe hd0.ne', sum_mul_coe _ _ (by positivity)]
  refine Finset.sum_congr rfl fun x _ => ?_
  rw [Ideal.div_coe hd0.ne', hpe x]
  rcases hv x with h | h
  · rw [hpb x h]; simp
  · rw [h]; ac_rfl

/-- A first score of −∞ adds nothing to the greatest. -/
theorem top_bot {n : ℕ} (s : Fin (n + 1) → EReal) (sink : EReal) (h : s 0 = ⊥) : top (fun x : Fin n => s x.succ) sink = top s sink := by
  unfold top
  refine congrArg (max · sink) (eq_of_forall_gt_iff fun c => ?_)
  simp only [Finset.fold_max_lt, Finset.mem_univ, true_implies, Fin.forall_fin_succ, h]
  tauto

/-- A first score of −∞ adds nothing to the weighted sum. -/
theorem soft_bot {n : ℕ} (s v : Fin (n + 1) → EReal) (sink : EReal) (h : s 0 = ⊥) :
    soft s v sink = soft (fun x : Fin n => s x.succ) (fun x => v x.succ) sink := by
  have e : Ideal.exp (s 0 - top s sink) = 0 := by rw [h, EReal.bot_sub]; rfl
  unfold soft den
  rw [top_bot s sink h, Fin.sum_univ_succ, Fin.sum_univ_succ, e, zero_mul, zero_add, zero_add]

end Cert.Soft

end
-- ==== Proof.AttnRef.lean ====
module

public import proofs.«01_k».proof.Defs
public import proofs.«01_k».proof.Proof.Gen.RefAttnIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.Softmax

@[expose] public section

set_option maxRecDepth 16384

noncomputable section

namespace Cert.RefAttnIdeal.Hand

open Cert.RefAttnIdeal Cert.RefAttnIdeal.Gen
open Idealize.ShloMosaic Idealize.ShloMosaic.TcCoe Idealize.SL.Sem

/-- The keys (or values) of every block with the block before it in front, as the reference lays them out. -/
def KV (x : FVec Ideal S8192x128 .f32) : FVec Ideal S2x32x256x2x64 .f32 :=
  concatenate S2x32x256x2x64 2 [⟨S2x32x128x2x64, (pad S2x32x128x2x64 ![0, 1, 0, 0, 0] ![0, 0, 0, 0, 0] ![0, 0, 0, 0, 0] (extractStridedSlice S2x31x128x2x64 ![0, 0, 0, 0, 0] (shapeCast _ x shapeCasts_S8192x128_S2x32x128x2x64) slices_S2x32x128x2x64_S2x31x128x2x64_0_0_0_0_0) (sitofp .f32 (constantI S_ 32 0#32)) pads_S2x31x128x2x64_S2x32x128x2x64_000_100_000_000_000 h_S_)⟩, ⟨S2x32x128x2x64, (shapeCast _ x shapeCasts_S8192x128_S2x32x128x2x64)⟩] concatenates_S2x32x128x2x64_S2x32x128x2x64_S2x32x256x2x64_d2

/-- The reference's scores before masking, by (sequence, block, key head, group, row, column). -/
def SC (q : FVec Ideal S8192x1024 .bf16) (k : FVec Ideal S8192x128 .f32) : FVec Ideal S2x32x2x8x128x256 .f32 :=
  transpose S2x32x2x8x128x256 [0, 1, 2, 5, 4, 3] (Host.dotGeneral dot_S2x32x256x2x64_S2x32x128x2x8x64_S2x32x2x256x128x8_4_5_2_24_013_013 none (KV k) (shapeCast _ (extf .f32 q bitsLt_bf16_f32) shapeCasts_S8192x1024_S2x32x128x2x8x64)) transposes_S2x32x2x256x128x8_S2x32x2x8x128x256_0_1_2_5_4_3

/-- The reference's masked scores. -/
def S1 (q : FVec Ideal S8192x1024 .bf16) (k : FVec Ideal S8192x128 .f32) : FVec Ideal S2x32x2x8x128x256 .f32 :=
  select (broadcastInDim S2x32x2x8x128x256 ![0, 1, 2, 3, 4, 5] bcast_S1x32x1x1x128x256_S2x32x2x8x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32)))) (broadcastInDim S32x1x256 ![0, 1, 2] bcast_S1x1x256_S32x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))) (SC q k) (broadcastInDim S2x32x2x8x128x256 ![] bcast_S_S2x32x2x8x128x256 (id (constant S_ .f32 0xFF800000#32)))

/-- The reference's masked scores with the sink as a last column. -/
def S2 (sinks : FVec Ideal S1x16 .f32) (q : FVec Ideal S8192x1024 .bf16) (k : FVec Ideal S8192x128 .f32) :
    FVec Ideal S2x32x2x8x128x257 .f32 :=
  concatenate S2x32x2x8x128x257 5 [⟨S2x32x2x8x128x256, (S1 q k)⟩, ⟨S2x32x2x8x128x1, (broadcastInDim S2x32x2x8x128x1 ![0, 1, 2, 3, 4, 5] bcast_S1x1x2x8x1x1_S2x32x2x8x128x1_0_1_2_3_4_5 (broadcastInDim S1x1x2x8x1x1 ![2, 3] bcast_S2x8_S1x1x2x8x1x1_2_3 (shapeCast _ sinks shapeCasts_S1x16_S2x8)))⟩] concatenates_S2x32x2x8x128x256_S2x32x2x8x128x1_S2x32x2x8x128x257_d5

/-- The reference's row maxima. -/
def MX (sinks : FVec Ideal S1x16 .f32) (q : FVec Ideal S8192x1024 .bf16) (k : FVec Ideal S8192x128 .f32) :
    FVec Ideal S2x32x2x8x128 .f32 :=
  maximumf (broadcastInDim S2x32x2x8x128 ![] bcast_S_S2x32x2x8x128 (constant S_ .f32 0xFF800000#32)) (Host.reduce FloatOps.maximumf (S2 sinks q k) (constant S_ .f32 0xFF800000#32) reducesTo_S2x32x2x8x128x257_S2x32x2x8x128_d5 h_S_)

/-- The exponentials of the scores and the sink less the row maxima. -/
def E (sinks : FVec Ideal S1x16 .f32) (q : FVec Ideal S8192x1024 .bf16) (k : FVec Ideal S8192x128 .f32) :
    FVec Ideal S2x32x2x8x128x257 .f32 :=
  Host.exp (subf (S2 sinks q k) (broadcastInDim S2x32x2x8x128x257 ![0, 1, 2, 3, 4, 5] bcast_S2x32x2x8x128x1_S2x32x2x8x128x257_0_1_2_3_4_5 (broadcastInDim S2x32x2x8x128x1 ![0, 1, 2, 3, 4] bcast_S2x32x2x8x128_S2x32x2x8x128x1_0_1_2_3_4 (MX sinks q k))))

/-- Their sums along the rows. -/
def DEN (sinks : FVec Ideal S1x16 .f32) (q : FVec Ideal S8192x1024 .bf16) (k : FVec Ideal S8192x128 .f32) :
    FVec Ideal S2x32x2x8x128 .f32 :=
  Host.reduceAdd (E sinks q k) (constant S_ .f32 0x00000000#32) reducesTo_S2x32x2x8x128x257_S2x32x2x8x128_d5 h_S_

/-- The reference's result as a function of its four arguments. -/
def REF (sinks : FVec Ideal S1x16 .f32) (q : FVec Ideal S8192x1024 .bf16) (k v : FVec Ideal S8192x128 .f32) :
    FVec Ideal S8192x1024 .bf16 :=
  truncf .bf16 (shapeCast _ (transpose S2x32x128x2x8x64 [0, 1, 5, 2, 4, 3] (Host.dotGeneral dot_S2x32x256x2x64_S2x32x2x8x128x256_S2x32x2x64x8x128_2_5_4_34_013_012 none (KV v) (extractStridedSlice S2x32x2x8x128x256 ![0, 0, 0, 0, 0, 0] (Host.divf (E sinks q k) (broadcastInDim S2x32x2x8x128x257 ![0, 1, 2, 3, 4, 5] bcast_S2x32x2x8x128x1_S2x32x2x8x128x257_0_1_2_3_4_5 (broadcastInDim S2x32x2x8x128x1 ![0, 1, 2, 3, 4] bcast_S2x32x2x8x128_S2x32x2x8x128x1_0_1_2_3_4 (DEN sinks q k)))) slices_S2x32x2x8x128x257_S2x32x2x8x128x256_0_0_0_0_0_0)) transposes_S2x32x2x64x8x128_S2x32x128x2x8x64_0_1_5_2_4_3) shapeCasts_S2x32x128x2x8x64_S8192x1024) bitsLt_bf16_f32

/-- The indices that drop to a given one, along the last of six axes. -/
theorem fiber (h : S2x32x2x8x128x257.ReducesTo [5] S2x32x2x8x128) (n : Fin 2) (b : Fin 32) (kh : Fin 2) (g : Fin 8) (r : Fin 128)
    (i : S2x32x2x8x128x257.Idx) :
    h.drop i = (ix5 n b kh g r : S2x32x2x8x128.Idx) ↔ ∃ c : Fin 257, (ix6 n b kh g r c : S2x32x2x8x128x257.Idx) = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨c, rfl⟩
    funext a; apply Fin.ext
    match a with
    | ⟨0, _⟩ => rfl
    | ⟨1, _⟩ => rfl
    | ⟨2, _⟩ => rfl
    | ⟨3, _⟩ => rfl
    | ⟨4, _⟩ => rfl

/-- The host's sum along the last of six axes. -/
theorem reduceAdd_at (x : FVec Ideal S2x32x2x8x128x257 .f32) (z : FVec Ideal S_ .f32) (n : Fin 2) (b : Fin 32) (kh : Fin 2) (g : Fin 8)
    (r : Fin 128) :
    Host.reduceAdd x z reducesTo_S2x32x2x8x128x257_S2x32x2x8x128_d5 h_S_ (ix5 n b kh g r)
      = z (Shape.Idx.first h_S_) + ∑ c : Fin 257, x (ix6 n b kh g r c) := by
  pointwise
  unfold Ideal.hostReduceAdd
  rw [Finset.sum_filter_eq_sum_of_fiber _ (fun c : Fin 257 => (ix6 n b kh g r c : S2x32x2x8x128x257.Idx))
    (fun _ _ e => congrFun e 5) (fiber _ n b kh g r) x]

/-- The host's maximum along the last of six axes. -/
theorem reduceMax_at (x : FVec Ideal S2x32x2x8x128x257 .f32) (z : FVec Ideal S_ .f32) (n : Fin 2) (b : Fin 32) (kh : Fin 2) (g : Fin 8)
    (r : Fin 128) :
    Host.reduce FloatOps.maximumf x z reducesTo_S2x32x2x8x128x257_S2x32x2x8x128_d5 h_S_ (ix5 n b kh g r)
      = (Finset.univ : Finset (Fin 257)).fold (max : EReal → EReal → EReal) (z (Shape.Idx.first h_S_)) fun c => x (ix6 n b kh g r c) := by
  pointwise
  exact Finset.fold_filter_eq_fold_of_fiber (max : EReal → EReal → EReal) _ (fun c : Fin 257 => (ix6 n b kh g r c : S2x32x2x8x128x257.Idx))
    (fun _ _ e => congrFun e 5) (fiber reducesTo_S2x32x2x8x128x257_S2x32x2x8x128_d5 n b kh g r) _ x

/-- A column of the scores and the sink side by side. -/
theorem concat_at (x : FVec Ideal S2x32x2x8x128x256 .f32) (w : FVec Ideal S2x32x2x8x128x1 .f32) (n : Fin 2) (b : Fin 32) (kh : Fin 2)
    (g : Fin 8) (r : Fin 128) (c : Fin 257) :
    concatenate S2x32x2x8x128x257 5 [⟨S2x32x2x8x128x256, x⟩, ⟨S2x32x2x8x128x1, w⟩]
        concatenates_S2x32x2x8x128x256_S2x32x2x8x128x1_S2x32x2x8x128x257_d5 (ix6 n b kh g r c)
      = if h : c.val < 256 then x (ix6 n b kh g r ⟨c.val, h⟩) else w (ix6 n b kh g r 0) := by
  pointwise
  by_cases h : (c : ℕ) < 256
  · rw [dif_pos h, dif_pos h]
  · rw [dif_neg h, dif_neg h]
    exact congrArg w (congrArg (ix6 n b kh g r) (Subsingleton.elim _ _))

/-- An entry of the keys (or values) with the block before in front: zero before the sequence's first block, else a row of `x`. -/
theorem KV_at (x : FVec Ideal S8192x128 .f32) (n : Fin 2) (b : Fin 32) (j : Fin 256) (kh : Fin 2) (d : Fin 64)
    (h : ¬ (b.val = 0 ∧ j.val < 128)) (z : S8192x128.Idx)
    (h0 : (z 0).val = n.val * 4096 + b.val * 128 + j.val - 128) (h1 : (z 1).val = kh.val * 64 + d.val) :
    KV x (ix5 n b j kh d) = x z := by
  have h0' : 128 ≤ b.val * 128 + j.val := by omega
  pointwise [KV]
  by_cases h2 : (j : ℕ) < 128
  · rw [dif_pos h2, dif_pos (by omega)]
    exact congrArg x (by idx_ext)
  · rw [dif_neg h2]
    exact congrArg x (by idx_ext)

/-- The mask bit of a row and a column of block `b`: the column lies in the window of 128 up to the row, and not before the sequence. -/
def mk (b r j : ℕ) : BitVec 1 :=
  IntOp.andi
    (IntOp.andi
      (IntOp.cmpi CmpIPredicate.sge (IntOp.subi (IntOp.addi (128#32) (BitVec.ofNat 32 r)) (BitVec.ofNat 32 j)) 0#32)
      (IntOp.cmpi CmpIPredicate.slt (IntOp.subi (IntOp.addi (128#32) (BitVec.ofNat 32 r)) (BitVec.ofNat 32 j)) 128#32))
    (IntOp.ori (IntOp.cmpi CmpIPredicate.sgt (BitVec.ofNat 32 b) 0#32)
      (IntOp.cmpi CmpIPredicate.sge (BitVec.ofNat 32 j) 128#32))

/-- The pattern of −∞ is −∞. -/
theorem ofBits_bot : Ideal.ofBits .f32 0xFF800000#32 = ⊥ := by simp [Ideal.ofBits, Ideal.ieee]

/-- A masked score: the product of a query and a key where the mask allows it, else −∞. -/
theorem S1_at (q : FVec Ideal S8192x1024 .bf16) (k : FVec Ideal S8192x128 .f32)
    (n : Fin 2) (b : Fin 32) (kh : Fin 2) (g : Fin 8) (r : Fin 128) (j : Fin 256) :
    S1 q k (ix6 n b kh g r j) = Scalar.select (mk b r j)
      (∑ d : Fin 64, KV k (ix5 n b j kh d) * q (ix2 ⟨n * 4096 + b * 128 + r, by omega⟩ ⟨kh * 512 + g * 64 + d, by omega⟩))
      (⊥ : EReal) := by
  pointwise [S1, SC, mk]
  rw [show (id (constant (F := Ideal) S_ FTy.f32 4286578688#32) ix0 : EReal) = ⊥ from ofBits_bot]

/-- The mask is off on the half before the sequence's first block. -/
theorem mk_zero (r : ℕ) (j : ℕ) (h : j < 128) : mk 0 r j = 0#1 := by
  have h1 : ∀ j : Fin 128, IntOp.cmpi CmpIPredicate.sge (BitVec.ofNat 32 j) 128#32 = 0#1 := by decide
  unfold mk
  rw [h1 ⟨j, h⟩]
  simp [IntOp.andi, IntOp.ori, IntOp.cmpi]

/-- The row of the keys that column `j` of row `y0` reads; before the first sequence's first block any row will do, and the first 128 do. -/
def row (y0 j : ℕ) : ℕ := if y0 < 128 ∧ j < 128 then y0 / 128 * 128 + j else y0 / 128 * 128 + j - 128

theorem row_lt {y0 j : ℕ} (h : y0 < 8192) (hj : j < 256) : row y0 j < 8192 := by unfold row; split_ifs <;> omega

/-- The masked scores of one entry of the result. -/
def sc (q : FVec Ideal S8192x1024 .bf16) (k : FVec Ideal S8192x128 .f32) (y0 : Fin 8192) (y1 : Fin 1024) (j : Fin 256) : EReal :=
  Scalar.select (mk (y0.val / 128 % 32) (y0.val % 128) j.val)
    (∑ d : Fin 64, q (ix2 y0 ⟨y1.val / 64 * 64 + d.val, by omega⟩)
      * k (ix2 ⟨row y0.val j.val, row_lt y0.isLt j.isLt⟩ ⟨y1.val / 512 * 64 + d.val, by omega⟩)) (⊥ : EReal)

/-- The values of one entry of the result. -/
def va (v : FVec Ideal S8192x128 .f32) (y0 : Fin 8192) (y1 : Fin 1024) (j : Fin 256) : EReal :=
  v (ix2 ⟨row y0.val j.val, row_lt y0.isLt j.isLt⟩ ⟨y1.val / 512 * 64 + y1.val % 64, by omega⟩)

/-- Every column's row of the keys, read as the reference lays them out, where the mask is on. -/
theorem KV_row (x : FVec Ideal S8192x128 .f32) (y0 : Fin 8192) (j : Fin 256) (kh : Fin 2) (d : Fin 64)
    (h : ¬ (y0.val / 128 % 32 = 0 ∧ j.val < 128)) (e : Fin 128) (he : e.val = kh.val * 64 + d.val) :
    KV x (ix5 ⟨y0 / 4096, by omega⟩ ⟨y0 / 128 % 32, by omega⟩ j kh d) = x (ix2 ⟨row y0.val j.val, row_lt y0.isLt j.isLt⟩ e) := by
  refine KV_at x _ _ _ _ _ h _ ?_ he
  show row y0.val j.val = _
  unfold row
  rw [if_neg (by omega)]
  show _ = y0.val / 4096 * 4096 + y0.val / 128 % 32 * 128 + j.val - 128
  omega

/-- The reference's masked scores are `sc`. -/
theorem S1_sc (q : FVec Ideal S8192x1024 .bf16) (k : FVec Ideal S8192x128 .f32) (y0 : Fin 8192) (y1 : Fin 1024) (j : Fin 256) :
    S1 q k (ix6 ⟨y0 / 4096, by omega⟩ ⟨y0 / 128 % 32, by omega⟩ ⟨y1 / 512, by omega⟩ ⟨y1 / 64 % 8, by omega⟩ ⟨y0 % 128, by omega⟩ j)
      = sc q k y0 y1 j := by
  rw [S1_at]
  unfold sc
  by_cases h : y0.val / 128 % 32 = 0 ∧ j.val < 128
  · simp only [h.1]
    rw [mk_zero _ _ h.2]
    unfold Scalar.select
    rw [if_neg (by decide), if_neg (by decide)]
  · refine congrArg (fun z : EReal => Scalar.select (mk (y0.val / 128 % 32) (y0.val % 128) j.val) z (⊥ : EReal)) ?_
    refine Finset.sum_congr rfl fun d _ => ?_
    have hk := KV_row k y0 j ⟨y1 / 512, by omega⟩ d h ⟨y1 / 512 * 64 + d, by omega⟩ rfl
    rw [hk, mul_comm]
    refine Ideal.mul_congr (congrArg q ((ix2_inj ..).2 ⟨Fin.ext ?_, Fin.ext ?_⟩)) rfl
    · show y0.val / 4096 * 4096 + y0.val / 128 % 32 * 128 + y0.val % 128 = y0.val; omega
    · show y1.val / 512 * 512 + y1.val / 64 % 8 * 64 + d.val = y1.val / 64 * 64 + d.val; omega

/-- A column of the scores with the sink, before the last. -/
theorem S2_at (sinks : FVec Ideal S1x16 .f32) (q : FVec Ideal S8192x1024 .bf16) (k : FVec Ideal S8192x128 .f32)
    (n : Fin 2) (b : Fin 32) (kh : Fin 2) (g : Fin 8) (r : Fin 128) (j : Fin 256) :
    S2 sinks q k (ix6 n b kh g r j.castSucc) = S1 q k (ix6 n b kh g r j) := by
  unfold S2
  rw [concat_at, dif_pos (show (j.castSucc : Fin 257).val < 256 from j.isLt)]; rfl

/-- The sink's column. -/
theorem S2_last (sinks : FVec Ideal S1x16 .f32) (q : FVec Ideal S8192x1024 .bf16) (k : FVec Ideal S8192x128 .f32)
    (n : Fin 2) (b : Fin 32) (kh : Fin 2) (g : Fin 8) (r : Fin 128) :
    S2 sinks q k (ix6 n b kh g r (Fin.last 256)) = sinks (ix2 0 ⟨kh * 8 + g, by omega⟩) := by
  unfold S2
  rw [concat_at, dif_neg (show ¬ (Fin.last 256 : Fin 257).val < 256 by decide)]
  pointwise

/-- The greater of two entries. -/
theorem max_at (x w : FVec Ideal S2x32x2x8x128 .f32) (i : S2x32x2x8x128.Idx) : maximumf x w i = max (x i : EReal) (w i) := rfl

/-- One number laid out over the rows. -/
theorem bcast_at (z : FVec Ideal S_ .f32) (i : S2x32x2x8x128.Idx) :
    broadcastInDim S2x32x2x8x128 ![] bcast_S_S2x32x2x8x128 z i = z ix0 := by
  pointwise

/-- A constant number. -/
theorem const_at (b : BitVec 32) (i : S_.Idx) : constant (F := Ideal) S_ .f32 b i = Ideal.ofBits .f32 b := rfl

/-- The reference's row maxima. -/
theorem MX_at (sinks : FVec Ideal S1x16 .f32) (q : FVec Ideal S8192x1024 .bf16) (k : FVec Ideal S8192x128 .f32)
    (n : Fin 2) (b : Fin 32) (kh : Fin 2) (g : Fin 8) (r : Fin 128) :
    MX sinks q k (ix5 n b kh g r) = Soft.top (fun j : Fin 256 => S1 q k (ix6 n b kh g r j)) (sinks (ix2 0 ⟨kh * 8 + g, by omega⟩)) := by
  unfold MX Soft.top
  rw [max_at, reduceMax_at, bcast_at, const_at, const_at, ofBits_bot,
    Soft.fold_max_succ (n := 256), S2_last, bot_sup_eq]
  simp only [S2_at]

/-- An exponential of the reference. -/
theorem E_at (sinks : FVec Ideal S1x16 .f32) (q : FVec Ideal S8192x1024 .bf16) (k : FVec Ideal S8192x128 .f32)
    (n : Fin 2) (b : Fin 32) (kh : Fin 2) (g : Fin 8) (r : Fin 128) (c : Fin 257) :
    E sinks q k (ix6 n b kh g r c) = Ideal.exp (S2 sinks q k (ix6 n b kh g r c) - MX sinks q k (ix5 n b kh g r)) := by
  pointwise [E]

/-- The reference's denominators. -/
theorem DEN_at (sinks : FVec Ideal S1x16 .f32) (q : FVec Ideal S8192x1024 .bf16) (k : FVec Ideal S8192x128 .f32)
    (n : Fin 2) (b : Fin 32) (kh : Fin 2) (g : Fin 8) (r : Fin 128) :
    DEN sinks q k (ix5 n b kh g r) = Soft.den (fun j : Fin 256 => S1 q k (ix6 n b kh g r j)) (sinks (ix2 0 ⟨kh * 8 + g, by omega⟩)) := by
  unfold DEN
  rw [reduceAdd_at, Fin.sum_univ_castSucc, E_at, S2_last, MX_at]
  simp only [E_at, S2_at, MX_at]
  rw [const_at, show Ideal.ofBits .f32 0x00000000#32 = 0 from Ideal.ofBits_zero _, zero_add]
  rfl

/-- The reference's result, read at an entry, for finite sinks, queries and keys. -/
theorem REF_at (sinks : FVec Ideal S1x16 .f32) (q : FVec Ideal S8192x1024 .bf16) (k v : FVec Ideal S8192x128 .f32)
    (hs : ∀ i, (sinks i : EReal) ≠ ⊥ ∧ (sinks i : EReal) ≠ ⊤) (hq : ∀ i, (q i : EReal) ≠ ⊥ ∧ (q i : EReal) ≠ ⊤)
    (hk : ∀ i, (k i : EReal) ≠ ⊥ ∧ (k i : EReal) ≠ ⊤) (y0 : Fin 8192) (y1 : Fin 1024) :
    REF sinks q k v (ix2 y0 y1) = Soft.soft (sc q k y0 y1) (va v y0 y1) (sinks (ix2 0 ⟨y1 / 64, by omega⟩)) := by
  have hz : (⟨y1.val / 512 * 8 + y1.val / 64 % 8, by omega⟩ : Fin 16) = ⟨y1.val / 64, by omega⟩ := Fin.ext (by show y1.val / 512 * 8 + y1.val / 64 % 8 = y1.val / 64; omega)
  rw [Soft.soft_eq (sc q k y0 y1) (va v y0 y1) (fun j => KV v (ix5 ⟨y0 / 4096, by omega⟩ ⟨y0 / 128 % 32, by omega⟩ j ⟨y1 / 512, by omega⟩
    ⟨y1 % 64, by omega⟩)) _ (hs _).1 (hs _).2]
  · pointwise [REF]
    refine Finset.sum_congr rfl fun j _ => ?_
    rw [DEN_at]
    have he := E_at sinks q k ⟨y0 / 4096, by omega⟩ ⟨y0 / 128 % 32, by omega⟩ ⟨y1 / 512, by omega⟩ ⟨y1 / 64 % 8, by omega⟩
      ⟨y0 % 128, by omega⟩ j.castSucc
    rw [S2_at, MX_at] at he
    simp only [S1_sc, hz] at he ⊢
    exact congrArg (fun z => _ * Ideal.div z _) he
  · intro j
    unfold sc Scalar.select
    split_ifs
    · exact Soft.sum_mul_ne_top _ _ (fun d => hq _) (fun d => hk _)
    · exact bot_ne_top
  · intro j
    by_cases h : y0.val / 128 % 32 = 0 ∧ j.val < 128
    · left; unfold sc; rw [h.1, mk_zero _ _ h.2]; rfl
    · right
      exact (KV_row v y0 j ⟨y1 / 512, by omega⟩ ⟨y1 % 64, by omega⟩ h ⟨y1.val / 512 * 64 + y1.val % 64, by omega⟩ rfl).symm

end Cert.RefAttnIdeal.Hand

end
-- ==== Proof.AttnValue.lean ====
module

public import proofs.«01_k».proof.Defs
public import proofs.«01_k».proof.Proof.Gen.AttnIdeal.Value
public import proofs.«01_k».proof.Proof.Gen.RefAttnIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.AttnRef
public import proofs.«01_k».proof.Proof.Softmax

@[expose] public section

set_option maxRecDepth 16384

noncomputable section

namespace Cert.AttnIdeal.Hand

open Cert.AttnIdeal Cert.AttnIdeal.Gen
open Idealize.ShloMosaic Idealize.ShloMosaic.TcCoe Idealize.SL.Sem
open Idealize.ShloMosaic.Pipeline (Dat)

variable (m : (ℓ : Loc nD τ sig) → Buf (Elt Ideal) ℓ)

open Cert.RefAttnIdeal.Hand (sc va row row_lt mk ofBits_bot)

/-- Which blocks a grid point reads and writes: its own of the queries, keys and values, and the one before (its own at the start). -/
theorem idx : ∀ t : Fin cfg0.N, win0_0.index t = ![0] ∧ win0_1.index t = ![t.val, 0] ∧ win0_2.index t = ![t.val, 0]
    ∧ win0_3.index t = ![t.val - 1, 0] ∧ win0_4.index t = ![t.val, 0]
    ∧ win0_5.index t = ![t.val - 1, 0] ∧ win0_6.index t = ![t.val, 0]
    ∧ (grid0.coords t 1).val = t.val % 32 := (by decide +kernel : ∀ t : Fin grid0.N, _)

/-- One head's output block, from the block before's and its own keys and values, its queries and its sink. -/
abbrev HEAD (i : grid0.Coords) (k0 k1 v0 v1 : Vec Ideal S128x64 .f32) (q : Vec Ideal S128x64 .bf16) (sink : Elt Ideal .f32) :
    FVec Ideal S128x64 .bf16 :=
  k0_pay9 (F := Ideal) (k0_pay4 v0 v1) sink (k0_pay6 i k0 k1 q sink) (k0_pay7 i k0 k1 q sink) (k0_pay8 i k0 k1 q sink)

section
variable (i : grid0.Coords) (k0 k1 v0 v1 : Vec Ideal S128x64 .f32) (q : Vec Ideal S128x64 .bf16) (s : Elt Ideal .f32)

/-- Head 1's block is computed in the same way. -/
theorem head1 : k0_pay10 (F := Ideal) (k0_pay2 i) (k0_pay3 k0 k1) (k0_pay4 v0 v1) q s = HEAD i k0 k1 v0 v1 q s := rfl

/-- Head 2's block is computed in the same way. -/
theorem head2 : k0_pay12 (F := Ideal) (k0_pay4 v0 v1) (k0_pay11 (k0_pay2 i) (k0_pay3 k0 k1) q) s = HEAD i k0 k1 v0 v1 q s := rfl

/-- Head 3's block is computed in the same way. -/
theorem head3 : k0_pay13 (F := Ideal) (k0_pay2 i) (k0_pay3 k0 k1) (k0_pay4 v0 v1) q s = HEAD i k0 k1 v0 v1 q s := rfl

/-- Head 4's block is computed in the same way. -/
theorem head4 : k0_pay14 (F := Ideal) (k0_pay2 i) (k0_pay3 k0 k1) (k0_pay4 v0 v1) q s = HEAD i k0 k1 v0 v1 q s := rfl

/-- Head 5's block is computed in the same way. -/
theorem head5 : k0_pay20 (F := Ideal) (k0_pay4 v0 v1) (k0_pay18 (k0_pay2 i) (k0_pay3 k0 k1) q s) (k0_pay19 (k0_pay2 i) (k0_pay3 k0 k1) q s) = HEAD i k0 k1 v0 v1 q s := rfl

/-- Head 6's block is computed in the same way. -/
theorem head6 : k0_pay21 (F := Ideal) (k0_pay2 i) (k0_pay3 k0 k1) (k0_pay4 v0 v1) q s = HEAD i k0 k1 v0 v1 q s := rfl

/-- Head 7's block is computed in the same way. -/
theorem head7 : k0_pay25 (F := Ideal) (k0_pay4 v0 v1) (k0_pay22 (k0_pay2 i) (k0_pay3 k0 k1) q) s (k0_pay23 (k0_pay2 i) (k0_pay3 k0 k1) q s) (k0_pay24 (k0_pay2 i) (k0_pay3 k0 k1) q s) = HEAD i k0 k1 v0 v1 q s := rfl

/-- Head 8's block is computed in the same way. -/
theorem head8 : k0_pay32 (F := Ideal) (k0_pay27 v0 v1) (k0_pay30 (k0_pay2 i) k0 k1 q s) (k0_pay31 (k0_pay2 i) k0 k1 q s) = HEAD i k0 k1 v0 v1 q s := rfl

/-- Head 9's block is computed in the same way. -/
theorem head9 : k0_pay33 (F := Ideal) (k0_pay2 i) (k0_pay26 k0 k1) (k0_pay27 v0 v1) q s = HEAD i k0 k1 v0 v1 q s := rfl

/-- Head 10's block is computed in the same way. -/
theorem head10 : k0_pay36 (F := Ideal) (k0_pay27 v0 v1) (k0_pay34 (k0_pay2 i) (k0_pay26 k0 k1) q) s (k0_pay35 (k0_pay2 i) (k0_pay26 k0 k1) q s) = HEAD i k0 k1 v0 v1 q s := rfl

/-- Head 11's block is computed in the same way. -/
theorem head11 : k0_pay37 (F := Ideal) (k0_pay2 i) (k0_pay26 k0 k1) (k0_pay27 v0 v1) q s = HEAD i k0 k1 v0 v1 q s := rfl

/-- Head 12's block is computed in the same way. -/
theorem head12 : k0_pay39 (F := Ideal) (k0_pay2 i) (k0_pay27 v0 v1) (k0_pay38 (k0_pay26 k0 k1) q) s = HEAD i k0 k1 v0 v1 q s := rfl

/-- Head 13's block is computed in the same way. -/
theorem head13 : k0_pay41 (F := Ideal) (k0_pay40 (k0_pay2 i) (k0_pay26 k0 k1) (k0_pay27 v0 v1) q s) = HEAD i k0 k1 v0 v1 q s := rfl

/-- Head 14's block is computed in the same way. -/
theorem head14 : k0_pay42 (F := Ideal) (k0_pay2 i) (k0_pay26 k0 k1) (k0_pay27 v0 v1) q s = HEAD i k0 k1 v0 v1 q s := rfl

/-- Head 15's block is computed in the same way. -/
theorem head15 : k0_pay1 (F := Ideal) (k0_pay27 v0 v1) s (k0_pay44 (k0_pay2 i) (k0_pay26 k0 k1) q s) (k0_pay45 (k0_pay2 i) (k0_pay26 k0 k1) q s) (k0_pay46 (k0_pay2 i) (k0_pay26 k0 k1) q s) = HEAD i k0 k1 v0 v1 q s := rfl

end

/-- Column `j` of two blocks laid one after the other. -/
def two (x0 x1 : Vec Ideal S128x64 .f32) (j : Fin 256) (d : Fin 64) : EReal :=
  if h : j.val < 128 then x0 (ix2 ⟨j.val, h⟩ d) else x1 (ix2 ⟨j.val - 128, by omega⟩ d)

/-- One head's output block, entry by entry. -/
theorem head_at (i : grid0.Coords) (k0 k1 v0 v1 : Vec Ideal S128x64 .f32) (q : Vec Ideal S128x64 .bf16) (sink : Elt Ideal .f32)
    (y : S128x64.Idx) :
    HEAD i k0 k1 v0 v1 q sink y = Cert.Soft.soft
      (fun j : Fin 256 => Scalar.select (mk (i 1).val (y 0).val j.val) (∑ d : Fin 64, q (ix2 (y 0) d) * two k0 k1 j d) (⊥ : EReal))
      (fun j => two v0 v1 j (y 1)) sink := by
  unfold Cert.Soft.soft Cert.Soft.den Cert.Soft.top
  pointwise [HEAD, two, mk, k0_pay9, k0_pay8, k0_pay7, k0_pay6, k0_pay5, k0_pay4, k0_pay3, k0_pay2]
  have hn : (Named.named (F := Ideal) (φ := .f32) κ "mask" 0xF149F2CA#32 : EReal) = ⊥ :=
    IdealRules.named_const.ideal_named_scalar _ _ _ _ rfl
  simp only [hn, ofBits_bot]
  rfl

/-- Every entry is a real number. -/
def Finite {s : Shape} {φ : FTy} (x : FVec Ideal s φ) : Prop := ∀ i, (x i : EReal) ≠ ⊥ ∧ (x i : EReal) ≠ ⊤

/-- One head's output block is the reference's, entry by entry. -/
theorem core (c : Dev nD) (t : Fin cfg0.N) (h : Fin 16) (sinks : FVec Ideal S1x16 .f32) (q : FVec Ideal S8192x1024 .bf16) (k v : FVec Ideal S8192x128 .f32)
    (hsinks : Finite sinks) (hq : Finite q) (hk : Finite k)
    (k0 k1 v0 v1 : Vec Ideal S128x64 .f32) (qb : Vec Ideal S128x64 .bf16) (sink : Elt Ideal .f32)
    (hk0 : ∀ (a : Fin 128) (d : Fin 64) (z : S8192x128.Idx), (z 0).val = 128 * (t.val - 1) + a.val →
      (z 1).val = 64 * (h.val / 8) + d.val → k0 (ix2 a d) = k z)
    (hk1 : ∀ (a : Fin 128) (d : Fin 64) (z : S8192x128.Idx), (z 0).val = 128 * t.val + a.val →
      (z 1).val = 64 * (h.val / 8) + d.val → k1 (ix2 a d) = k z)
    (hv0 : ∀ (a : Fin 128) (d : Fin 64) (z : S8192x128.Idx), (z 0).val = 128 * (t.val - 1) + a.val →
      (z 1).val = 64 * (h.val / 8) + d.val → v0 (ix2 a d) = v z)
    (hv1 : ∀ (a : Fin 128) (d : Fin 64) (z : S8192x128.Idx), (z 0).val = 128 * t.val + a.val →
      (z 1).val = 64 * (h.val / 8) + d.val → v1 (ix2 a d) = v z)
    (hqb : ∀ (a : Fin 128) (d : Fin 64) (z : S8192x1024.Idx), (z 0).val = 128 * t.val + a.val →
      (z 1).val = 64 * h.val + d.val → qb (ix2 a d) = q z)
    (hsink : sink = sinks (ix2 0 h))
    (x : S128x64.Idx) (y : S8192x1024.Idx) (hy0 : (y 0).val = 128 * t.val + (x 0).val) (hy1 : (y 1).val = 64 * h.val + (x 1).val) :
    HEAD (grid0.coords t) k0 k1 v0 v1 qb sink x = Cert.RefAttnIdeal.Hand.REF sinks q k v y := by
  have x0 : (x 0).val < 128 := (x 0).isLt
  have x1 : (x 1).val < 64 := (x 1).isLt
  have h16 := h.isLt
  obtain ⟨y0, y1, rfl⟩ : ∃ (y0 : Fin 8192) (y1 : Fin 1024), y = ix2 y0 y1 := ⟨y 0, y 1, by idx_ext⟩
  change y0.val = 128 * t.val + (x 0).val at hy0
  change y1.val = 64 * h.val + (x 1).val at hy1
  have ht : t.val < 64 := t.isLt
  rw [Cert.RefAttnIdeal.Hand.REF_at sinks q k v hsinks hq hk, head_at]
  have hrow : ∀ j : Fin 256, row y0.val j.val
      = if j.val < 128 then 128 * (t.val - 1) + j.val else 128 * t.val + (j.val - 128) := by
    intro j
    unfold row
    rw [hy0]
    split_ifs <;> omega
  have hs : (fun j : Fin 256 => Scalar.select (mk (grid0.coords t 1).val (x 0).val j.val)
      (∑ d : Fin 64, qb (ix2 (x 0) d) * two k0 k1 j d) (⊥ : EReal)) = sc q k y0 y1 := by
    funext j
    unfold sc
    rw [(idx t).2.2.2.2.2.2.2, show y0.val / 128 % 32 = t.val % 32 by omega, show y0.val % 128 = (x 0).val by omega]
    refine congrArg (fun z : EReal => Scalar.select (mk (t.val % 32) (x 0).val j.val) z (⊥ : EReal)) ?_
    refine Finset.sum_congr rfl fun d _ => ?_
    have hd := d.isLt
    refine Ideal.mul_congr (hqb _ _ _ hy0 ?_) ?_
    · show y1.val / 64 * 64 + d.val = _; omega
    · unfold two
      by_cases hj : j.val < 128
      · rw [dif_pos hj]
        refine hk0 _ _ _ ?_ ?_
        · show row y0.val j.val = _; rw [hrow, if_pos hj]
        · show y1.val / 512 * 64 + d.val = _; omega
      · rw [dif_neg hj]
        refine hk1 _ _ _ ?_ ?_
        · show row y0.val j.val = _; rw [hrow, if_neg hj]
        · show y1.val / 512 * 64 + d.val = _; omega
  have hv : (fun j : Fin 256 => two v0 v1 j (x 1)) = va v y0 y1 := by
    funext j
    unfold va two
    by_cases hj : j.val < 128
    · rw [dif_pos hj]
      refine hv0 _ _ _ ?_ ?_
      · show row y0.val j.val = _; rw [hrow, if_pos hj]
      · show y1.val / 512 * 64 + y1.val % 64 = _; omega
    · rw [dif_neg hj]
      refine hv1 _ _ _ ?_ ?_
      · show row y0.val j.val = _; rw [hrow, if_neg hj]
      · show y1.val / 512 * 64 + y1.val % 64 = _; omega
  have hh : sinks (ix2 0 h) = sinks (ix2 0 ⟨y1.val / 64, by omega⟩) := congrArg sinks ((ix2_inj ..).2 ⟨rfl, Fin.ext (by show h.val = y1.val / 64; omega)⟩)
  rw [hs, hv, hsink, hh]

/-- A block of the queries, entry by entry. -/
theorem blk1 (c : Dev nD) (t : Fin cfg0.N) (r : S128x1024.Idx) (z : S8192x1024.Idx) (h0 : (z 0).val = 128 * t.val + (r 0).val)
    (h1 : (z 1).val = (r 1).val) : iblk m c 1 t r = m ((c : Thread nD τ).loc main_arg1) z := by
  blk_point [iblk, V, idx t]

/-- A block of the keys. -/
theorem blk2 (c : Dev nD) (t : Fin cfg0.N) (r : S128x128.Idx) (z : S8192x128.Idx) (h0 : (z 0).val = 128 * t.val + (r 0).val)
    (h1 : (z 1).val = (r 1).val) : iblk m c 2 t r = m ((c : Thread nD τ).loc main_arg2) z := by
  blk_point [iblk, V, idx t]

/-- The block of the keys before. -/
theorem blk3 (c : Dev nD) (t : Fin cfg0.N) (r : S128x128.Idx) (z : S8192x128.Idx) (h0 : (z 0).val = 128 * (t.val - 1) + (r 0).val)
    (h1 : (z 1).val = (r 1).val) : iblk m c 3 t r = m ((c : Thread nD τ).loc main_arg2) z := by
  blk_point [iblk, V, idx t]

/-- A block of the values. -/
theorem blk4 (c : Dev nD) (t : Fin cfg0.N) (r : S128x128.Idx) (z : S8192x128.Idx) (h0 : (z 0).val = 128 * t.val + (r 0).val)
    (h1 : (z 1).val = (r 1).val) : iblk m c 4 t r = m ((c : Thread nD τ).loc main_arg3) z := by
  blk_point [iblk, V, idx t]

/-- The block of the values before. -/
theorem blk5 (c : Dev nD) (t : Fin cfg0.N) (r : S128x128.Idx) (z : S8192x128.Idx) (h0 : (z 0).val = 128 * (t.val - 1) + (r 0).val)
    (h1 : (z 1).val = (r 1).val) : iblk m c 5 t r = m ((c : Thread nD τ).loc main_arg3) z := by
  blk_point [iblk, V, idx t]

/-- The sinks. -/
theorem blk0 (c : Dev nD) (t : Fin cfg0.N) (r : S16.Idx) (h : Fin 16) (h0 : h.val = (r 0).val) :
    iblk m c 0 t r = m ((c : Thread nD τ).loc main_arg0) (ix2 0 h) := by
  blk_point [iblk, V, idx t]

/-- Head `h`'s output block, computed from boxes of the blocks, is the reference's. The boxes' indices are `kr` of a block of
keys or values, `qr` of the queries, `sr` of the sinks. -/
theorem piece (c : Dev nD) (hsinks : Finite (s := S1x16) (φ := .f32) (m ((c : Thread nD τ).loc main_arg0)))
    (hq : Finite (s := S8192x1024) (φ := .bf16) (m ((c : Thread nD τ).loc main_arg1)))
    (hk : Finite (s := S8192x128) (φ := .f32) (m ((c : Thread nD τ).loc main_arg2)))
    (t : Fin cfg0.N) (h : Fin 16) (kr : S128x64.Idx → S128x128.Idx) (qr : S128x64.Idx → S128x1024.Idx) (sr : S16.Idx)
    (hkr : ∀ r, (kr r 0).val = (r 0).val ∧ (kr r 1).val = 64 * (h.val / 8) + (r 1).val)
    (hqr : ∀ r, (qr r 0).val = (r 0).val ∧ (qr r 1).val = 64 * h.val + (r 1).val) (hsr : h.val = (sr 0).val)
    (x : S128x64.Idx) (y : ((cfg0.win 6).xblock (grid0.coords t)).Idx)
    (hy0 : (y 0).val = (x 0).val) (hy1 : (y 1).val = 64 * h.val + (x 1).val) :
    HEAD (grid0.coords t) (fun r => iblk m c 3 t (kr r)) (fun r => iblk m c 2 t (kr r)) (fun r => iblk m c 5 t (kr r))
        (fun r => iblk m c 4 t (kr r)) (fun r => iblk m c 1 t (qr r)) (iblk m c 0 t sr) x
      = Cert.RefAttnIdeal.Hand.REF (m ((c : Thread nD τ).loc main_arg0)) (m ((c : Thread nD τ).loc main_arg1))
        (m ((c : Thread nD τ).loc main_arg2)) (m ((c : Thread nD τ).loc main_arg3)) (((cfg0.win 6).blk t).view.emb y) := by
  refine core c t h _ _ _ _ hsinks hq hk _ _ _ _ _ _ ?_ ?_ ?_ ?_ ?_ (blk0 m c t sr h hsr) x _ ?_ ?_
  · intro a d z h0 h1
    exact blk3 m c t _ z (by rw [(hkr _).1]; exact h0) (by rw [(hkr _).2]; exact h1)
  · intro a d z h0 h1
    exact blk2 m c t _ z (by rw [(hkr _).1]; exact h0) (by rw [(hkr _).2]; exact h1)
  · intro a d z h0 h1
    exact blk5 m c t _ z (by rw [(hkr _).1]; exact h0) (by rw [(hkr _).2]; exact h1)
  · intro a d z h0 h1
    exact blk4 m c t _ z (by rw [(hkr _).1]; exact h0) (by rw [(hkr _).2]; exact h1)
  · intro a d z h0 h1
    exact blk1 m c t _ z (by rw [(hqr _).1]; exact h0) (by rw [(hqr _).2]; exact h1)
  · rw [← hy0]
    blk_simp [idx t]
    omega
  · rw [← hy1]
    blk_simp [idx t]

/-- Where a box of 64 columns' entry lies in its block. -/
theorem box {n : ℕ} (o : ℕ) (inb : ∀ a, (![0, o] : Fin 2 → ℕ) a + (![128, 64] : Fin 2 → ℕ) a ≤ (⟨2, ![128, n]⟩ : Shape).size a) (r : S128x64.Idx) :
    ((Rect.unit (s := ⟨2, ![128, n]⟩) ![0, o] ![128, 64] inb).idx r 0).val = (r 0).val
      ∧ ((Rect.unit (s := ⟨2, ![128, n]⟩) ![0, o] ![128, 64] inb).idx r 1).val = o + (r 1).val :=
  ⟨by show 0 + 1 * (r 0).val = _; omega, by show o + 1 * (r 1).val = _; omega⟩

/-- The kernel's result array is the reference's. -/
theorem final (c : Dev nD)
    (hsinks : Finite (s := S1x16) (φ := .f32) (m ((c : Thread nD τ).loc main_arg0)))
    (hq : Finite (s := S8192x1024) (φ := .bf16) (m ((c : Thread nD τ).loc main_arg1)))
    (hk : Finite (s := S8192x128) (φ := .f32) (m ((c : Thread nD τ).loc main_arg2))) :
    (dats m 0 c).arrAt 6 (cfgs 0).N
    = Cert.RefAttnIdeal.Hand.REF (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  rw [after0_6]; unfold outsAt0
  frame_out
  canon_tiles x h
  case piece0 =>
    rw [head15]
    exact piece m c hsinks hq hk t 15 (Rect.unit (s := S128x128) ![0, 64] ![128, 64] inb_S128x128_S128x64_0_64).idx
      (Rect.unit (s := S128x1024) ![0, 960] ![128, 64] inb_S128x1024_S128x64_0_960).idx
      ((Rect.unit (s := S16) ![15] ![1] inb_S16_S1_15).idx (Shape.Idx.first _)) (box 64 _) (box 960 _) rfl x y h0 h1
  case piece1 =>
    rw [head14]
    exact piece m c hsinks hq hk t 14 (Rect.unit (s := S128x128) ![0, 64] ![128, 64] inb_S128x128_S128x64_0_64).idx
      (Rect.unit (s := S128x1024) ![0, 896] ![128, 64] inb_S128x1024_S128x64_0_896).idx
      ((Rect.unit (s := S16) ![14] ![1] inb_S16_S1_14).idx (Shape.Idx.first _)) (box 64 _) (box 896 _) rfl x y h0 h1
  case piece2 =>
    rw [head13]
    exact piece m c hsinks hq hk t 13 (Rect.unit (s := S128x128) ![0, 64] ![128, 64] inb_S128x128_S128x64_0_64).idx
      (Rect.unit (s := S128x1024) ![0, 832] ![128, 64] inb_S128x1024_S128x64_0_832).idx
      ((Rect.unit (s := S16) ![13] ![1] inb_S16_S1_13).idx (Shape.Idx.first _)) (box 64 _) (box 832 _) rfl x y h0 h1
  case piece3 =>
    rw [head12]
    exact piece m c hsinks hq hk t 12 (Rect.unit (s := S128x128) ![0, 64] ![128, 64] inb_S128x128_S128x64_0_64).idx
      (Rect.unit (s := S128x1024) ![0, 768] ![128, 64] inb_S128x1024_S128x64_0_768).idx
      ((Rect.unit (s := S16) ![12] ![1] inb_S16_S1_12).idx (Shape.Idx.first _)) (box 64 _) (box 768 _) rfl x y h0 h1
  case piece4 =>
    rw [head11]
    exact piece m c hsinks hq hk t 11 (Rect.unit (s := S128x128) ![0, 64] ![128, 64] inb_S128x128_S128x64_0_64).idx
      (Rect.unit (s := S128x1024) ![0, 704] ![128, 64] inb_S128x1024_S128x64_0_704).idx
      ((Rect.unit (s := S16) ![11] ![1] inb_S16_S1_11).idx (Shape.Idx.first _)) (box 64 _) (box 704 _) rfl x y h0 h1
  case piece5 =>
    rw [head10]
    exact piece m c hsinks hq hk t 10 (Rect.unit (s := S128x128) ![0, 64] ![128, 64] inb_S128x128_S128x64_0_64).idx
      (Rect.unit (s := S128x1024) ![0, 640] ![128, 64] inb_S128x1024_S128x64_0_640).idx
      ((Rect.unit (s := S16) ![10] ![1] inb_S16_S1_10).idx (Shape.Idx.first _)) (box 64 _) (box 640 _) rfl x y h0 h1
  case piece6 =>
    rw [head9]
    exact piece m c hsinks hq hk t 9 (Rect.unit (s := S128x128) ![0, 64] ![128, 64] inb_S128x128_S128x64_0_64).idx
      (Rect.unit (s := S128x1024) ![0, 576] ![128, 64] inb_S128x1024_S128x64_0_576).idx
      ((Rect.unit (s := S16) ![9] ![1] inb_S16_S1_9).idx (Shape.Idx.first _)) (box 64 _) (box 576 _) rfl x y h0 h1
  case piece7 =>
    rw [head8]
    exact piece m c hsinks hq hk t 8 (Rect.unit (s := S128x128) ![0, 64] ![128, 64] inb_S128x128_S128x64_0_64).idx
      (Rect.unit (s := S128x1024) ![0, 512] ![128, 64] inb_S128x1024_S128x64_0_512).idx
      ((Rect.unit (s := S16) ![8] ![1] inb_S16_S1_8).idx (Shape.Idx.first _)) (box 64 _) (box 512 _) rfl x y h0 h1
  case piece8 =>
    rw [head7]
    exact piece m c hsinks hq hk t 7 (Rect.unit (s := S128x128) ![0, 0] ![128, 64] inb_S128x128_S128x64_0_0).idx
      (Rect.unit (s := S128x1024) ![0, 448] ![128, 64] inb_S128x1024_S128x64_0_448).idx
      ((Rect.unit (s := S16) ![7] ![1] inb_S16_S1_7).idx (Shape.Idx.first _)) (box 0 _) (box 448 _) rfl x y h0 h1
  case piece9 =>
    rw [head6]
    exact piece m c hsinks hq hk t 6 (Rect.unit (s := S128x128) ![0, 0] ![128, 64] inb_S128x128_S128x64_0_0).idx
      (Rect.unit (s := S128x1024) ![0, 384] ![128, 64] inb_S128x1024_S128x64_0_384).idx
      ((Rect.unit (s := S16) ![6] ![1] inb_S16_S1_6).idx (Shape.Idx.first _)) (box 0 _) (box 384 _) rfl x y h0 h1
  case piece10 =>
    rw [head5]
    exact piece m c hsinks hq hk t 5 (Rect.unit (s := S128x128) ![0, 0] ![128, 64] inb_S128x128_S128x64_0_0).idx
      (Rect.unit (s := S128x1024) ![0, 320] ![128, 64] inb_S128x1024_S128x64_0_320).idx
      ((Rect.unit (s := S16) ![5] ![1] inb_S16_S1_5).idx (Shape.Idx.first _)) (box 0 _) (box 320 _) rfl x y h0 h1
  case piece11 =>
    rw [head4]
    exact piece m c hsinks hq hk t 4 (Rect.unit (s := S128x128) ![0, 0] ![128, 64] inb_S128x128_S128x64_0_0).idx
      (Rect.unit (s := S128x1024) ![0, 256] ![128, 64] inb_S128x1024_S128x64_0_256).idx
      ((Rect.unit (s := S16) ![4] ![1] inb_S16_S1_4).idx (Shape.Idx.first _)) (box 0 _) (box 256 _) rfl x y h0 h1
  case piece12 =>
    rw [head3]
    exact piece m c hsinks hq hk t 3 (Rect.unit (s := S128x128) ![0, 0] ![128, 64] inb_S128x128_S128x64_0_0).idx
      (Rect.unit (s := S128x1024) ![0, 192] ![128, 64] inb_S128x1024_S128x64_0_192).idx
      ((Rect.unit (s := S16) ![3] ![1] inb_S16_S1_3).idx (Shape.Idx.first _)) (box 0 _) (box 192 _) rfl x y h0 h1
  case piece13 =>
    rw [head2]
    exact piece m c hsinks hq hk t 2 (Rect.unit (s := S128x128) ![0, 0] ![128, 64] inb_S128x128_S128x64_0_0).idx
      (Rect.unit (s := S128x1024) ![0, 128] ![128, 64] inb_S128x1024_S128x64_0_128).idx
      ((Rect.unit (s := S16) ![2] ![1] inb_S16_S1_2).idx (Shape.Idx.first _)) (box 0 _) (box 128 _) rfl x y h0 h1
  case piece14 =>
    rw [head1]
    exact piece m c hsinks hq hk t 1 (Rect.unit (s := S128x128) ![0, 0] ![128, 64] inb_S128x128_S128x64_0_0).idx
      (Rect.unit (s := S128x1024) ![0, 64] ![128, 64] inb_S128x1024_S128x64_0_64).idx
      ((Rect.unit (s := S16) ![1] ![1] inb_S16_S1_1).idx (Shape.Idx.first _)) (box 0 _) (box 64 _) rfl x y h0 h1
  case piece15 =>
    exact piece m c hsinks hq hk t 0 (Rect.unit (s := S128x128) ![0, 0] ![128, 64] inb_S128x128_S128x64_0_0).idx
      (Rect.unit (s := S128x1024) ![0, 0] ![128, 64] inb_S128x1024_S128x64_0_0).idx
      ((Rect.unit (s := S16) ![0] ![1] inb_S16_S1_0).idx (Shape.Idx.first _)) (box 0 _) (box 0 _) rfl x y h0 (h1.trans (Nat.zero_add _).symm)

/-- The bit pattern of +∞ in 16 bits is +∞. -/
theorem inf16 : (Ideal.ofBits .bf16 0x7F80#16 : EReal) = ⊤ := by simp [Ideal.ofBits, Ideal.ieee]

/-- The bit pattern of +∞ in 32 bits is +∞. -/
theorem inf32 : (Ideal.ofBits .f32 0x7F800000#32 : EReal) = ⊤ := by simp [Ideal.ofBits, Ideal.ieee]

/-- An array whose entries' absolute values are all below +∞ holds real numbers. -/
theorem finite_of_lt {s : Shape} {φ : FTy} (x b : FVec Ideal s φ) (hb : ∀ i, (b i : EReal) = ⊤)
    (h : cmpf .olt (Host.absf x) b = fun _ => 1#1) : Finite x := by
  intro i
  have e : BitVec.ofBool (decide (max (x i : EReal) (-(x i : EReal)) < (b i : EReal))) = 1#1 := congrFun h i
  rw [hb] at e
  have e' : max (x i : EReal) (-(x i : EReal)) < ⊤ := by
    by_contra hn
    rw [decide_eq_false hn] at e
    exact absurd e (by decide)
  obtain ⟨e1, e2⟩ := max_lt_iff.1 e'
  refine ⟨fun hx => ?_, ne_of_lt e1⟩
  rw [hx, EReal.neg_bot] at e2
  exact lt_irrefl _ e2

/-- The side conditions of the precondition's own operations. -/
theorem preFacts : Cert.Pre_finite_scores.Facts := ⟨by decide, by decide, by decide⟩

/-- The attention kernel computes the reference's attention where sinks, queries and keys are finite. -/
theorem equal : Cert.algebraic_AttnIdeal_RefAttnIdeal_pre_finite_scores (hPre_finite_scores := preFacts) := by
  intro m g m' g' hpre hag
  have hs := fun c => finite_of_lt _ _ (fun _ => inf32) (hpre c).1
  have hq := fun c => finite_of_lt _ _ (fun _ => inf16) (hpre c).2.1
  have hk := fun c => finite_of_lt _ _ (fun _ => inf32) (hpre c).2.2
  exact ⟨fun c => Cert.RefAttnIdeal.Hand.REF (m ((c : Thread nD τ).loc main_arg0)) (m ((c : Thread nD τ).loc main_arg1))
      (m ((c : Thread nD τ).loc main_arg2)) (m ((c : Thread nD τ).loc main_arg3)),
    (θ_run _ _ _).mono (fun r h c => ⟨(h c).1.trans (final m c (hs c) (hq c) (hk c)), (h c).2⟩) (Cert.AttnIdeal.Value.run_blocks m g),
    (θ_run _ _ _).mono (fun r h c => ⟨(h c).1.trans (by
      show Cert.RefAttnIdeal.Hand.REF (m' ((c : Thread nD τ).loc Cert.RefAttnIdeal.main_arg0)) (m' ((c : Thread nD τ).loc Cert.RefAttnIdeal.main_arg1))
        (m' ((c : Thread nD τ).loc Cert.RefAttnIdeal.main_arg2)) (m' ((c : Thread nD τ).loc Cert.RefAttnIdeal.main_arg3)) = _
      rw [(hag c).1, (hag c).2.1, (hag c).2.2.1, (hag c).2.2.2]), (h c).2⟩)
      (Cert.RefAttnIdeal.Value.run m' g')⟩

/-- The reference terminates with its arguments unchanged and nothing in flight. -/
theorem refFrame : Cert.quiescent_RefAttnIdeal := fun m g _ =>
  (θ_run Cert.RefAttnIdeal.defs _ _).mono (fun r h => ⟨fun c => (h c).2, sem_eq_zero_of_no_sems (by decide) r.2⟩)
    (Cert.RefAttnIdeal.Value.run m g)

end Cert.AttnIdeal.Hand

end
-- ==== Proof.QkvRef.lean ====
module

public import proofs.«01_k».proof.Defs
public import proofs.«01_k».proof.Proof.Gen.RefQkvIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.RefQkvIdeal.Hand

open Cert.RefQkvIdeal Cert.RefQkvIdeal.Gen
open Idealize.ShloMosaic Idealize.ShloMosaic.TcCoe Idealize.SL.Sem

/-- Each row over the root of its mean square plus a small constant, times a gain. -/
def NRM (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The normalised rows times the first columns of the input projection. -/
def DOT (x : FVec Ideal S2x4096x2048 .f32) (g : FVec Ideal S1x2048 .f32) (w : FVec Ideal S1x2048x8448 .f32) : FVec Ideal S2x4096x1280 .f32 :=
  Host.dotGeneral dot_S2x4096x2048_S2048x1280_S2x4096x1280_2_0_01_1_n_n none (NRM x g) (extractStridedSlice S2048x1280 ![0, 0] (shapeCast _ w shapeCasts_S1x2048x8448_S2048x8448) slices_S2048x8448_S2048x1280_0_0)

/-- The angle of a position and a frequency. -/
def ANG : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The cosines of the angles. -/
def COS : FVec Ideal S4096x32 .f32 := Host.cos ANG

/-- The sines of the angles. -/
def SIN : FVec Ideal S4096x32 .f32 := Host.sin ANG

/-- The queries by head. -/
def QX (x : FVec Ideal S2x4096x2048 .f32) (g : FVec Ideal S1x2048 .f32) (w : FVec Ideal S1x2048x8448 .f32) : FVec Ideal S2x4096x16x64 .f32 :=
  shapeCast _ (extractStridedSlice S2x4096x1024 ![0, 0, 0] (DOT x g w) slices_S2x4096x1280_S2x4096x1024_0_0_0) shapeCasts_S2x4096x1024_S2x4096x16x64

/-- The keys by head. -/
def KX (x : FVec Ideal S2x4096x2048 .f32) (g : FVec Ideal S1x2048 .f32) (w : FVec Ideal S1x2048x8448 .f32) : FVec Ideal S2x4096x2x64 .f32 :=
  shapeCast _ (extractStridedSlice S2x4096x128 ![0, 0, 1024] (DOT x g w) slices_S2x4096x1280_S2x4096x128_0_0_1024) shapeCasts_S2x4096x128_S2x4096x2x64

/-- The queries rotated by their position's angles. -/
def QR (x : FVec Ideal S2x4096x2048 .f32) (g : FVec Ideal S1x2048 .f32) (w : FVec Ideal S1x2048x8448 .f32) : FVec Ideal S2x4096x16x64 .f32 :=
  concatenate S2x4096x16x64 3 [⟨S2x4096x16x32, (subf (mulf (extractStridedSlice S2x4096x16x32 ![0, 0, 0, 0] (QX x g w) slices_S2x4096x16x64_S2x4096x16x32_0_0_0_0) (broadcastInDim S2x4096x16x32 ![0, 1, 2, 3] bcast_S1x4096x1x32_S2x4096x16x32_0_1_2_3 (broadcastInDim S1x4096x1x32 ![1, 3] bcast_S4096x32_S1x4096x1x32_1_3 COS)))
      (mulf (extractStridedSlice S2x4096x16x32 ![0, 0, 0, 32] (QX x g w) slices_S2x4096x16x64_S2x4096x16x32_0_0_0_32) (broadcastInDim S2x4096x16x32 ![0, 1, 2, 3] bcast_S1x4096x1x32_S2x4096x16x32_0_1_2_3 (broadcastInDim S1x4096x1x32 ![1, 3] bcast_S4096x32_S1x4096x1x32_1_3 SIN))))⟩,
    ⟨S2x4096x16x32, (addf (mulf (extractStridedSlice S2x4096x16x32 ![0, 0, 0, 32] (QX x g w) slices_S2x4096x16x64_S2x4096x16x32_0_0_0_32) (broadcastInDim S2x4096x16x32 ![0, 1, 2, 3] bcast_S1x4096x1x32_S2x4096x16x32_0_1_2_3 (broadcastInDim S1x4096x1x32 ![1, 3] bcast_S4096x32_S1x4096x1x32_1_3 COS)))
      (mulf (extractStridedSlice S2x4096x16x32 ![0, 0, 0, 0] (QX x g w) slices_S2x4096x16x64_S2x4096x16x32_0_0_0_0) (broadcastInDim S2x4096x16x32 ![0, 1, 2, 3] bcast_S1x4096x1x32_S2x4096x16x32_0_1_2_3 (broadcastInDim S1x4096x1x32 ![1, 3] bcast_S4096x32_S1x4096x1x32_1_3 SIN))))⟩]
    concatenates_S2x4096x16x32_S2x4096x16x32_S2x4096x16x64_d3

/-- The keys rotated by their position's angles. -/
def KR (x : FVec Ideal S2x4096x2048 .f32) (g : FVec Ideal S1x2048 .f32) (w : FVec Ideal S1x2048x8448 .f32) : FVec Ideal S2x4096x2x64 .f32 :=
  concatenate S2x4096x2x64 3 [⟨S2x4096x2x32, (subf (mulf (extractStridedSlice S2x4096x2x32 ![0, 0, 0, 0] (KX x g w) slices_S2x4096x2x64_S2x4096x2x32_0_0_0_0) (broadcastInDim S2x4096x2x32 ![0, 1, 2, 3] bcast_S1x4096x1x32_S2x4096x2x32_0_1_2_3 (broadcastInDim S1x4096x1x32 ![1, 3] bcast_S4096x32_S1x4096x1x32_1_3 COS)))
      (mulf (extractStridedSlice S2x4096x2x32 ![0, 0, 0, 32] (KX x g w) slices_S2x4096x2x64_S2x4096x2x32_0_0_0_32) (broadcastInDim S2x4096x2x32 ![0, 1, 2, 3] bcast_S1x4096x1x32_S2x4096x2x32_0_1_2_3 (broadcastInDim S1x4096x1x32 ![1, 3] bcast_S4096x32_S1x4096x1x32_1_3 SIN))))⟩,
    ⟨S2x4096x2x32, (addf (mulf (extractStridedSlice S2x4096x2x32 ![0, 0, 0, 32] (KX x g w) slices_S2x4096x2x64_S2x4096x2x32_0_0_0_32) (broadcastInDim S2x4096x2x32 ![0, 1, 2, 3] bcast_S1x4096x1x32_S2x4096x2x32_0_1_2_3 (broadcastInDim S1x4096x1x32 ![1, 3] bcast_S4096x32_S1x4096x1x32_1_3 COS)))
      (mulf (extractStridedSlice S2x4096x2x32 ![0, 0, 0, 0] (KX x g w) slices_S2x4096x2x64_S2x4096x2x32_0_0_0_0) (broadcastInDim S2x4096x2x32 ![0, 1, 2, 3] bcast_S1x4096x1x32_S2x4096x2x32_0_1_2_3 (broadcastInDim S1x4096x1x32 ![1, 3] bcast_S4096x32_S1x4096x1x32_1_3 SIN))))⟩]
    concatenates_S2x4096x2x32_S2x4096x2x32_S2x4096x2x64_d3

/-- The first result: the normalised rows. -/
def RES0 (x : FVec Ideal S2x4096x2048 .f32) (g : FVec Ideal S1x2048 .f32) : FVec Ideal S8192x2048 .bf16 :=
  truncf .bf16 (shapeCast _ (NRM x g) shapeCasts_S2x4096x2048_S8192x2048) bitsLt_bf16_f32

/-- The second result: the rotated and scaled queries. -/
def RES1 (x : FVec Ideal S2x4096x2048 .f32) (g : FVec Ideal S1x2048 .f32) (w : FVec Ideal S1x2048x8448 .f32) : FVec Ideal S8192x1024 .bf16 :=
  truncf .bf16 (shapeCast _ (mulf (QR x g w) (broadcastInDim S2x4096x16x64 ![] bcast_S_S2x4096x16x64 (constant S_ .f32 0x3E000000#32))) shapeCasts_S2x4096x16x64_S8192x1024) bitsLt_bf16_f32

/-- The third result: the rotated keys. -/
def RES2 (x : FVec Ideal S2x4096x2048 .f32) (g : FVec Ideal S1x2048 .f32) (w : FVec Ideal S1x2048x8448 .f32) : FVec Ideal S8192x128 .f32 :=
  shapeCast _ (KR x g w) shapeCasts_S2x4096x2x64_S8192x128

/-- The fourth result: the values. -/
def RES3 (x : FVec Ideal S2x4096x2048 .f32) (g : FVec Ideal S1x2048 .f32) (w : FVec Ideal S1x2048x8448 .f32) : FVec Ideal S8192x128 .f32 :=
  shapeCast _ (extractStridedSlice S2x4096x128 ![0, 0, 1152] (DOT x g w) slices_S2x4096x1280_S2x4096x128_0_0_1152) shapeCasts_S2x4096x128_S8192x128

/-- One entry of the projection, by row of the whole prompt. -/
def PRJ (x : FVec Ideal S2x4096x2048 .f32) (g : FVec Ideal S1x2048 .f32) (w : FVec Ideal S1x2048x8448 .f32) (r d : ℕ) : EReal :=
  if hh : r < 8192 ∧ d < 1280 then DOT x g w (ix3 ⟨r / 4096, by omega⟩ ⟨r % 4096, by omega⟩ ⟨d, hh.2⟩) else 0

/-- One cosine, by row of the whole prompt. -/
def CO (r l : ℕ) : EReal := COS (ix2 ⟨r % 4096, by omega⟩ ⟨l % 32, by omega⟩)

/-- One sine, by row of the whole prompt. -/
def SI (r l : ℕ) : EReal := SIN (ix2 ⟨r % 4096, by omega⟩ ⟨l % 32, by omega⟩)

/-- One rotated entry: the first half of a head less its partner, the second half plus its partner. -/
def ROT (x : FVec Ideal S2x4096x2048 .f32) (g : FVec Ideal S1x2048 .f32) (w : FVec Ideal S1x2048x8448 .f32) (r d : ℕ) : EReal :=
  if d % 64 < 32 then PRJ x g w r d * CO r d - PRJ x g w r (d + 32) * SI r d
  else PRJ x g w r d * CO r d + PRJ x g w r (d - 32) * SI r d

theorem rot_pos (x : FVec Ideal S2x4096x2048 .f32) (g : FVec Ideal S1x2048 .f32) (w : FVec Ideal S1x2048x8448 .f32) (r d : ℕ) (h : d % 64 < 32) :
    ROT x g w r d = PRJ x g w r d * CO r d - PRJ x g w r (d + 32) * SI r d := if_pos h

theorem rot_neg (x : FVec Ideal S2x4096x2048 .f32) (g : FVec Ideal S1x2048 .f32) (w : FVec Ideal S1x2048x8448 .f32) (r d : ℕ) (h : ¬ d % 64 < 32) :
    ROT x g w r d = PRJ x g w r d * CO r d + PRJ x g w r (d - 32) * SI r d := if_neg h

theorem prj_at (x : FVec Ideal S2x4096x2048 .f32) (g : FVec Ideal S1x2048 .f32) (w : FVec Ideal S1x2048x8448 .f32) (r d : ℕ) (n : Fin 2) (s : Fin 4096) (e : Fin 1280)
    (h : r = n * 4096 + s) (he : e.val = d) : DOT x g w (ix3 n s e) = PRJ x g w r d := by
  rw [PRJ, dif_pos ⟨by omega, by omega⟩]
  exact congrArg _ ((ix3_inj ..).2 ⟨Fin.ext (by show n.val = r / 4096; omega), Fin.ext (by show s.val = r % 4096; omega), Fin.ext he⟩)

theorem qx_at (x : FVec Ideal S2x4096x2048 .f32) (g : FVec Ideal S1x2048 .f32) (w : FVec Ideal S1x2048x8448 .f32) (r d : ℕ) (n : Fin 2) (s : Fin 4096) (a : Fin 16) (e : Fin 64)
    (h : r = n * 4096 + s) (he : a.val * 64 + e = d) : QX x g w (ix4 n s a e) = PRJ x g w r d := by
  pointwise [QX]
  exact prj_at x g w r d _ _ _ h (by show _ = d; simp only []; omega)

theorem kx_at (x : FVec Ideal S2x4096x2048 .f32) (g : FVec Ideal S1x2048 .f32) (w : FVec Ideal S1x2048x8448 .f32) (r d : ℕ) (n : Fin 2) (s : Fin 4096) (a : Fin 2) (e : Fin 64)
    (h : r = n * 4096 + s) (he : 1024 + (a.val * 64 + e) = d) : KX x g w (ix4 n s a e) = PRJ x g w r d := by
  pointwise [KX]
  exact prj_at x g w r d _ _ _ h (by show _ = d; simp only []; omega)

theorem qr_at (x : FVec Ideal S2x4096x2048 .f32) (g : FVec Ideal S1x2048 .f32) (w : FVec Ideal S1x2048x8448 .f32) (r d : ℕ) (n : Fin 2) (s : Fin 4096) (a : Fin 16) (e : Fin 64)
    (h : r = n * 4096 + s) (he : a.val * 64 + e = d) : QR x g w (ix4 n s a e) = ROT x g w r d := by
  pointwise [QR]
  by_cases hh : e.val < 32
  · simp only [hh, ↓reduceDIte, ↓reduceIte]
    refine Eq.trans ?_ (rot_pos x g w r d (by omega)).symm
    refine congrArg₂ (· - ·) (congrArg₂ (· * ·) (qx_at x g w r d n s a _ h he) ?_) (congrArg₂ (· * ·) (qx_at x g w r (d + 32) n s a _ h (by show a.val * 64 + (32 + e.val) = _; omega)) ?_)
    · exact congrArg COS ((ix2_inj ..).2 ⟨Fin.ext (by show s.val = r % 4096; omega), Fin.ext (by show e.val = d % 32; omega)⟩)
    · exact congrArg SIN ((ix2_inj ..).2 ⟨Fin.ext (by show s.val = r % 4096; omega), Fin.ext (by show e.val = d % 32; omega)⟩)
  · simp only [hh, ↓reduceDIte, ↓reduceIte]
    refine Eq.trans ?_ (rot_neg x g w r d (by omega)).symm
    refine congrArg₂ (· + ·) (congrArg₂ (· * ·) (qx_at x g w r d n s a _ h (by show a.val * 64 + (32 + (e.val - 32)) = _; omega)) ?_) (congrArg₂ (· * ·) (qx_at x g w r (d - 32) n s a _ h (by show a.val * 64 + (e.val - 32) = _; omega)) ?_)
    · exact congrArg COS ((ix2_inj ..).2 ⟨Fin.ext (by show s.val = r % 4096; omega), Fin.ext (by show e.val - 32 = d % 32; omega)⟩)
    · exact congrArg SIN ((ix2_inj ..).2 ⟨Fin.ext (by show s.val = r % 4096; omega), Fin.ext (by show e.val - 32 = d % 32; omega)⟩)

theorem kr_at (x : FVec Ideal S2x4096x2048 .f32) (g : FVec Ideal S1x2048 .f32) (w : FVec Ideal S1x2048x8448 .f32) (r d : ℕ) (n : Fin 2) (s : Fin 4096) (a : Fin 2) (e : Fin 64)
    (h : r = n * 4096 + s) (he : 1024 + (a.val * 64 + e) = d) : KR x g w (ix4 n s a e) = ROT x g w r d := by
  pointwise [KR]
  by_cases hh : e.val < 32
  · simp only [hh, ↓reduceDIte, ↓reduceIte]
    refine Eq.trans ?_ (rot_pos x g w r d (by omega)).symm
    refine congrArg₂ (· - ·) (congrArg₂ (· * ·) (kx_at x g w r d n s a _ h he) ?_) (congrArg₂ (· * ·) (kx_at x g w r (d + 32) n s a _ h (by show 1024 + (a.val * 64 + (32 + e.val)) = _; omega)) ?_)
    · exact congrArg COS ((ix2_inj ..).2 ⟨Fin.ext (by show s.val = r % 4096; omega), Fin.ext (by show e.val = d % 32; omega)⟩)
    · exact congrArg SIN ((ix2_inj ..).2 ⟨Fin.ext (by show s.val = r % 4096; omega), Fin.ext (by show e.val = d % 32; omega)⟩)
  · simp only [hh, ↓reduceDIte, ↓reduceIte]
    refine Eq.trans ?_ (rot_neg x g w r d (by omega)).symm
    refine congrArg₂ (· + ·) (congrArg₂ (· * ·) (kx_at x g w r d n s a _ h (by show 1024 + (a.val * 64 + (32 + (e.val - 32))) = _; omega)) ?_) (congrArg₂ (· * ·) (kx_at x g w r (d - 32) n s a _ h (by show 1024 + (a.val * 64 + (e.val - 32)) = _; omega)) ?_)
    · exact congrArg COS ((ix2_inj ..).2 ⟨Fin.ext (by show s.val = r % 4096; omega), Fin.ext (by show e.val - 32 = d % 32; omega)⟩)
    · exact congrArg SIN ((ix2_inj ..).2 ⟨Fin.ext (by show s.val = r % 4096; omega), Fin.ext (by show e.val - 32 = d % 32; omega)⟩)

/-- The first result, entry by entry. -/
theorem res0_at (x : FVec Ideal S2x4096x2048 .f32) (g : FVec Ideal S1x2048 .f32) (r : Fin 8192) (k : Fin 2048) :
    RES0 x g (ix2 r k) = NRM x g (ix3 ⟨r.val / 4096, by omega⟩ ⟨r.val % 4096, by omega⟩ k) := by
  pointwise [RES0]

theorem res1_at (x : FVec Ideal S2x4096x2048 .f32) (g : FVec Ideal S1x2048 .f32) (w : FVec Ideal S1x2048x8448 .f32) (r : Fin 8192) (d : Fin 1024) :
    RES1 x g w (ix2 r d) = ROT x g w r d * Ideal.ofBits .f32 0x3E000000#32 := by
  pointwise [RES1]
  refine congrArg₂ (· * ·) (qr_at x g w r d _ _ _ _ (by simp only []; omega) (by simp only []; omega)) rfl

theorem res2_at (x : FVec Ideal S2x4096x2048 .f32) (g : FVec Ideal S1x2048 .f32) (w : FVec Ideal S1x2048x8448 .f32) (r : Fin 8192) (d : Fin 128) : RES2 x g w (ix2 r d) = ROT x g w r (1024 + d) := by
  pointwise [RES2]
  exact kr_at x g w r _ _ _ _ _ (by simp only []; omega) (by simp only []; omega)

theorem res3_at (x : FVec Ideal S2x4096x2048 .f32) (g : FVec Ideal S1x2048 .f32) (w : FVec Ideal S1x2048x8448 .f32) (r : Fin 8192) (d : Fin 128) : RES3 x g w (ix2 r d) = PRJ x g w r (1152 + d) := by
  pointwise [RES3]
  exact prj_at x g w r _ _ _ _ (by simp only []; omega) (by simp only [])

end Cert.RefQkvIdeal.Hand

end
-- ==== Proof.QkvValue.lean ====
module

public import proofs.«01_k».proof.Defs
public import proofs.«01_k».proof.Proof.Gen.QkvIdeal.Value
public import proofs.«01_k».proof.Proof.Gen.RefQkvIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.QkvRef

@[expose] public section

set_option maxRecDepth 16384

noncomputable section

namespace Cert.QkvIdeal.Hand

open Cert.QkvIdeal Cert.QkvIdeal.Gen
open Idealize.ShloMosaic Idealize.ShloMosaic.TcCoe Idealize.SL.Sem
open Idealize.ShloMosaic.Pipeline (Dat)

variable (m : (ℓ : Loc nD τ sig) → Buf (Elt Ideal) ℓ)

open Cert.RefQkvIdeal.Hand (NRM DOT COS SIN ANG RES0 RES1 RES2 RES3 PRJ CO SI ROT prj_at res1_at res2_at res3_at)

/-- Which blocks a grid point reads and writes: its rows, with the angles' rows repeating for each sequence. -/
theorem idx : ∀ t : Fin cfg0.N, win0_0.index t = ![t.val, 0] ∧ win0_1.index t = ![0, 0] ∧ win0_2.index t = ![0, 0, 0]
    ∧ win0_3.index t = ![t.val % 8, 0] ∧ win0_4.index t = ![t.val % 8, 0] ∧ win0_5.index t = ![t.val, 0]
    ∧ win0_6.index t = ![t.val, 0] ∧ win0_7.index t = ![t.val, 0] ∧ win0_8.index t = ![t.val, 0] :=
  (by decide +kernel : ∀ t : Fin grid0.N, _)

theorem lt16 (t : Fin cfg0.N) : t.val < 16 := t.isLt

/-- The first columns of the input projection's weights. -/
def WQ (w : FVec Ideal S1x2048x8448 .f32) : FVec Ideal S2048x1280 .bf16 := fun j =>
  w (ix3 0 (j 0) ⟨(j 1).val, by
    have := (j 1).isLt
    have h : S2048x1280.size 1 = 1280 := rfl
    omega⟩)

/-- The staged weights are the first columns. -/
theorem x2_at (c : Dev nD) (t : Fin cfg0.N) (j : S2048x1280.Idx) :
    k0_pay5 (F := Ideal) (X0_2 m c t) j = WQ (m ((c : Thread nD τ).loc main_arg2)) j := by
  pointwise [k0_pay5, WQ]
  unfold X0_2 Pipeline.Window.fill
  rw [dif_pos (moved0_2 t _)]
  blk_point [iblk, V, idx t]

/-- The weights kept in scratch are, at every point, the first columns. -/
theorem held (c : Dev nD) (t : Fin cfg0.N) (j : S2048x1280.Idx) :
    (outsAt0 m c t.val t.isLt).2.2.2.2 j = WQ (m ((c : Thread nD τ).loc main_arg2)) j := by
  refine Pipeline.eq_of_write_hold_apply (fun n h => (outsAt0 m c n h).2.2.2.2) 16
    (fun _ => WQ (m ((c : Thread nD τ).loc main_arg2))) ?_ ?_ t j
  · intro t h j
    rw [outsAt0_A m c t h]; frame_out
    exact x2_at m c t j
  · intro t h j
    rw [outsAt0_B m c t h]; rfl

/-- The cosines the kernel is given, by row and column. -/
theorem cos_at (c : Dev nD) (r : Fin 4096) (l : Fin 128) :
    V m c main_v18 (ix2 r l) = COS (ix2 r ⟨l.val % 32, by omega⟩) := by
  entry_read
  pointwise [COS, ANG]
  by_cases hh : l.val % 64 < 32
  · simp only [hh, ↓reduceDIte]
    rw [show l.val % 64 = l.val % 32 by omega]
  · simp only [hh, ↓reduceDIte]
    rw [show l.val % 64 - 32 = l.val % 32 by omega]

/-- The sines the kernel is given: negated in the first half of each head. -/
theorem sin_at (c : Dev nD) (r : Fin 4096) (l : Fin 128) :
    V m c main_v23 (ix2 r l) = if l.val % 64 < 32 then - SIN (ix2 r ⟨l.val % 32, by omega⟩) else SIN (ix2 r ⟨l.val % 32, by omega⟩) := by
  entry_read
  pointwise [SIN, ANG]
  by_cases hh : l.val % 64 < 32
  · simp only [hh, ↓reduceDIte, ↓reduceIte]
    rw [show l.val % 64 = l.val % 32 by omega]
  · simp only [hh, ↓reduceDIte, ↓reduceIte]
    rw [show l.val % 64 - 32 = l.val % 32 by omega]

/-- One entry of the normalised rows. -/
theorem pay6_at (c : Dev nD) (t : Fin cfg0.N) (r : Fin 512) (k : Fin 2048) (n : Fin 2) (s : Fin 4096) (h : n.val * 4096 + s = 512 * t + r) :
    k0_pay6 (F := Ideal) (iblk m c 0 t) (iblk m c 1 t) (ix2 r k)
      = NRM (m ((c : Thread nD τ).loc main_arg0)) (m ((c : Thread nD τ).loc main_arg1)) (ix3 n s k) := by
  pointwise [k0_pay6, NRM]
  blk_point [iblk, V, idx t]

/-- One entry of the projection. -/
theorem pay7_at (c : Dev nD) (t : Fin cfg0.N) (r : Fin 512) (d : Fin 1280) :
    k0_pay7 (F := Ideal) (iblk m c 0 t) (iblk m c 1 t) (WQ (m ((c : Thread nD τ).loc main_arg2))) (ix2 r d)
      = PRJ (m ((c : Thread nD τ).loc main_arg0)) (m ((c : Thread nD τ).loc main_arg1)) (m ((c : Thread nD τ).loc main_arg2)) (512 * t + r) d := by
  have ht := lt16 t
  rw [PRJ, dif_pos ⟨by omega, d.isLt⟩]
  pointwise [k0_pay7, DOT, WQ]
  refine Finset.sum_congr rfl fun k _ => Ideal.mul_congr ?_ rfl
  exact pay6_at m c t r k _ _ (by show (512 * t.val + r.val) / 4096 * 4096 + (512 * t.val + r.val) % 4096 = _; omega)

/-- Which lanes are in the first half of a head. -/
theorem mask_at (r : Fin 512) (l : Fin 128) :
    k0_pay13 64#32 k0_pay10 k0_pay11 k0_pay12 (ix2 r l) = if l.val % 64 < 32 then 1#1 else 0#1 := by
  pointwise [k0_pay13, k0_pay10, k0_pay11, k0_pay12]
  clear r
  revert l
  decide +kernel

/-- The cosines of a point's rows. -/
theorem cosb_at (c : Dev nD) (t : Fin cfg0.N) (r : Fin 512) (l : Fin 128) (d : ℕ) (hd : d % 32 = l.val % 32) :
    k0_pay8 (F := Ideal) (iblk m c 3 t) (ix2 r l) = CO (512 * t + r) d := by
  pointwise [k0_pay8]
  have e : iblk m c 3 t (ix2 r l) = V m c main_v18 (ix2 ⟨512 * (t.val % 8) + r.val, by omega⟩ l) := by blk_ext [iblk, idx t]
  refine e.trans ((cos_at m c _ l).trans (congrArg COS ((ix2_inj ..).2 ⟨Fin.ext ?_, Fin.ext ?_⟩)))
  · show 512 * (t.val % 8) + r.val = (512 * t.val + r.val) % 4096; omega
  · exact hd.symm

/-- The sines of a point's rows, negated in the first half of each head. -/
theorem sinb_at (c : Dev nD) (t : Fin cfg0.N) (r : Fin 512) (l : Fin 128) (d : ℕ) (hd : d % 32 = l.val % 32) :
    k0_pay9 (F := Ideal) (iblk m c 4 t) (ix2 r l) = if l.val % 64 < 32 then - SI (512 * t + r) d else SI (512 * t + r) d := by
  pointwise [k0_pay9]
  have e : iblk m c 4 t (ix2 r l) = V m c main_v23 (ix2 ⟨512 * (t.val % 8) + r.val, by omega⟩ l) := by blk_ext [iblk, idx t]
  have e' : SIN (ix2 ⟨512 * (t.val % 8) + r.val, by omega⟩ ⟨l.val % 32, by omega⟩) = SI (512 * t + r) d :=
    congrArg SIN ((ix2_inj ..).2 ⟨Fin.ext (by show 512 * (t.val % 8) + r.val = (512 * t.val + r.val) % 4096; omega), Fin.ext hd.symm⟩)
  refine e.trans ((sin_at m c _ l).trans ?_)
  rw [e']

/-- The rotation of one group of 128 columns, as the kernel computes it. -/
def ROTK (x v23 v25 : FVec Ideal S512x128 .f32) (v44 : IVec S512x128 1) : FVec Ideal S512x128 .f32 :=
  addf (mulf x v23) (mulf (select v44 (dynamicRotate 1 96#32 none x rotates_S512x128_d1) (dynamicRotate 1 32#32 none x rotates_S512x128_d1)) v25)

/-- The rotation of two heads is the reference's. -/
theorem rotk_at (c : Dev nD) (t : Fin cfg0.N) (o : ℕ) (ho : o % 128 = 0) (x : FVec Ideal S512x128 .f32)
    (hx : ∀ (r : Fin 512) (l : Fin 128), x (ix2 r l) = PRJ (m ((c : Thread nD τ).loc main_arg0)) (m ((c : Thread nD τ).loc main_arg1)) (m ((c : Thread nD τ).loc main_arg2)) (512 * t + r) (o + l)) (r : Fin 512) (l : Fin 128) :
    ROTK x (k0_pay8 (iblk m c 3 t)) (k0_pay9 (iblk m c 4 t)) (k0_pay13 64#32 k0_pay10 k0_pay11 k0_pay12) (ix2 r l)
      = ROT (m ((c : Thread nD τ).loc main_arg0)) (m ((c : Thread nD τ).loc main_arg1)) (m ((c : Thread nD τ).loc main_arg2)) (512 * t + r) (o + l) := by
  pointwise [ROTK]
  rw [mask_at, cosb_at m c t r l (o + l) (by omega), sinb_at m c t r l (o + l) (by omega), hx, hx, hx]
  by_cases hh : l.val % 64 < 32
  · rw [if_pos hh, if_pos hh]
    refine Eq.trans ?_ (Cert.RefQkvIdeal.Hand.rot_pos _ _ _ _ _ (by omega)).symm
    show _ + PRJ (m ((c : Thread nD τ).loc main_arg0)) (m ((c : Thread nD τ).loc main_arg1)) (m ((c : Thread nD τ).loc main_arg2)) (512 * t + r) (o + (l.val + 128 - 96) % 128) * - SI (512 * t + r) (o + l) = _
    rw [show o + (l.val + 128 - 96) % 128 = o + l.val + 32 by omega, mul_neg, sub_eq_add_neg]
  · rw [if_neg hh, if_neg hh]
    refine Eq.trans ?_ (Cert.RefQkvIdeal.Hand.rot_neg _ _ _ _ _ (by omega)).symm
    show _ + PRJ (m ((c : Thread nD τ).loc main_arg0)) (m ((c : Thread nD τ).loc main_arg1)) (m ((c : Thread nD τ).loc main_arg2)) (512 * t + r) (o + (l.val + 128 - 32) % 128) * SI (512 * t + r) (o + l) = _
    rw [show o + (l.val + 128 - 32) % 128 = o + l.val - 32 by omega]

/-- One group of 128 columns of the projection. -/
theorem slc_at (o : ℕ) (ho : o + 128 ≤ 1280) (h : S512x1280.Slices ![0, o] S512x128) (v : FVec Ideal S512x1280 .f32) (r : Fin 512) (l : Fin 128) :
    extractStridedSlice S512x128 ![0, o] v h (ix2 r l) = v (ix2 r ⟨o + l.val, by omega⟩) := by
  refine congrArg v (funext fun a => Fin.ext ?_)
  fin_cases a
  · show 0 + r.val = r.val; omega
  · rfl

/-- The rotated group of columns, from the projection that the kernel computes. -/
theorem rots_at (c : Dev nD) (t : Fin cfg0.N) (W : FVec Ideal S2048x1280 .bf16) (hW : ∀ j, W j = WQ (m ((c : Thread nD τ).loc main_arg2)) j) (o : ℕ) (ho : o % 128 = 0 ∧ o + 128 ≤ 1280)
    (h : S512x1280.Slices ![0, o] S512x128) (r : Fin 512) (l : Fin 128) :
    ROTK (extractStridedSlice S512x128 ![0, o] (k0_pay7 (iblk m c 0 t) (iblk m c 1 t) W) h)
      (k0_pay8 (iblk m c 3 t)) (k0_pay9 (iblk m c 4 t)) (k0_pay13 64#32 k0_pay10 k0_pay11 k0_pay12) (ix2 r l)
      = ROT (m ((c : Thread nD τ).loc main_arg0)) (m ((c : Thread nD τ).loc main_arg1)) (m ((c : Thread nD τ).loc main_arg2)) (512 * t + r) (o + l) := by
  obtain rfl : W = _ := funext hW
  exact rotk_at m c t o ho.1 _ (fun r l => (slc_at o ho.2 h _ r l).trans (pay7_at m c t r ⟨o + l.val, by omega⟩)) r l

/-- One group of 128 columns of the queries. -/
theorem qcore (c : Dev nD) (t : Fin cfg0.N) (W : FVec Ideal S2048x1280 .bf16) (hW : ∀ j, W j = WQ (m ((c : Thread nD τ).loc main_arg2)) j) (o : ℕ) (ho : o % 128 = 0 ∧ o + 128 ≤ 1024)
    (h : S512x1280.Slices ![0, o] S512x128) (z : S512x128.Idx) (y : S512x1024.Idx) (h0 : (y 0).val = (z 0).val) (h1 : (y 1).val = o + (z 1).val) :
    truncf .bf16 (mulf (ROTK (extractStridedSlice S512x128 ![0, o] (k0_pay7 (iblk m c 0 t) (iblk m c 1 t) W) h)
      (k0_pay8 (iblk m c 3 t)) (k0_pay9 (iblk m c 4 t)) (k0_pay13 64#32 k0_pay10 k0_pay11 k0_pay12))
      (broadcast S512x128 (Scalar.ofBits (F := Ideal) .f32 0x3E000000#32))) bitsLt_bf16_f32 z
      = RES1 (m ((c : Thread nD τ).loc main_arg0)) (m ((c : Thread nD τ).loc main_arg1)) (m ((c : Thread nD τ).loc main_arg2)) (((cfg0.win 6).blk t).view.emb y) := by
  have ht := lt16 t
  have hz0 := (z 0).isLt
  have hz1 := (z 1).isLt
  have hr : ((cfg0.win 6).blk t).view.emb y = ix2 ⟨512 * t.val + (z 0).val, by change (z 0).val < 512 at hz0; omega⟩ ⟨o + (z 1).val, by change (z 1).val < 128 at hz1; omega⟩ := by
    blk_ext [idx t]
  refine Eq.trans ?_ ((congrArg _ hr).trans (Cert.RefQkvIdeal.Hand.res1_at _ _ _ _ _)).symm
  refine (congrArg _ (eq_ix2 z)).trans ?_
  exact congrArg (· * Ideal.ofBits .f32 0x3E000000#32) (rots_at m c t W hW o ⟨ho.1, by omega⟩ h (z 0) (z 1))

/-- The second result is the reference's. -/
theorem final1 (c : Dev nD) : (dats m 0 c).arrAt 6 (cfgs 0).N = RES1 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have hh0 := held m c t
  by_cases h : t.val % 16 = 0
  · rw [outsAt0_A m c t h] at hh0 ⊢
    frame_out at hh0 ⊢
    canon_tiles x hx
    · exact qcore m c t _ hh0 896 (by decide) _ x y hx0 hx1
    · exact qcore m c t _ hh0 768 (by decide) slices_S512x1280_o0_768_S512x128 x y hx0 hx1
    · exact qcore m c t _ hh0 640 (by decide) _ x y hx0 hx1
    · exact qcore m c t _ hh0 512 (by decide) _ x y hx0 hx1
    · exact qcore m c t _ hh0 384 (by decide) _ x y hx0 hx1
    · exact qcore m c t _ hh0 256 (by decide) _ x y hx0 hx1
    · exact qcore m c t _ hh0 128 (by decide) _ x y hx0 hx1
    · exact qcore m c t _ hh0 0 (by decide) _ x y hx0 (by omega)
  · rw [outsAt0_B m c t h] at hh0 ⊢
    frame_out
    simp only [read_unread_whole]
    canon_tiles x hx
    · exact qcore m c t _ hh0 896 (by decide) _ x y hx0 hx1
    · exact qcore m c t _ hh0 768 (by decide) slices_S512x1280_o0_768_S512x128 x y hx0 hx1
    · exact qcore m c t _ hh0 640 (by decide) _ x y hx0 hx1
    · exact qcore m c t _ hh0 512 (by decide) _ x y hx0 hx1
    · exact qcore m c t _ hh0 384 (by decide) _ x y hx0 hx1
    · exact qcore m c t _ hh0 256 (by decide) _ x y hx0 hx1
    · exact qcore m c t _ hh0 128 (by decide) _ x y hx0 hx1
    · exact qcore m c t _ hh0 0 (by decide) _ x y hx0 (by omega)

/-- The keys of a block. -/
theorem kcore (c : Dev nD) (t : Fin cfg0.N) (W : FVec Ideal S2048x1280 .bf16) (hW : ∀ j, W j = WQ (m ((c : Thread nD τ).loc main_arg2)) j) (y : S512x128.Idx) :
    k0_pay3 (F := Ideal) (k0_pay7 (iblk m c 0 t) (iblk m c 1 t) W) (k0_pay8 (iblk m c 3 t)) (k0_pay9 (iblk m c 4 t)) (k0_pay13 64#32 k0_pay10 k0_pay11 k0_pay12) y
      = RES2 (m ((c : Thread nD τ).loc main_arg0)) (m ((c : Thread nD τ).loc main_arg1)) (m ((c : Thread nD τ).loc main_arg2)) (((cfg0.win 7).blk t).view.emb y) := by
  have ht := lt16 t
  have hr : ((cfg0.win 7).blk t).view.emb y = ix2 ⟨512 * t.val + (y 0).val, by have : (y 0).val < 512 := (y 0).isLt; omega⟩ (y 1) := by
    blk_ext [idx t]
  refine Eq.trans ?_ ((congrArg _ hr).trans (Cert.RefQkvIdeal.Hand.res2_at _ _ _ _ _)).symm
  refine (congrArg _ (eq_ix2 y)).trans ?_
  exact rots_at m c t W hW 1024 (by decide) _ (y 0) (y 1)

/-- The values of a block. -/
theorem vcore (c : Dev nD) (t : Fin cfg0.N) (W : FVec Ideal S2048x1280 .bf16) (hW : ∀ j, W j = WQ (m ((c : Thread nD τ).loc main_arg2)) j) (y : S512x128.Idx) :
    k0_pay4 (F := Ideal) (k0_pay7 (iblk m c 0 t) (iblk m c 1 t) W) y
      = RES3 (m ((c : Thread nD τ).loc main_arg0)) (m ((c : Thread nD τ).loc main_arg1)) (m ((c : Thread nD τ).loc main_arg2)) (((cfg0.win 8).blk t).view.emb y) := by
  have ht := lt16 t
  obtain rfl : W = _ := funext hW
  have hr : ((cfg0.win 8).blk t).view.emb y = ix2 ⟨512 * t.val + (y 0).val, by have : (y 0).val < 512 := (y 0).isLt; omega⟩ (y 1) := by
    blk_ext [idx t]
  refine Eq.trans ?_ ((congrArg _ hr).trans (Cert.RefQkvIdeal.Hand.res3_at _ _ _ _ _)).symm
  refine (congrArg _ (eq_ix2 y)).trans ?_
  exact (slc_at 1152 (by decide) slices_S512x1280_o0_1152_S512x128 _ (y 0) (y 1)).trans (pay7_at m c t (y 0) ⟨1152 + (y 1).val, by have : (y 1).val < 128 := (y 1).isLt; omega⟩)

/-- The normalised rows of a block. -/
theorem hcore (c : Dev nD) (t : Fin cfg0.N) (y : S512x2048.Idx) :
    k0_pay6 (F := Ideal) (iblk m c 0 t) (iblk m c 1 t) y = RES0 (m ((c : Thread nD τ).loc main_arg0)) (m ((c : Thread nD τ).loc main_arg1)) (((cfg0.win 5).blk t).view.emb y) := by
  have ht := lt16 t
  have hy : (y 0).val < 512 := (y 0).isLt
  have hr : ((cfg0.win 5).blk t).view.emb y = ix2 ⟨512 * t.val + (y 0).val, by omega⟩ (y 1) := by
    blk_ext [idx t]
  refine Eq.trans ?_ ((congrArg _ hr).trans (Cert.RefQkvIdeal.Hand.res0_at _ _ _ _)).symm
  refine (congrArg _ (eq_ix2 y)).trans ?_
  exact pay6_at m c t (y 0) (y 1) _ _ (by show (512 * t.val + (y 0).val) / 4096 * 4096 + (512 * t.val + (y 0).val) % 4096 = _; omega)

/-- The first result is the reference's. -/
theorem final0 (c : Dev nD) : (dats m 0 c).arrAt 5 (cfgs 0).N = RES0 (m ((c : Thread nD τ).loc main_arg0)) (m ((c : Thread nD τ).loc main_arg1)) := by
  refine (dats m 0 c).arrAt_eq_of_covers 5 _ (by decide +kernel) fun t hf y => ?_
  blk_simp
  rw [after0_5]
  by_cases h : t.val % 16 = 0
  · rw [outsAt0_A m c t h]; frame_out
    exact hcore m c t y
  · rw [outsAt0_B m c t h]; frame_out
    exact hcore m c t y

/-- The third result is the reference's. -/
theorem final2 (c : Dev nD) : (dats m 0 c).arrAt 7 (cfgs 0).N = RES2 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have hh0 := held m c t
  by_cases h : t.val % 16 = 0
  · rw [outsAt0_A m c t h] at hh0 ⊢
    frame_out at hh0 ⊢
    exact kcore m c t _ hh0 y
  · rw [outsAt0_B m c t h] at hh0 ⊢
    frame_out
    simp only [read_unread_whole]
    exact kcore m c t _ hh0 y

/-- The fourth result is the reference's. -/
theorem final3 (c : Dev nD) : (dats m 0 c).arrAt 8 (cfgs 0).N = RES3 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  have hh0 := held m c t
  by_cases h : t.val % 16 = 0
  · rw [outsAt0_A m c t h] at hh0 ⊢
    frame_out at hh0 ⊢
    exact vcore m c t _ hh0 y
  · rw [outsAt0_B m c t h] at hh0 ⊢
    frame_out
    simp only [read_unread_whole]
    exact vcore m c t _ hh0 y

/-- The kernel over the reals and the reference end with the same results. -/
theorem equal : Cert.algebraic_QkvIdeal_RefQkvIdeal := by
  intro m g m' g' _ hag
  refine ⟨fun c => RES0 (m ((c : Thread nD τ).loc main_arg0)) (m ((c : Thread nD τ).loc main_arg1)), fun c => RES1 (m ((c : Thread nD τ).loc main_arg0)) (m ((c : Thread nD τ).loc main_arg1)) (m ((c : Thread nD τ).loc main_arg2)), fun c => RES2 (m ((c : Thread nD τ).loc main_arg0)) (m ((c : Thread nD τ).loc main_arg1)) (m ((c : Thread nD τ).loc main_arg2)), fun c => RES3 (m ((c : Thread nD τ).loc main_arg0)) (m ((c : Thread nD τ).loc main_arg1)) (m ((c : Thread nD τ).loc main_arg2)),
    (θ_run _ _ _).mono (fun r h c => ⟨(h c).1.trans (final0 m c), (h c).2.1.trans (final1 m c), (h c).2.2.1.trans (final2 m c), (h c).2.2.2.1.trans (final3 m c), (h c).2.2.2.2⟩)
      (Cert.QkvIdeal.Value.run_blocks m g),
    (θ_run _ _ _).mono (fun r h c => ⟨(h c).1.trans ?_, (h c).2.1.trans ?_, (h c).2.2.1.trans ?_, (h c).2.2.2.1.trans ?_, (h c).2.2.2.2⟩) (Cert.RefQkvIdeal.Value.run m' g')⟩
  · show RES0 (m' ((c : Thread nD τ).loc Cert.RefQkvIdeal.main_arg0)) (m' ((c : Thread nD τ).loc Cert.RefQkvIdeal.main_arg1)) = _
    rw [(hag c).1, (hag c).2.1]
  · show RES1 (m' ((c : Thread nD τ).loc Cert.RefQkvIdeal.main_arg0)) (m' ((c : Thread nD τ).loc Cert.RefQkvIdeal.main_arg1)) (m' ((c : Thread nD τ).loc Cert.RefQkvIdeal.main_arg2)) = _
    rw [(hag c).1, (hag c).2.1, (hag c).2.2]
  · show RES2 (m' ((c : Thread nD τ).loc Cert.RefQkvIdeal.main_arg0)) (m' ((c : Thread nD τ).loc Cert.RefQkvIdeal.main_arg1)) (m' ((c : Thread nD τ).loc Cert.RefQkvIdeal.main_arg2)) = _
    rw [(hag c).1, (hag c).2.1, (hag c).2.2]
  · show RES3 (m' ((c : Thread nD τ).loc Cert.RefQkvIdeal.main_arg0)) (m' ((c : Thread nD τ).loc Cert.RefQkvIdeal.main_arg1)) (m' ((c : Thread nD τ).loc Cert.RefQkvIdeal.main_arg2)) = _
    rw [(hag c).1, (hag c).2.1, (hag c).2.2]

/-- The reference terminates with its arguments unchanged and nothing in flight. -/
theorem refFrame : Cert.quiescent_RefQkvIdeal := fun m g _ =>
  (θ_run Cert.RefQkvIdeal.defs _ _).mono (fun r h => ⟨fun c => (h c).2.2.2.2, sem_eq_zero_of_no_sems (by decide) r.2⟩)
    (Cert.RefQkvIdeal.Value.run m g)

end Cert.QkvIdeal.Hand

end
-- ==== Proof.ConvRef.lean ====
module

public import proofs.«01_k».proof.Defs
public import proofs.«01_k».proof.Proof.Gen.RefConvIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.RefConvIdeal.Hand

open Cert.RefConvIdeal Cert.RefConvIdeal.Gen
open Idealize.ShloMosaic Idealize.ShloMosaic.TcCoe Idealize.SL.Sem

/-- The hidden states times the whole input projection, by (sequence, row, column). -/
def DOT (h : FVec Ideal S8192x2048 .bf16) (w : FVec Ideal S1x2048x8448 .f32) : FVec Ideal S2x4096x8448 .f32 :=
  Host.dotGeneral dot_S2x4096x2048_S2048x8448_S2x4096x8448_2_0_01_1_n_n none
    (shapeCast _ (extf .f32 h bitsLt_bf16_f32) shapeCasts_S8192x2048_S2x4096x2048) (shapeCast _ w shapeCasts_S1x2048x8448_S2048x8448)

/-- The product that is convolved, with two rows of zeros before each sequence. -/
def HAL (h : FVec Ideal S8192x2048 .bf16) (w : FVec Ideal S1x2048x8448 .f32) : FVec Ideal S2x4098x1024 .f32 :=
  concatenate S2x4098x1024 1 [⟨S2x2x1024, (broadcastInDim S2x2x1024 ![] bcast_S_S2x2x1024 (constant S_ .f32 0x00000000#32))⟩,
    ⟨S2x4096x1024, (mulf (extractStridedSlice S2x4096x1024 ![0, 0, 2304] (DOT h w) slices_S2x4096x8448_S2x4096x1024_0_0_2304)
      (extractStridedSlice S2x4096x1024 ![0, 0, 3328] (DOT h w) slices_S2x4096x8448_S2x4096x1024_0_0_3328))⟩]
    concatenates_S2x2x1024_S2x4096x1024_S2x4098x1024_d1

/-- The convolution of three rows over the padded product. -/
def CNV (h : FVec Ideal S8192x2048 .bf16) (w : FVec Ideal S1x2048x8448 .f32) (k : FVec Ideal S1x3x1024 .f32) : FVec Ideal S2x4096x1024 .f32 :=
  addf (addf
    (mulf (broadcastInDim S2x4096x1024 ![0, 1, 2] bcast_S1x1x1024_S2x4096x1024_0_1_2 (broadcastInDim S1x1x1024 ![2] bcast_S1024_S1x1x1024_2
        (shapeCast _ (extractStridedSlice S1x1024 ![0, 0] (shapeCast _ k shapeCasts_S1x3x1024_S3x1024) slices_S3x1024_S1x1024_0_0) shapeCasts_S1x1024_S1024)))
      (extractStridedSlice S2x4096x1024 ![0, 0, 0] (HAL h w) slices_S2x4098x1024_S2x4096x1024_0_0_0))
    (mulf (broadcastInDim S2x4096x1024 ![0, 1, 2] bcast_S1x1x1024_S2x4096x1024_0_1_2 (broadcastInDim S1x1x1024 ![2] bcast_S1024_S1x1x1024_2
        (shapeCast _ (extractStridedSlice S1x1024 ![1, 0] (shapeCast _ k shapeCasts_S1x3x1024_S3x1024) slices_S3x1024_S1x1024_1_0) shapeCasts_S1x1024_S1024)))
      (extractStridedSlice S2x4096x1024 ![0, 1, 0] (HAL h w) slices_S2x4098x1024_S2x4096x1024_0_1_0)))
    (mulf (broadcastInDim S2x4096x1024 ![0, 1, 2] bcast_S1x1x1024_S2x4096x1024_0_1_2 (broadcastInDim S1x1x1024 ![2] bcast_S1024_S1x1x1024_2
        (shapeCast _ (extractStridedSlice S1x1024 ![2, 0] (shapeCast _ k shapeCasts_S1x3x1024_S3x1024) slices_S3x1024_S1x1024_2_0) shapeCasts_S1x1024_S1024)))
      (extractStridedSlice S2x4096x1024 ![0, 2, 0] (HAL h w) slices_S2x4098x1024_S2x4096x1024_0_2_0))

/-- What the reference leaves first: the convolution times its gate. -/
def REF (h : FVec Ideal S8192x2048 .bf16) (w : FVec Ideal S1x2048x8448 .f32) (k : FVec Ideal S1x3x1024 .f32) : FVec Ideal S8192x1024 .bf16 :=
  truncf .bf16 (shapeCast _ (mulf (extractStridedSlice S2x4096x1024 ![0, 0, 1280] (DOT h w) slices_S2x4096x8448_S2x4096x1024_0_0_1280)
    (CNV h w k)) shapeCasts_S2x4096x1024_S8192x1024) bitsLt_bf16_f32

/-- What the reference leaves second: the last two rows of the product. -/
def STT (h : FVec Ideal S8192x2048 .bf16) (w : FVec Ideal S1x2048x8448 .f32) : FVec Ideal S2x2x1024 .f32 :=
  extractStridedSlice S2x2x1024 ![0, 4096, 0] (HAL h w) slices_S2x4098x1024_S2x2x1024_0_4096_0

/-- One entry of the input projection. -/
def ROW (h : FVec Ideal S8192x2048 .bf16) (w : FVec Ideal S1x2048x8448 .f32) (r d : ℕ) : EReal :=
  if hh : r < 8192 ∧ d < 8448 then ∑ k : Fin 2048, h (ix2 ⟨r, hh.1⟩ k) * w (ix3 0 k ⟨d, hh.2⟩) else 0

/-- One entry of the product that is convolved. -/
def CUR (h : FVec Ideal S8192x2048 .bf16) (w : FVec Ideal S1x2048x8448 .f32) (r d : ℕ) : EReal := ROW h w r (2304 + d) * ROW h w r (3328 + d)

/-- The product's entry `s` rows earlier in the same sequence, zero before its start. -/
def PRV (h : FVec Ideal S8192x2048 .bf16) (w : FVec Ideal S1x2048x8448 .f32) (s r d : ℕ) : EReal :=
  if s ≤ r % 4096 then CUR h w (r - s) d else 0

/-- One entry of the first result. -/
def ENT (h : FVec Ideal S8192x2048 .bf16) (w : FVec Ideal S1x2048x8448 .f32) (k : FVec Ideal S1x3x1024 .f32) (r : ℕ) (d : Fin 1024) : EReal :=
  ROW h w r (1280 + d) * (k (ix3 0 0 d) * PRV h w 2 r d + k (ix3 0 1 d) * PRV h w 1 r d + k (ix3 0 2 d) * CUR h w r d)

theorem dot_at (h : FVec Ideal S8192x2048 .bf16) (w : FVec Ideal S1x2048x8448 .f32) (n : Fin 2) (s : Fin 4096) (d : Fin 8448) :
    DOT h w (ix3 n s d) = ROW h w (n * 4096 + s) d := by
  pointwise [DOT]
  rw [ROW, dif_pos ⟨by omega, d.isLt⟩]

theorem hal_at (h : FVec Ideal S8192x2048 .bf16) (w : FVec Ideal S1x2048x8448 .f32) (n : Fin 2) (s : Fin 4098) (d : Fin 1024) :
    HAL h w (ix3 n s d) = if s.val < 2 then 0 else CUR h w (n * 4096 + (s - 2)) d := by
  pointwise [HAL]
  by_cases hs : s.val < 2
  · simp only [hs, ↓reduceDIte, ↓reduceIte]
  · simp only [hs, ↓reduceDIte, ↓reduceIte]
    exact congrArg₂ (· * ·) (dot_at h w n ⟨s.val - 2, by omega⟩ ⟨2304 + d.val, by omega⟩) (dot_at h w n ⟨s.val - 2, by omega⟩ ⟨3328 + d.val, by omega⟩)

theorem prv_at (h : FVec Ideal S8192x2048 .bf16) (w : FVec Ideal S1x2048x8448 .f32) (r : Fin 8192) (d : Fin 1024) (a : ℕ) (ha : a ≤ 2)
    (s : Fin 4098) (hs : s.val = a + r.val % 4096) (n : Fin 2) (hn : n.val = r.val / 4096) :
    HAL h w (ix3 n s d) = PRV h w (2 - a) r d := by
  rw [hal_at, PRV]
  by_cases h2 : s.val < 2
  · rw [if_pos h2, if_neg (by omega)]
  · rw [if_neg h2, if_pos (by omega)]
    congr 1; omega

theorem cnv_at (h : FVec Ideal S8192x2048 .bf16) (w : FVec Ideal S1x2048x8448 .f32) (k : FVec Ideal S1x3x1024 .f32) (n : Fin 2) (s : Fin 4096) (d : Fin 1024) :
    CNV h w k (ix3 n s d) = k (ix3 0 0 d) * HAL h w (ix3 n ⟨s, by omega⟩ d) + k (ix3 0 1 d) * HAL h w (ix3 n ⟨1 + s, by omega⟩ d)
      + k (ix3 0 2 d) * HAL h w (ix3 n ⟨2 + s, by omega⟩ d) := by
  pointwise [CNV]

theorem ref_at (h : FVec Ideal S8192x2048 .bf16) (w : FVec Ideal S1x2048x8448 .f32) (k : FVec Ideal S1x3x1024 .f32) (r : Fin 8192) (d : Fin 1024) : REF h w k (ix2 r d) = ENT h w k r d := by
  have hc : CNV h w k (ix3 ⟨r.val / 4096, by omega⟩ ⟨r.val % 4096, by omega⟩ d)
      = k (ix3 0 0 d) * PRV h w 2 r d + k (ix3 0 1 d) * PRV h w 1 r d + k (ix3 0 2 d) * CUR h w r d := by
    rw [cnv_at, prv_at h w r d 0 (by omega) _ (by simp) _ rfl, prv_at h w r d 1 (by omega) _ rfl _ rfl, prv_at h w r d 2 (by omega) _ rfl _ rfl]
    simp only [PRV, Nat.sub_self, Nat.zero_le, ↓reduceIte, Nat.sub_zero]
  have hg : DOT h w (ix3 ⟨r.val / 4096, by omega⟩ ⟨r.val % 4096, by omega⟩ ⟨1280 + d.val, by omega⟩) = ROW h w r (1280 + d) := by
    rw [dot_at]
    congr 1
    show r.val / 4096 * 4096 + r.val % 4096 = r.val
    omega
  pointwise [REF]
  unfold ENT
  rw [← hc, ← hg]

theorem stt_at (h : FVec Ideal S8192x2048 .bf16) (w : FVec Ideal S1x2048x8448 .f32) (n a : Fin 2) (d : Fin 1024) :
    STT h w (ix3 n a d) = CUR h w (n * 4096 + 4094 + a) d := by
  pointwise [STT]
  refine (hal_at h w n ⟨4096 + a.val, by omega⟩ d).trans ?_
  rw [if_neg (by show ¬ 4096 + a.val < 2; omega)]
  congr 1
  show n.val * 4096 + (4096 + a.val - 2) = _
  omega

end Cert.RefConvIdeal.Hand

end
-- ==== Proof.Rows.lean ====
module

public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Rows

open Idealize.ShloMosaic

/-- A choice on a row number's bits is a choice on the row number. -/
theorem pick (r k : ℕ) (hr : r < 1024) (hk : k < 1024) (x y : EReal) :
    Scalar.select (IntOp.cmpi .eq (BitVec.ofNat 32 r) (BitVec.ofNat 32 k)) x y = if r = k then x else y := by
  have e : (BitVec.ofNat 32 r = BitVec.ofNat 32 k) ↔ r = k := by
    constructor
    · intro h
      have := congrArg BitVec.toNat h
      simp only [BitVec.toNat_ofNat] at this
      omega
    · rintro rfl; rfl
  by_cases h : r = k
  · rw [if_pos h, h]; simp [Scalar.select, IntOp.cmpi]
  · have h' : ¬ BitVec.ofNat 32 r = BitVec.ofNat 32 k := fun h'' => h (e.1 h'')
    rw [if_neg h]
    show Scalar.select (BitVec.ofBool (BitVec.ofNat 32 r == BitVec.ofNat 32 k)) x y = y
    rw [beq_eq_false_iff_ne.2 h']; rfl

end Cert.Rows

end
-- ==== Proof.ConvValue.lean ====
module

public import proofs.«01_k».proof.Defs
public import proofs.«01_k».proof.Proof.Gen.ConvIdeal.Value
public import proofs.«01_k».proof.Proof.Gen.RefConvIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.ConvRef
public import proofs.«01_k».proof.Proof.Rows

@[expose] public section

set_option maxRecDepth 16384

noncomputable section

namespace Cert.ConvIdeal.Hand

open Cert.ConvIdeal Cert.ConvIdeal.Gen
open Idealize.ShloMosaic Idealize.ShloMosaic.TcCoe Idealize.SL.Sem
open Idealize.ShloMosaic.Pipeline (Dat)

variable (m : (ℓ : Loc nD τ sig) → Buf (Elt Ideal) ℓ)

open Cert.RefConvIdeal.Hand (ROW CUR PRV ENT REF STT ref_at stt_at)
open Cert.Rows (pick)

/-- Which blocks a grid point reads and writes: rows by the point modulo 8, columns by its quotient. -/
theorem idx : ∀ t : Fin cfg0.N, win0_0.index t = ![t.val % 8, 0] ∧ win0_1.index t = ![0, 0, 1280 + 256 * (t.val / 8)]
    ∧ win0_2.index t = ![0, 0, 2304 + 256 * (t.val / 8)] ∧ win0_3.index t = ![0, 0, 3328 + 256 * (t.val / 8)] ∧ win0_4.index t = ![0, 0, t.val / 8]
    ∧ win0_5.index t = ![t.val % 8, t.val / 8] ∧ win0_6.index t = ![t.val % 8 / 4, 0, t.val / 8] :=
  (by decide +kernel : ∀ t : Fin grid0.N, _)

theorem lt4 (t : Fin cfg0.N) : t.val / 8 < 4 := by
  have h : t.val < 32 := t.isLt
  omega

/-- The three groups of weight columns of one column block, side by side. -/
def GW (w : FVec Ideal S1x2048x8448 .f32) (n : ℕ) (hn : n < 4) : FVec Ideal S2048x768 .bf16 := fun j =>
  w (ix3 0 (j 0) ⟨1280 + 1024 * ((j 1).val / 256) + 256 * n + (j 1).val % 256, by
    have := (j 1).isLt
    have h : S2048x768.size 1 = 768 := rfl
    omega⟩)

theorem blk1 (c : Dev nD) (t : Fin cfg0.N) (r : S1x2048x256.Idx) (z : S1x2048x8448.Idx) (h1 : (z 1).val = (r 1).val)
    (h2 : (z 2).val = 1280 + 256 * (t.val / 8) + (r 2).val) : iblk m c 1 t r = m ((c : Thread nD τ).loc main_arg1) z := by
  have e := (idx t).2.1
  refine congrArg (m ((c : Thread nD τ).loc main_arg1)) (funext fun a => Fin.ext ?_)
  refine (Pipeline.Window.rect_emb_val_off win0_1 t r a).trans ?_
  rw [e]
  fin_cases a
  · have h0 := (z 0).isLt
    have h0' := (r 0).isLt
    change (z 0).val < 1 at h0
    change (r 0).val < 1 at h0'
    show 0 + (r 0).val = (z 0).val; omega
  · show 0 + (r 1).val = (z 1).val; omega
  · show 1280 + 256 * (t.val / 8) + (r 2).val = (z 2).val; omega

theorem blk2 (c : Dev nD) (t : Fin cfg0.N) (r : S1x2048x256.Idx) (z : S1x2048x8448.Idx) (h1 : (z 1).val = (r 1).val)
    (h2 : (z 2).val = 2304 + 256 * (t.val / 8) + (r 2).val) : iblk m c 2 t r = m ((c : Thread nD τ).loc main_arg1) z := by
  have e := (idx t).2.2.1
  refine congrArg (m ((c : Thread nD τ).loc main_arg1)) (funext fun a => Fin.ext ?_)
  refine (Pipeline.Window.rect_emb_val_off win0_2 t r a).trans ?_
  rw [e]
  fin_cases a
  · have h0 := (z 0).isLt
    have h0' := (r 0).isLt
    change (z 0).val < 1 at h0
    change (r 0).val < 1 at h0'
    show 0 + (r 0).val = (z 0).val; omega
  · show 0 + (r 1).val = (z 1).val; omega
  · show 2304 + 256 * (t.val / 8) + (r 2).val = (z 2).val; omega

theorem blk3 (c : Dev nD) (t : Fin cfg0.N) (r : S1x2048x256.Idx) (z : S1x2048x8448.Idx) (h1 : (z 1).val = (r 1).val)
    (h2 : (z 2).val = 3328 + 256 * (t.val / 8) + (r 2).val) : iblk m c 3 t r = m ((c : Thread nD τ).loc main_arg1) z := by
  have e := (idx t).2.2.2.1
  refine congrArg (m ((c : Thread nD τ).loc main_arg1)) (funext fun a => Fin.ext ?_)
  refine (Pipeline.Window.rect_emb_val_off win0_3 t r a).trans ?_
  rw [e]
  fin_cases a
  · have h0 := (z 0).isLt
    have h0' := (r 0).isLt
    change (z 0).val < 1 at h0
    change (r 0).val < 1 at h0'
    show 0 + (r 0).val = (z 0).val; omega
  · show 0 + (r 1).val = (z 1).val; omega
  · show 3328 + 256 * (t.val / 8) + (r 2).val = (z 2).val; omega

/-- The weights kept in scratch are, at every point, its column block's. -/
theorem held0 (c : Dev nD) (t : Fin cfg0.N) (j : S2048x768.Idx) :
    (outsAt0 m c t.val t.isLt).2.2.1 j = GW (m ((c : Thread nD τ).loc main_arg1)) (t.val / 8) (lt4 t) j := by
  have key := Pipeline.eq_of_write_hold_apply (fun n h => (outsAt0 m c n h).2.2.1) 8
    (fun t => GW (m ((c : Thread nD τ).loc main_arg1)) (t.val / 8) (lt4 t)) ?_ ?_ t j
  · rw [key]; congr 1; show 8 * (t.val / 8) / 8 = _; omega
  · intro t h j
    rw [outsAt0_A m c t h (by omega) (by omega)]; frame_out
    canon_tiles x hx
    · have hb : (x 1).val < 256 := (x 1).isLt
      pointwise [k0_pay4, GW]
      exact blk3 m c t _ _ hx0 (by show 1280 + 1024 * ((j 1).val / 256) + 256 * (t.val / 8) + (j 1).val % 256 = 3328 + 256 * (t.val / 8) + (x 1).val; omega)
    · have hb : (x 1).val < 256 := (x 1).isLt
      pointwise [k0_pay3, GW]
      exact blk2 m c t _ _ hx0 (by show 1280 + 1024 * ((j 1).val / 256) + 256 * (t.val / 8) + (j 1).val % 256 = 2304 + 256 * (t.val / 8) + (x 1).val; omega)
    · have hb : (x 1).val < 256 := (x 1).isLt
      pointwise [k0_pay2, GW]
      exact blk1 m c t _ _ hx0 (by show 1280 + 1024 * ((j 1).val / 256) + 256 * (t.val / 8) + (j 1).val % 256 = 1280 + 256 * (t.val / 8) + (x 1).val; omega)
  · intro t h j
    by_cases h4 : t.val % 4 = 0
    · rw [outsAt0_D m c t h h4 (by omega)]; rfl
    · by_cases h3 : t.val % 4 = 3
      · rw [outsAt0_C m c t h h4 h3]; rfl
      · rw [outsAt0_B m c t h h4 h3]; rfl

/-- One entry of the product of a grid point is the input projection's. -/
theorem pay5_at (c : Dev nD) (t : Fin cfg0.N) (r : Fin 1024) (l : Fin 768) :
    k0_pay5 (F := Ideal) (iblk m c 0 t) (GW (m ((c : Thread nD τ).loc main_arg1)) (t.val / 8) (lt4 t)) (ix2 r l)
      = ROW (m ((c : Thread nD τ).loc main_arg0)) (m ((c : Thread nD τ).loc main_arg1)) (1024 * (t.val % 8) + r) (1280 + 1024 * (l / 256) + 256 * (t.val / 8) + l % 256) := by
  have ht := lt4 t
  pointwise [k0_pay5]
  rw [ROW, dif_pos ⟨by omega, by omega⟩]
  refine Finset.sum_congr rfl fun k _ => Ideal.mul_congr ?_ rfl
  blk_point [iblk, V, idx t]

/-- One entry of the product that is convolved. -/
theorem pay6_at (c : Dev nD) (t : Fin cfg0.N) (r : Fin 1024) (l : Fin 256) :
    k0_pay6 (F := Ideal) (iblk m c 0 t) (GW (m ((c : Thread nD τ).loc main_arg1)) (t.val / 8) (lt4 t)) (ix2 r l) = CUR (m ((c : Thread nD τ).loc main_arg0)) (m ((c : Thread nD τ).loc main_arg1)) (1024 * (t.val % 8) + r) (256 * (t.val / 8) + l) := by
  pointwise [k0_pay6]
  refine Ideal.mul_congr ((pay5_at m c t r ⟨256 + l.val, by omega⟩).trans ?_) ((pay5_at m c t r ⟨512 + l.val, by omega⟩).trans ?_)
  · congr 1
    show 1280 + 1024 * ((256 + l.val) / 256) + 256 * (t.val / 8) + (256 + l.val) % 256 = _
    omega
  · congr 1
    show 1280 + 1024 * ((512 + l.val) / 256) + 256 * (t.val / 8) + (512 + l.val) % 256 = _
    omega

/-- The two rows kept for the next block of rows: the last two of this point's product. -/
theorem pay14_at (c : Dev nD) (t : Fin cfg0.N) (a : Fin 2) (l : Fin 256) :
    k0_pay14 (k0_pay6 (F := Ideal) (iblk m c 0 t) (GW (m ((c : Thread nD τ).loc main_arg1)) (t.val / 8) (lt4 t))) (ix2 a l)
      = CUR (m ((c : Thread nD τ).loc main_arg0)) (m ((c : Thread nD τ).loc main_arg1)) (1024 * (t.val % 8) + (1022 + a)) (256 * (t.val / 8) + l) := by
  pointwise [k0_pay14, k0_pay13]
  exact pay6_at m c t ⟨1022 + a.val, by omega⟩ l

/-- The state block of a point: the last two rows of its product. -/
theorem pay15_at (c : Dev nD) (t : Fin cfg0.N) (a : Fin 2) (l : Fin 256) :
    k0_pay15 (k0_pay6 (F := Ideal) (iblk m c 0 t) (GW (m ((c : Thread nD τ).loc main_arg1)) (t.val / 8) (lt4 t))) (ix3 0 a l)
      = CUR (m ((c : Thread nD τ).loc main_arg0)) (m ((c : Thread nD τ).loc main_arg1)) (1024 * (t.val % 8) + (1022 + a)) (256 * (t.val / 8) + l) := by
  pointwise [k0_pay15, k0_pay13]
  exact pay6_at m c t ⟨1022 + a.val, by omega⟩ l

/-- The row before, from the product when it is there and from the kept rows otherwise. -/
theorem pay10_at (x : FVec Ideal S1024x2048 .bf16) (w : FVec Ideal S2048x768 .bf16) (v : FVec Ideal S2x256 .f32) (r : Fin 1024) (l : Fin 256) :
    k0_pay10 (F := Ideal) x w v (ix2 r l)
      = if h : 1 ≤ r.val then k0_pay6 (F := Ideal) x w (ix2 ⟨r - 1, by omega⟩ l) else v (ix2 1 l) := by
  pointwise [k0_pay10, k0_pay9]
  refine (pick r.val 0 r.isLt (by omega) _ _).trans ?_
  by_cases h : 1 ≤ r.val
  · rw [if_neg (by omega), dif_pos h]
    refine congrArg _ ((ix2_inj ..).2 ⟨Fin.ext ?_, rfl⟩)
    show (r.val + 1024 - 1) % 1024 = r.val - 1
    omega
  · rw [if_pos (by omega), dif_neg h]

/-- The convolution's two earlier rows at one entry. -/
theorem pay17_at (x : FVec Ideal S1024x2048 .bf16) (w : FVec Ideal S2048x768 .bf16) (v : FVec Ideal S2x256 .f32) (k0 k1 : FVec Ideal S1x1x256 .f32)
    (r : Fin 1024) (l : Fin 256) :
    k0_pay17 (F := Ideal) (k0_pay6 x w) (iota .tc S1024x256 32 [0] iota_S1024x256_d0_w32) (k0_pay8 v) (k0_pay9 v) (k0_pay10 x w v)
        k0_pay11 k0_pay12 k0 k1 (ix2 r l)
      = k0 (ix3 0 0 l) * (if h : 2 ≤ r.val then k0_pay6 (F := Ideal) x w (ix2 ⟨r - 2, by omega⟩ l)
          else if r.val = 1 then v (ix2 1 l) else v (ix2 0 l))
        + k1 (ix3 0 0 l) * k0_pay10 (F := Ideal) x w v (ix2 r l) := by
  pointwise [k0_pay17, k0_pay11, k0_pay12, k0_pay8, k0_pay9]
  refine Ideal.add_congr (Ideal.mul_congr rfl ?_) rfl
  refine (pick r.val 0 r.isLt (by omega) _ _).trans ?_
  by_cases h : 2 ≤ r.val
  · rw [if_neg (by omega), dif_pos h]
    refine (pick r.val 1 r.isLt (by omega) _ _).trans ?_
    rw [if_neg (by omega)]
    refine congrArg _ ((ix2_inj ..).2 ⟨Fin.ext ?_, rfl⟩)
    show (r.val + 1024 - 2) % 1024 = r.val - 2
    omega
  · rw [dif_neg h]
    by_cases h1 : r.val = 1
    · rw [if_neg (by omega), if_pos h1]
      refine (pick r.val 1 r.isLt (by omega) _ _).trans ?_
      rw [if_pos h1]
    · rw [if_pos (by omega), if_neg h1]

/-- The gated convolution at one entry. -/
theorem pay1_at (v5 : FVec Ideal S1024x768 .f32) (v8 v69 : FVec Ideal S1024x256 .f32) (k2 : FVec Ideal S1x1x256 .f32) (r : Fin 1024) (l : Fin 256) :
    k0_pay1 (F := Ideal) v8 (k0_pay16 v5) v69 (k0_pay18 k2) (ix2 r l)
      = v5 (ix2 r ⟨l, by omega⟩) * (v69 (ix2 r l) + k2 (ix3 0 0 l) * v8 (ix2 r l)) := by
  pointwise [k0_pay1, k0_pay16, k0_pay18]

/-- The two rows before the block of rows of a point: zeros when a sequence starts there. -/
def KEPT (h : FVec Ideal S8192x2048 .bf16) (w : FVec Ideal S1x2048x8448 .f32) (n : ℕ) (v : FVec Ideal S2x256 .f32) : Prop :=
  ∀ (a : Fin 2) (l : Fin 256), v (ix2 a l) = if n % 4 = 0 then 0 else CUR h w (1024 * (n % 8) + a - 2) (256 * (n / 8) + l)

/-- One entry of the gated convolution is the reference's. -/
theorem core_at (c : Dev nD) (t : Fin cfg0.N) (v : FVec Ideal S2x256 .f32)
    (hv : KEPT (m ((c : Thread nD τ).loc main_arg0)) (m ((c : Thread nD τ).loc main_arg1)) t.val v) (r : Fin 1024) (l : Fin 256) (d : Fin 1024) (hd : d.val = 256 * (t.val / 8) + l) :
    k0_pay1 (F := Ideal) (k0_pay6 (iblk m c 0 t) (GW (m ((c : Thread nD τ).loc main_arg1)) (t.val / 8) (lt4 t))) (k0_pay16 (k0_pay5 (iblk m c 0 t) (GW (m ((c : Thread nD τ).loc main_arg1)) (t.val / 8) (lt4 t))))
      (k0_pay17 (k0_pay6 (iblk m c 0 t) (GW (m ((c : Thread nD τ).loc main_arg1)) (t.val / 8) (lt4 t))) (iota .tc S1024x256 32 [0] iota_S1024x256_d0_w32) (k0_pay8 v) (k0_pay9 v) (k0_pay10 (iblk m c 0 t) (GW (m ((c : Thread nD τ).loc main_arg1)) (t.val / 8) (lt4 t)) v) k0_pay11 k0_pay12
        (View.ld (iblk m c 4 t) (Rect.unit ![0, 0, 0] ![1, 1, 256] inb_S1x3x256_S1x1x256_0_0_0))
        (View.ld (iblk m c 4 t) (Rect.unit ![0, 1, 0] ![1, 1, 256] inb_S1x3x256_S1x1x256_0_1_0)))
      (k0_pay18 (View.ld (iblk m c 4 t) (Rect.unit ![0, 2, 0] ![1, 1, 256] inb_S1x3x256_S1x1x256_0_2_0))) (ix2 r l)
      = ENT (m ((c : Thread nD τ).loc main_arg0)) (m ((c : Thread nD τ).loc main_arg1)) (m ((c : Thread nD τ).loc main_arg2)) (1024 * (t.val % 8) + r) d := by
  have ht := lt4 t
  refine (pay1_at ..).trans (Ideal.mul_congr ?_ (Ideal.add_congr ((pay17_at ..).trans (Ideal.add_congr (Ideal.mul_congr ?_ ?_)
    (Ideal.mul_congr ?_ ?_))) (Ideal.mul_congr ?_ ?_)))
  · rw [pay5_at m c t, hd]
    congr 1; show 1280 + 1024 * (l.val / 256) + 256 * (t.val / 8) + l.val % 256 = _; omega
  · pointwise; blk_point [iblk, V, idx t, hd]
  · unfold PRV
    by_cases h : 2 ≤ r.val
    · rw [dif_pos h, if_pos (by omega), pay6_at m c t, hd]
      congr 1; show 1024 * (t.val % 8) + (r.val - 2) = _; omega
    · rw [dif_neg h, hd]
      by_cases h1 : r.val = 1
      · rw [if_pos h1, hv]
        by_cases h4 : t.val % 4 = 0
        · rw [if_pos h4, if_neg (by omega)]
        · rw [if_neg h4, if_pos (by omega), h1]; rfl
      · rw [if_neg h1, hv]
        by_cases h4 : t.val % 4 = 0
        · rw [if_pos h4, if_neg (by omega)]
        · rw [if_neg h4, if_pos (by omega), show r.val = 0 by omega]; rfl
  · pointwise; blk_point [iblk, V, idx t, hd]
  · unfold PRV
    rw [pay10_at, hd]
    by_cases h : 1 ≤ r.val
    · rw [dif_pos h, if_pos (by omega), pay6_at m c t]
      congr 1; show 1024 * (t.val % 8) + (r.val - 1) = _; omega
    · rw [dif_neg h, hv]
      by_cases h4 : t.val % 4 = 0
      · rw [if_pos h4, if_neg (by omega)]
      · rw [if_neg h4, if_pos (by omega), show r.val = 0 by omega]; rfl
  · pointwise; blk_point [iblk, V, idx t, hd]
  · rw [pay6_at m c t, hd]

/-- One block of the gated convolution is the reference's, when the weights and the kept rows are right. -/
theorem core (c : Dev nD) (t : Fin cfg0.N) (v : FVec Ideal S2x256 .f32) (hv : KEPT (m ((c : Thread nD τ).loc main_arg0)) (m ((c : Thread nD τ).loc main_arg1)) t.val v)
    (W : FVec Ideal S2048x768 .bf16) (hW : ∀ j, W j = (GW (m ((c : Thread nD τ).loc main_arg1)) (t.val / 8) (lt4 t)) j) (y : S1024x256.Idx) :
    k0_pay1 (F := Ideal) (k0_pay6 (iblk m c 0 t) W) (k0_pay16 (k0_pay5 (iblk m c 0 t) W))
      (k0_pay17 (k0_pay6 (iblk m c 0 t) W) (iota .tc S1024x256 32 [0] iota_S1024x256_d0_w32) (k0_pay8 v) (k0_pay9 v) (k0_pay10 (iblk m c 0 t) W v) k0_pay11 k0_pay12
        (View.ld (iblk m c 4 t) (Rect.unit ![0, 0, 0] ![1, 1, 256] inb_S1x3x256_S1x1x256_0_0_0))
        (View.ld (iblk m c 4 t) (Rect.unit ![0, 1, 0] ![1, 1, 256] inb_S1x3x256_S1x1x256_0_1_0)))
      (k0_pay18 (View.ld (iblk m c 4 t) (Rect.unit ![0, 2, 0] ![1, 1, 256] inb_S1x3x256_S1x1x256_0_2_0))) y
      = REF (m ((c : Thread nD τ).loc main_arg0)) (m ((c : Thread nD τ).loc main_arg1)) (m ((c : Thread nD τ).loc main_arg2)) (((cfg0.win 5).blk t).view.emb y) := by
  obtain rfl : W = _ := funext hW
  have e := (idx t).2.2.2.2.2.1
  have h0 : (((cfg0.win 5).blk t).view.emb y 0).val = win0_5.index t (0 : Fin 2) * 1024 + 1 * (y 0).val := rfl
  have h1 : (((cfg0.win 5).blk t).view.emb y 1).val = win0_5.index t (1 : Fin 2) * 256 + 1 * (y 1).val := rfl
  rw [e] at h0 h1
  change _ = t.val % 8 * 1024 + 1 * (y 0).val at h0
  change _ = t.val / 8 * 256 + 1 * (y 1).val at h1
  rw [eq_ix2 (((cfg0.win 5).blk t).view.emb y)]
  refine (congrArg _ (eq_ix2 y)).trans ?_
  refine (core_at m c t v hv (y 0) (y 1) (((cfg0.win 5).blk t).view.emb y 1) (by omega)).trans (Eq.trans ?_ (ref_at ..).symm)
  congr 1
  omega

/-- The rows kept in scratch after a point are the last two of its product. -/
theorem held1 (c : Dev nD) (t : Fin cfg0.N) (a : Fin 2) (l : Fin 256) : (outsAt0 m c t.val t.isLt).2.2.2 (ix2 a l)
      = CUR (m ((c : Thread nD τ).loc main_arg0)) (m ((c : Thread nD τ).loc main_arg1)) (1024 * (t.val % 8) + (1022 + a)) (256 * (t.val / 8) + l) := by
  refine Eq.trans ?_ (pay14_at m c t a l)
  have hh0 := held0 m c t
  by_cases h : t.val % 8 = 0
  · rw [outsAt0_A m c t h (by omega) (by omega)] at hh0 ⊢
    frame_out at hh0 ⊢
    refine congrFun (congrArg (fun z => k0_pay14 (k0_pay6 (F := Ideal) (iblk m c 0 t) z)) (funext fun j => ?_)) _
    rw [View.readCov_eq_canon']
    beta_reduce
    rw [show (Rect.unit (s := S2048x768) ![0, 0] ![2048, 768] inb_S2048x768_S2048x768_0_0).toLoadRect.idx j = j from
      funext fun a => Fin.ext (by fin_cases a <;> · show 0 + 1 * _ = _; omega)]
    exact hh0 j
  · by_cases h4 : t.val % 4 = 0
    · rw [outsAt0_D m c t h h4 (by omega)] at hh0 ⊢
      frame_out
      simp only [read_unread_whole]
      exact congrFun (congrArg (fun z => k0_pay14 (k0_pay6 (F := Ideal) (iblk m c 0 t) z)) (funext hh0)) _
    · by_cases h3 : t.val % 4 = 3
      · rw [outsAt0_C m c t h h4 h3] at hh0 ⊢
        frame_out
        simp only [read_unread_whole]
        exact congrFun (congrArg (fun z => k0_pay14 (k0_pay6 (F := Ideal) (iblk m c 0 t) z)) (funext hh0)) _
      · rw [outsAt0_B m c t h h4 h3] at hh0 ⊢
        frame_out
        simp only [read_unread_whole]
        exact congrFun (congrArg (fun z => k0_pay14 (k0_pay6 (F := Ideal) (iblk m c 0 t) z)) (funext hh0)) _

/-- Fresh kept rows are zeros. -/
theorem kept_zero (c : Dev nD) (t : Fin cfg0.N) (h : t.val % 4 = 0) : KEPT (m ((c : Thread nD τ).loc main_arg0)) (m ((c : Thread nD τ).loc main_arg1)) t.val (k0_pay7 (F := Ideal)) := by
  intro a l
  rw [if_pos h]
  pointwise [k0_pay7]

/-- Kept rows carried from the point before are the two rows before this point's. -/
theorem kept_prev (c : Dev nD) (t : Fin cfg0.N) (h : ¬ t.val % 4 = 0) (hp : t.val - 1 < cfg0.N) :
    KEPT (m ((c : Thread nD τ).loc main_arg0)) (m ((c : Thread nD τ).loc main_arg1)) t.val (outsAt0 m c (t.val - 1) hp).2.2.2 := by
  intro a l
  rw [if_neg h]
  refine (held1 m c ⟨t.val - 1, hp⟩ a l).trans ?_
  show CUR (m ((c : Thread nD τ).loc main_arg0)) (m ((c : Thread nD τ).loc main_arg1)) (1024 * ((t.val - 1) % 8) + (1022 + a.val)) (256 * ((t.val - 1) / 8) + l.val) = _
  congr 1 <;> omega

/-- The kernel's first result array is the reference's. -/
theorem final1 (c : Dev nD) : (dats m 0 c).arrAt 5 (cfgs 0).N = REF (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have hp : (t.val - 1) < cfg0.N := Nat.lt_of_le_of_lt (Nat.sub_le _ _) t.isLt
  have hh0 := held0 m c t
  by_cases h : t.val % 8 = 0
  · rw [outsAt0_A m c t h (by omega) (by omega)] at hh0 ⊢
    frame_out at hh0 ⊢
    refine core m c t _ (kept_zero m c t (by omega)) _ (fun j => ?_) y
    rw [View.readCov_eq_canon']
    beta_reduce
    rw [show (Rect.unit (s := S2048x768) ![0, 0] ![2048, 768] inb_S2048x768_S2048x768_0_0).toLoadRect.idx j = j from
      funext fun a => Fin.ext (by fin_cases a <;> · show 0 + 1 * _ = _; omega)]
    exact hh0 j
  · by_cases h4 : t.val % 4 = 0
    · rw [outsAt0_D m c t h h4 (by omega)] at hh0 ⊢
      frame_out
      simp only [read_unread_whole]
      exact core m c t _ (kept_zero m c t h4) _ hh0 y
    · by_cases h3 : t.val % 4 = 3
      · rw [outsAt0_C m c t h h4 h3] at hh0 ⊢
        frame_out
        simp only [read_unread_whole]
        exact core m c t _ (kept_prev m c t h4 hp) _ hh0 y
      · rw [outsAt0_B m c t h h4 h3] at hh0 ⊢
        frame_out
        simp only [read_unread_whole]
        exact core m c t _ (kept_prev m c t h4 hp) _ hh0 y

/-- One block of the state is the reference's, when the weights are right. -/
theorem core2 (c : Dev nD) (t : Fin cfg0.N) (h3 : t.val % 4 = 3)
    (W : FVec Ideal S2048x768 .bf16) (hW : ∀ j, W j = (GW (m ((c : Thread nD τ).loc main_arg1)) (t.val / 8) (lt4 t)) j) (y : S1x2x256.Idx) :
    k0_pay15 (F := Ideal) (k0_pay6 (iblk m c 0 t) W) y = STT (m ((c : Thread nD τ).loc main_arg0)) (m ((c : Thread nD τ).loc main_arg1)) (((cfg0.win 6).blk t).view.emb y) := by
  obtain rfl : W = _ := funext hW
  have e := (idx t).2.2.2.2.2.2
  have h0 : (((cfg0.win 6).blk t).view.emb y 0).val = win0_6.index t (0 : Fin 3) * 1 + 1 * (y 0).val := rfl
  have h1 : (((cfg0.win 6).blk t).view.emb y 1).val = win0_6.index t (1 : Fin 3) * 2 + 1 * (y 1).val := rfl
  have h2 : (((cfg0.win 6).blk t).view.emb y 2).val = win0_6.index t (2 : Fin 3) * 256 + 1 * (y 2).val := rfl
  rw [e] at h0 h1 h2
  change _ = t.val % 8 / 4 * 1 + 1 * (y 0).val at h0
  change _ = 0 * 2 + 1 * (y 1).val at h1
  change _ = t.val / 8 * 256 + 1 * (y 2).val at h2
  have hy : (y 0).val < 1 := (y 0).isLt
  have hr := stt_at (m ((c : Thread nD τ).loc main_arg0)) (m ((c : Thread nD τ).loc main_arg1)) (((cfg0.win 6).blk t).view.emb y 0) (((cfg0.win 6).blk t).view.emb y 1) (((cfg0.win 6).blk t).view.emb y 2)
  rw [h0, h1, h2, ← eq_ix3 (((cfg0.win 6).blk t).view.emb y)] at hr
  refine Eq.trans ?_ hr.symm
  refine (congrArg _ (show y = ix3 0 (y 1) (y 2) from (eq_ix3 y).trans ((ix3_inj ..).2 ⟨Fin.ext (by show (y 0).val = 0; omega), rfl, rfl⟩))).trans ?_
  refine (pay15_at m c t (y 1) (y 2)).trans ?_
  congr 1
  · show 1024 * (t.val % 8) + (1022 + (y 1).val) = _; omega
  · omega

/-- The kernel's second result array is the reference's. -/
theorem final2 (c : Dev nD) : (dats m 0 c).arrAt 6 (cfgs 0).N = STT (m ((c : Thread nD τ).loc main_arg0)) (m ((c : Thread nD τ).loc main_arg1)) := by
  refine (dats m 0 c).arrAt_eq_of_covers 6 _ (by decide +kernel) fun t hf y => ?_
  have h3 : t.val % 4 = 3 := (by decide +kernel : ∀ t : Fin grid0.N, win0_6.flush t = true → t.val % 4 = 3) t hf
  blk_simp
  rw [after0_6]
  have hh0 := held0 m c t
  rw [outsAt0_C m c t (by omega) (by omega) h3] at hh0 ⊢
  frame_out
  simp only [read_unread_whole]
  exact core2 m c t h3 _ hh0 y

/-- The kernel over the reals and the reference end with the same results. -/
theorem equal : Cert.algebraic_ConvIdeal_RefConvIdeal := by
  intro m g m' g' _ hag
  refine ⟨fun c => REF (m ((c : Thread nD τ).loc main_arg0)) (m ((c : Thread nD τ).loc main_arg1)) (m ((c : Thread nD τ).loc main_arg2)), fun c => STT (m ((c : Thread nD τ).loc main_arg0)) (m ((c : Thread nD τ).loc main_arg1)),
    (θ_run _ _ _).mono (fun r h c => ⟨(h c).1.trans (final1 m c), (h c).2.1.trans (final2 m c), (h c).2.2⟩)
      (Cert.ConvIdeal.Value.run_blocks m g),
    (θ_run _ _ _).mono (fun r h c => ⟨(h c).1.trans ?_, (h c).2.1.trans ?_, (h c).2.2⟩) (Cert.RefConvIdeal.Value.run m' g')⟩
  · show REF (m' ((c : Thread nD τ).loc Cert.RefConvIdeal.main_arg0)) (m' ((c : Thread nD τ).loc Cert.RefConvIdeal.main_arg1))
      (m' ((c : Thread nD τ).loc Cert.RefConvIdeal.main_arg2)) = _
    rw [(hag c).1, (hag c).2.1, (hag c).2.2]
  · show STT (m' ((c : Thread nD τ).loc Cert.RefConvIdeal.main_arg0)) (m' ((c : Thread nD τ).loc Cert.RefConvIdeal.main_arg1)) = _
    rw [(hag c).1, (hag c).2.1]

/-- The reference terminates with its arguments unchanged and nothing in flight. -/
theorem refFrame : Cert.quiescent_RefConvIdeal := fun m g _ =>
  (θ_run Cert.RefConvIdeal.defs _ _).mono (fun r h => ⟨fun c => (h c).2.2, sem_eq_zero_of_no_sems (by decide) r.2⟩)
    (Cert.RefConvIdeal.Value.run m g)

end Cert.ConvIdeal.Hand

end
-- ==== Proof.MergeValue.lean ====
module

public import proofs.«01_k».proof.Defs
public import proofs.«01_k».proof.Proof.Gen.MergeIdeal.Value
public import proofs.«01_k».proof.Proof.Gen.RefMergeIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.MergeIdeal.Hand

open Cert.MergeIdeal Cert.MergeIdeal.Gen
open Idealize.ShloMosaic Idealize.ShloMosaic.TcCoe Idealize.SL.Sem
open Idealize.ShloMosaic.Pipeline (Dat)

variable (m : (ℓ : Loc nD τ sig) → Buf (Elt Ideal) ℓ)

/-- One over one plus the exponential of a gate's negated sum with its bias. -/
abbrev GATE (z : FVec Ideal S8192x2048 .f32) (b : FVec Ideal Cert.RefMergeIdeal.S1x1x2048 .f32) : FVec Ideal S8192x2048 .f32 :=
  Host.divf (broadcastInDim S8192x2048 ![] Cert.RefMergeIdeal.Gen.bcast_S_S8192x2048 (constant Cert.RefMergeIdeal.S_ .f32 0x3F800000#32))
    (addf (broadcastInDim S8192x2048 ![] Cert.RefMergeIdeal.Gen.bcast_S_S8192x2048 (constant Cert.RefMergeIdeal.S_ .f32 0x3F800000#32))
      (Host.exp (Host.negf (addf z (broadcastInDim S8192x2048 ![0, 1] Cert.RefMergeIdeal.Gen.bcast_S1x2048_S8192x2048_0_1
        (broadcastInDim Cert.RefMergeIdeal.S1x2048 ![1] Cert.RefMergeIdeal.Gen.bcast_S2048_S1x2048_1
          (shapeCast _ b Cert.RefMergeIdeal.Gen.shapeCasts_S1x1x2048_S2048)))))))

/-- The hidden states times the whole input projection. -/
abbrev PROJ (h : FVec Ideal S8192x2048 .bf16) (w : FVec Ideal S1x2048x8448 .f32) : FVec Ideal Cert.RefMergeIdeal.S8192x8448 .f32 :=
  Host.dotGeneral Cert.RefMergeIdeal.dot_S8192x2048_S2048x8448_S8192x8448_1_0_0_1_n_n none
    (extf .f32 h Cert.RefMergeIdeal.Gen.bitsLt_bf16_f32) (shapeCast _ w Cert.RefMergeIdeal.Gen.shapeCasts_S1x2048x8448_S2048x8448)

/-- A branch times its output projection. -/
abbrev OUT (a : FVec Ideal S8192x1024 .bf16) (w : FVec Ideal S1x1024x2048 .f32) : FVec Ideal S8192x2048 .f32 :=
  Host.dotGeneral Cert.RefMergeIdeal.dot_S8192x1024_S1024x2048_S8192x2048_1_0_0_1_n_n none
    (extf .f32 a Cert.RefMergeIdeal.Gen.bitsLt_bf16_f32) (shapeCast _ w Cert.RefMergeIdeal.Gen.shapeCasts_S1x1024x2048_S1024x2048)

/-- What the reference program leaves: the two branches, each under its gate, added. -/
abbrev REF (h : FVec Ideal S8192x2048 .bf16) (a b : FVec Ideal S8192x1024 .bf16) (w : FVec Ideal S1x2048x8448 .f32)
    (wa wb : FVec Ideal S1x1024x2048 .f32) (bg : FVec Ideal S1x2x2048 .f32) : FVec Ideal S8192x2048 .bf16 :=
  truncf .bf16 (addf
    (mulf (GATE (extractStridedSlice S8192x2048 ![0, 4352] (PROJ h w) Cert.RefMergeIdeal.Gen.slices_S8192x8448_S8192x2048_0_4352)
        (extractStridedSlice Cert.RefMergeIdeal.S1x1x2048 ![0, 0, 0] bg Cert.RefMergeIdeal.Gen.slices_S1x2x2048_S1x1x2048_0_0_0)) (OUT a wa))
    (mulf (GATE (extractStridedSlice S8192x2048 ![0, 6400] (PROJ h w) Cert.RefMergeIdeal.Gen.slices_S8192x8448_S8192x2048_0_6400)
        (extractStridedSlice Cert.RefMergeIdeal.S1x1x2048 ![0, 1, 0] bg Cert.RefMergeIdeal.Gen.slices_S1x2x2048_S1x1x2048_0_1_0)) (OUT b wb)))
    Cert.RefMergeIdeal.Gen.bitsLt_bf16_f32

/-- Which blocks a grid point reads and writes: rows by the point modulo 16, columns by its quotient. -/
theorem idx : ∀ t : Fin cfg0.N, win0_0.index t = ![t.val % 16, 0] ∧ win0_1.index t = ![t.val % 16, 0] ∧ win0_2.index t = ![t.val % 16, 0]
    ∧ win0_3.index t = ![0, 0, 4352 + 512 * (t.val / 16)] ∧ win0_4.index t = ![0, 0, 6400 + 512 * (t.val / 16)]
    ∧ win0_5.index t = ![0, 0, t.val / 16] ∧ win0_6.index t = ![0, 0, t.val / 16] ∧ win0_7.index t = ![0, 0, t.val / 16]
    ∧ win0_8.index t = ![t.val % 16, t.val / 16] := (by decide +kernel : ∀ t : Fin grid0.N, _)

/-- The two gates' weight columns of one column block, side by side. -/
def GW (w : FVec Ideal S1x2048x8448 .f32) (n : ℕ) (hn : n < 4) : FVec Ideal S2048x1024 .bf16 := fun j =>
  if h : (j 1).val < 512 then w (ix3 0 (j 0) ⟨4352 + 512 * n + (j 1).val, by omega⟩)
  else w (ix3 0 (j 0) ⟨6400 + 512 * n + ((j 1).val - 512), by
    have := (j 1).isLt
    have h : S2048x1024.size 1 = 1024 := rfl
    omega⟩)

theorem lt4 (t : Fin cfg0.N) : t.val / 16 < 4 := by
  have h : t.val < 64 := t.isLt
  omega

/-- A block of the input projection's columns, entry by entry: the attention gate's. -/
theorem blk3 (c : Dev nD) (t : Fin cfg0.N) (r : S1x2048x512.Idx) (z : S1x2048x8448.Idx) (h1 : (z 1).val = (r 1).val)
    (h2 : (z 2).val = 4352 + 512 * (t.val / 16) + (r 2).val) : iblk m c 3 t r = m ((c : Thread nD τ).loc main_arg3) z := by
  have e := (idx t).2.2.2.1
  refine congrArg (m ((c : Thread nD τ).loc main_arg3)) (funext fun a => Fin.ext ?_)
  refine (Pipeline.Window.rect_emb_val_off win0_3 t r a).trans ?_
  rw [e]
  fin_cases a
  · have h0 := (z 0).isLt
    have h0' := (r 0).isLt
    change (z 0).val < 1 at h0
    change (r 0).val < 1 at h0'
    show 0 + (r 0).val = (z 0).val; omega
  · show 0 + (r 1).val = (z 1).val; omega
  · show 4352 + 512 * (t.val / 16) + (r 2).val = (z 2).val; omega

/-- A block of the input projection's columns, entry by entry: the convolution gate's. -/
theorem blk4 (c : Dev nD) (t : Fin cfg0.N) (r : S1x2048x512.Idx) (z : S1x2048x8448.Idx) (h1 : (z 1).val = (r 1).val)
    (h2 : (z 2).val = 6400 + 512 * (t.val / 16) + (r 2).val) : iblk m c 4 t r = m ((c : Thread nD τ).loc main_arg3) z := by
  have e := (idx t).2.2.2.2.1
  refine congrArg (m ((c : Thread nD τ).loc main_arg3)) (funext fun a => Fin.ext ?_)
  refine (Pipeline.Window.rect_emb_val_off win0_4 t r a).trans ?_
  rw [e]
  fin_cases a
  · have h0 := (z 0).isLt
    have h0' := (r 0).isLt
    change (z 0).val < 1 at h0
    change (r 0).val < 1 at h0'
    show 0 + (r 0).val = (z 0).val; omega
  · show 0 + (r 1).val = (z 1).val; omega
  · show 6400 + 512 * (t.val / 16) + (r 2).val = (z 2).val; omega

/-- The gates' weights kept in scratch are, at every point, its column block's. -/
theorem held0 (c : Dev nD) (t : Fin cfg0.N) (j : S2048x1024.Idx) :
    (outsAt0 m c t.val t.isLt).2.1 j = GW (m ((c : Thread nD τ).loc main_arg3)) (t.val / 16) (lt4 t) j := by
  have key := Pipeline.eq_of_write_hold_apply (fun n h => (outsAt0 m c n h).2.1) 16
    (fun t => GW (m ((c : Thread nD τ).loc main_arg3)) (t.val / 16) (lt4 t)) ?_ ?_ t j
  · rw [key]; congr 1; show 16 * (t.val / 16) / 16 = _; omega
  · intro t h j
    rw [outsAt0_A m c t h]; frame_out
    canon_tiles x hx
    · pointwise [k0_pay2, GW]
      rw [dif_neg (show ¬ (j 1).val < 512 by omega)]
      exact blk4 m c t _ _ hx0 (by show 6400 + 512 * (t.val / 16) + ((j 1).val - 512) = 6400 + 512 * (t.val / 16) + (x 1).val; omega)
    · pointwise [k0_pay1, GW]
      rw [dif_pos (show (j 1).val < 512 by omega)]
      exact blk3 m c t _ _ hx0 (by show 4352 + 512 * (t.val / 16) + (j 1).val = 4352 + 512 * (t.val / 16) + (x 1).val; omega)
  · intro t h j
    rw [outsAt0_B m c t h]; rfl

/-- The attention branch's weights kept in scratch. -/
theorem held1 (c : Dev nD) (t : Fin cfg0.N) (j : S1024x512.Idx) : (outsAt0 m c t.val t.isLt).2.2.1 j
      = k0_pay3 (F := Ideal) (iblk m c 5 ⟨16 * (t.val / 16), Pipeline.run_start_lt t⟩) j := by
  refine Pipeline.eq_of_write_hold_apply (fun n h => (outsAt0 m c n h).2.2.1) 16
    (fun t => k0_pay3 (F := Ideal) (iblk m c 5 t)) ?_ ?_ t j
  · intro t h j
    rw [outsAt0_A m c t h]; frame_out
  · intro t h j
    rw [outsAt0_B m c t h]; rfl

/-- The convolution branch's weights kept in scratch. -/
theorem held2 (c : Dev nD) (t : Fin cfg0.N) (j : S1024x512.Idx) : (outsAt0 m c t.val t.isLt).2.2.2 j
      = k0_pay4 (F := Ideal) (iblk m c 6 ⟨16 * (t.val / 16), Pipeline.run_start_lt t⟩) j := by
  refine Pipeline.eq_of_write_hold_apply (fun n h => (outsAt0 m c n h).2.2.2) 16
    (fun t => k0_pay4 (F := Ideal) (iblk m c 6 t)) ?_ ?_ t j
  · intro t h j
    rw [outsAt0_A m c t h]; frame_out
  · intro t h j
    rw [outsAt0_B m c t h]; rfl

/-- One output block is the reference's, entry by entry, when the weights come from its column block. -/
theorem core (c : Dev nD) (t u : Fin cfg0.N) (hu : u.val / 16 = t.val / 16) (y : S512x512.Idx) :
    k0_pay5 (F := Ideal) (iblk m c 0 t) (GW (m ((c : Thread nD τ).loc main_arg3)) (t.val / 16) (lt4 t))
      (View.ld (iblk m c 7 t) (Rect.unit ![0, 0, 0] ![1, 1, 512] inb_S1x2x512_S1x1x512_0_0_0))
      (View.ld (iblk m c 7 t) (Rect.unit ![0, 1, 0] ![1, 1, 512] inb_S1x2x512_S1x1x512_0_1_0)) (iblk m c 1 t)
      (k0_pay3 (iblk m c 5 u)) (iblk m c 2 t) (k0_pay4 (iblk m c 6 u)) y
      = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (((cfg0.win 8).blk t).view.emb y) := by
  pointwise [k0_pay5, k0_pay3, k0_pay4, GW, REF, GATE, OUT, PROJ]
  unfold Ideal.logistic
  blk_point [iblk, V, idx t, idx u]

/-- The kernel's result array is the reference's. -/
theorem final (c : Dev nD) : (dats m 0 c).arrAt 8 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 8 _ (by decide +kernel) fun t hf y => ?_
  blk_simp
  rw [after0_8]
  by_cases h : t.val % 16 = 0
  · rw [outsAt0_A m c t h]
    frame_out
    refine Eq.trans (congrFun (congrArg (fun z => k0_pay5 (F := Ideal) (iblk m c 0 t) z
      (View.ld (iblk m c 7 t) (Rect.unit ![0, 0, 0] ![1, 1, 512] inb_S1x2x512_S1x1x512_0_0_0))
      (View.ld (iblk m c 7 t) (Rect.unit ![0, 1, 0] ![1, 1, 512] inb_S1x2x512_S1x1x512_0_1_0)) (iblk m c 1 t)
      (k0_pay3 (iblk m c 5 t)) (iblk m c 2 t) (k0_pay4 (iblk m c 6 t))) ?_) y) (core m c t t rfl y)
    have hh0 := fun j => held0 m c t j
    rw [outsAt0_A m c t h] at hh0
    frame_out at hh0
    rw [View.readCov_eq_canon']
    funext j
    rw [show (Rect.unit (s := S2048x1024) ![0, 0] ![2048, 1024] inb_S2048x1024_S2048x1024_0_0).toLoadRect.idx j = j from
      funext fun a => Fin.ext (by fin_cases a <;> · show 0 + 1 * _ = _; omega)]
    exact hh0 j
  · have hh0 := held0 m c t
    have hh1 := held1 m c t
    have hh2 := held2 m c t
    have hp : (t.val - 1) < cfg0.N := Nat.lt_of_le_of_lt (Nat.sub_le _ _) t.isLt
    rw [outsAt0_B m c t h] at hh0 hh1 hh2 ⊢
    frame_out
    simp only [read_unread_whole]
    rw [show (outsAt0 m c (t.val - 1) hp).2.1 = _ from funext hh0, show (outsAt0 m c (t.val - 1) hp).2.2.1 = _ from funext hh1,
      show (outsAt0 m c (t.val - 1) hp).2.2.2 = _ from funext hh2]
    exact core m c t _ (by show 16 * (t.val / 16) / 16 = _; omega) y

/-- The kernel over the reals and the reference end with the same result. -/
theorem equal : Cert.algebraic_MergeIdeal_RefMergeIdeal := by
  intro m g m' g' _ hag
  exact ⟨fun c => REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)),
    (θ_run _ _ _).mono (fun r h c => ⟨(h c).1.trans (final m c), (h c).2⟩) (Cert.MergeIdeal.Value.run_blocks m g),
    (θ_run _ _ _).mono (fun r h c => ⟨(h c).1.trans (by
        rw [(hag c).1, (hag c).2.1, (hag c).2.2.1, (hag c).2.2.2.1, (hag c).2.2.2.2.1, (hag c).2.2.2.2.2.1, (hag c).2.2.2.2.2.2]),
      (h c).2⟩) (Cert.RefMergeIdeal.Value.run m' g')⟩

/-- The reference terminates with its arguments unchanged and nothing in flight. -/
theorem refFrame : Cert.quiescent_RefMergeIdeal := fun m g _ =>
  (θ_run Cert.RefMergeIdeal.defs _ _).mono (fun r h => ⟨fun c => (h c).2, sem_eq_zero_of_no_sems (by decide) r.2⟩)
    (Cert.RefMergeIdeal.Value.run m g)

end Cert.MergeIdeal.Hand

end
-- ==== Proof.OprojValue.lean ====
module

public import proofs.«01_k».proof.Defs
public import proofs.«01_k».proof.Proof.Gen.OprojIdeal.Value
public import proofs.«01_k».proof.Proof.Gen.RefOprojIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.OprojIdeal.Hand

open Cert.OprojIdeal Cert.OprojIdeal.Gen
open Idealize.ShloMosaic Idealize.ShloMosaic.TcCoe Idealize.SL.Sem
open Idealize.ShloMosaic.Pipeline (Dat)

variable (m : (ℓ : Loc nD τ sig) → Buf (Elt Ideal) ℓ)

/-- Each row over the root of its mean square plus a small constant, times a gain. -/
abbrev NORM (x : FVec Ideal S8192x2048 .f32) (g : FVec Ideal S1x2048 .f32) : FVec Ideal S8192x2048 .f32 :=
  mulf (mulf x (broadcastInDim S8192x2048 ![0, 1] Cert.RefOprojIdeal.Gen.bcast_S8192x1_S8192x2048_0_1 (Host.rsqrt (addf
    (Host.divf (broadcastInDim Cert.RefOprojIdeal.S8192x1 ![0] Cert.RefOprojIdeal.Gen.bcast_S8192_S8192x1_0 (Host.reduceAdd (mulf x x) (constant Cert.RefOprojIdeal.S_ .f32 0x00000000#32)
        Cert.RefOprojIdeal.Gen.reducesTo_S8192x2048_S8192_d1 Cert.RefOprojIdeal.Gen.h_S_)) (broadcastInDim Cert.RefOprojIdeal.S8192x1 ![] Cert.RefOprojIdeal.Gen.bcast_S_S8192x1 (constant Cert.RefOprojIdeal.S_ .f32 0x45000000#32)))
    (broadcastInDim Cert.RefOprojIdeal.S8192x1 ![] Cert.RefOprojIdeal.Gen.bcast_S_S8192x1 (constant Cert.RefOprojIdeal.S_ .f32 0x358637BD#32))))))
    (broadcastInDim S8192x2048 ![0, 1] Cert.RefOprojIdeal.Gen.bcast_S1x2048_S8192x2048_0_1 (broadcastInDim S1x2048 ![1] Cert.RefOprojIdeal.Gen.bcast_S2048_S1x2048_1
      (shapeCast _ g Cert.RefOprojIdeal.Gen.shapeCasts_S1x2048_S2048)))

/-- The merged branches times the output projection, normalised, added to the stream. -/
abbrev X1 (a : FVec Ideal S8192x2048 .bf16) (x : FVec Ideal S8192x2048 .f32) (w : FVec Ideal S1x2048x2048 .f32)
    (g : FVec Ideal S1x2048 .f32) : FVec Ideal S8192x2048 .f32 :=
  addf x (NORM (Host.dotGeneral Cert.RefOprojIdeal.dot_S8192x2048_S2048x2048_S8192x2048_1_0_0_1_n_n none (extf .f32 a Cert.RefOprojIdeal.Gen.bitsLt_bf16_f32)
    (shapeCast _ w Cert.RefOprojIdeal.Gen.shapeCasts_S1x2048x2048_S2048x2048)) g)

/-- The new stream, normalised for the feed-forward part. -/
abbrev H2 (a : FVec Ideal S8192x2048 .bf16) (x : FVec Ideal S8192x2048 .f32) (w : FVec Ideal S1x2048x2048 .f32)
    (g g' : FVec Ideal S1x2048 .f32) : FVec Ideal S8192x2048 .bf16 :=
  truncf .bf16 (NORM (X1 a x w g) g') Cert.RefOprojIdeal.Gen.bitsLt_bf16_f32

/-- Which blocks a grid point reads and writes: its rows, and all of the weights. -/
theorem idx : ∀ t : Fin cfg0.N, win0_0.index t = ![t.val, 0] ∧ win0_1.index t = ![t.val, 0] ∧ win0_2.index t = ![0, 0, 0]
    ∧ win0_3.index t = ![0, 0] ∧ win0_4.index t = ![0, 0] ∧ win0_5.index t = ![t.val, 0]
    ∧ win0_6.index t = ![t.val, 0] := (by decide +kernel : ∀ t : Fin grid0.N, _)

/-- The weights kept in scratch are the ones written at the first point. -/
theorem held (c : Dev nD) (t : Fin cfg0.N) (j : S2048x2048.Idx) : (outsAt0 m c t.val t.isLt).2.2 j
      = k0_pay1 (F := Ideal) (iblk m c 2 ⟨32 * (t.val / 32), Pipeline.run_start_lt t⟩) j := by
  refine Pipeline.eq_of_write_hold_apply (fun n h => (outsAt0 m c n h).2.2) 32
    (fun t => k0_pay1 (F := Ideal) (iblk m c 2 t)) ?_ ?_ t j
  · intro t h j
    rw [outsAt0_A m c t h]; frame_out
  · intro t h j
    rw [outsAt0_B m c t h]; rfl

/-- One block of the new stream is the reference's, entry by entry. -/
theorem core1 (c : Dev nD) (t u : Fin cfg0.N) (y : S256x2048.Idx) :
    k0_pay2 (F := Ideal) (iblk m c 1 t) (iblk m c 0 t) (k0_pay1 (iblk m c 2 u)) (iblk m c 3 t) y
      =
        X1 (m ((c : Thread nD τ).loc main_arg0)) (m ((c : Thread nD τ).loc main_arg1)) (m ((c : Thread nD τ).loc main_arg2))
        (m ((c : Thread nD τ).loc main_arg3))
        (((cfg0.win 5).blk t).view.emb y) := by
  pointwise [k0_pay1, k0_pay2, X1, NORM]
  blk_point [iblk, V, idx t, idx u]

/-- One block of the normalised stream is the reference's, entry by entry. -/
theorem core2 (c : Dev nD) (t u : Fin cfg0.N) (y : S256x2048.Idx) :
    k0_pay3 (F := Ideal) (iblk m c 1 t) (iblk m c 0 t) (k0_pay1 (iblk m c 2 u)) (iblk m c 3 t) (iblk m c 4 t) y
      =
        H2 (m ((c : Thread nD τ).loc main_arg0)) (m ((c : Thread nD τ).loc main_arg1)) (m ((c : Thread nD τ).loc main_arg2))
        (m ((c : Thread nD τ).loc main_arg3)) (m ((c : Thread nD τ).loc main_arg4))
        (((cfg0.win 6).blk t).view.emb y) := by
  pointwise [k0_pay1, k0_pay2, k0_pay3, H2, X1, NORM]
  blk_point [iblk, V, idx t, idx u]

/-- The kernel's first result array is the reference's. -/
theorem final1 (c : Dev nD) : (dats m 0 c).arrAt 5 (cfgs 0).N = X1 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  by_cases h : t.val % 32 = 0
  · rw [outsAt0_A m c t h]
    frame_out
    exact core1 m c t t y
  · have hh := held m c t
    have hp : (t.val - 1) < cfg0.N := Nat.lt_of_le_of_lt (Nat.sub_le _ _) t.isLt
    rw [outsAt0_B m c t h] at hh ⊢
    frame_out
    simp only [read_unread_whole]
    rw [show (outsAt0 m c (t.val - 1) hp).2.2 = _ from funext hh]
    exact core1 m c t _ y

/-- The kernel's second result array is the reference's. -/
theorem final2 (c : Dev nD) : (dats m 0 c).arrAt 6 (cfgs 0).N = H2 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  by_cases h : t.val % 32 = 0
  · rw [outsAt0_A m c t h]
    frame_out
    exact core2 m c t t y
  · have hh := held m c t
    have hp : (t.val - 1) < cfg0.N := Nat.lt_of_le_of_lt (Nat.sub_le _ _) t.isLt
    rw [outsAt0_B m c t h] at hh ⊢
    frame_out
    simp only [read_unread_whole]
    rw [show (outsAt0 m c (t.val - 1) hp).2.2 = _ from funext hh]
    exact core2 m c t _ y

/-- The kernel over the reals and the reference end with the same results. -/
theorem equal : Cert.algebraic_OprojIdeal_RefOprojIdeal := by
  intro m g m' g' _ hag
  refine ⟨fun c => X1 (m ((c : Thread nD τ).loc main_arg0)) (m ((c : Thread nD τ).loc main_arg1)) (m ((c : Thread nD τ).loc main_arg2))
        (m ((c : Thread nD τ).loc main_arg3)), fun c => H2 (m ((c : Thread nD τ).loc main_arg0)) (m ((c : Thread nD τ).loc main_arg1)) (m ((c : Thread nD τ).loc main_arg2))
        (m ((c : Thread nD τ).loc main_arg3)) (m ((c : Thread nD τ).loc main_arg4)),
    (θ_run _ _ _).mono (fun r h c => ⟨(h c).1.trans (final1 m c), (h c).2.1.trans (final2 m c), (h c).2.2⟩)
      (Cert.OprojIdeal.Value.run_blocks m g),
    (θ_run _ _ _).mono (fun r h c => ⟨(h c).1.trans (by
        rw [(hag c).1, (hag c).2.1, (hag c).2.2.1, (hag c).2.2.2.1]), (h c).2.1.trans ?_, (h c).2.2⟩) (Cert.RefOprojIdeal.Value.run m' g')⟩
  unfold Cert.RefOprojIdeal.Value.res_main_v32
  rw [(hag c).1, (hag c).2.1, (hag c).2.2.1, (hag c).2.2.2.1, (hag c).2.2.2.2]

/-- The reference terminates with its arguments unchanged and nothing in flight. -/
theorem refFrame : Cert.quiescent_RefOprojIdeal := fun m g _ =>
  (θ_run Cert.RefOprojIdeal.defs _ _).mono (fun r h => ⟨fun c => (h c).2.2, sem_eq_zero_of_no_sems (by decide) r.2⟩)
    (Cert.RefOprojIdeal.Value.run m g)

end Cert.OprojIdeal.Hand

end
-- ==== Proof.UpRef.lean ====
module

public import proofs.«01_k».proof.Defs
public import proofs.«01_k».proof.Proof.Gen.RefUpIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.RefUpIdeal.Hand

open Cert.RefUpIdeal Cert.RefUpIdeal.Gen
open Idealize.ShloMosaic Idealize.ShloMosaic.TcCoe Idealize.SL.Sem

/-- The hidden states times the whole up projection, by (sequence, row, column). -/
def DOT (h : FVec Ideal S8192x2048 .bf16) (w : FVec Ideal S1x2048x11264 .f32) : FVec Ideal S2x4096x11264 .f32 :=
  Host.dotGeneral dot_S2x4096x2048_S2048x11264_S2x4096x11264_2_0_01_1_n_n none
    (shapeCast _ (extf .f32 h bitsLt_bf16_f32) shapeCasts_S8192x2048_S2x4096x2048) (shapeCast _ w shapeCasts_S1x2048x11264_S2048x11264)

/-- The activation half with two rows of zeros before each sequence. -/
def HAL (h : FVec Ideal S8192x2048 .bf16) (w : FVec Ideal S1x2048x11264 .f32) : FVec Ideal S2x4098x5632 .f32 :=
  concatenate S2x4098x5632 1 [⟨S2x2x5632, (broadcastInDim S2x2x5632 ![] bcast_S_S2x2x5632 (constant S_ .f32 0x00000000#32))⟩,
    ⟨S2x4096x5632, (extractStridedSlice S2x4096x5632 ![0, 0, 0] (DOT h w) slices_S2x4096x11264_S2x4096x5632_0_0_0)⟩]
    concatenates_S2x2x5632_S2x4096x5632_S2x4098x5632_d1

/-- The convolution of three rows over the padded activation half, with its bias. -/
def CNV (h : FVec Ideal S8192x2048 .bf16) (w : FVec Ideal S1x2048x11264 .f32) (k : FVec Ideal S1x3x5632 .f32) (b : FVec Ideal S1x5632 .f32) :
    FVec Ideal S2x4096x5632 .f32 :=
  addf (addf (addf
    (mulf (broadcastInDim S2x4096x5632 ![0, 1, 2] bcast_S1x1x5632_S2x4096x5632_0_1_2 (broadcastInDim S1x1x5632 ![2] bcast_S5632_S1x1x5632_2
        (shapeCast _ (extractStridedSlice S1x5632 ![0, 0] (shapeCast _ k shapeCasts_S1x3x5632_S3x5632) slices_S3x5632_S1x5632_0_0) shapeCasts_S1x5632_S5632)))
      (extractStridedSlice S2x4096x5632 ![0, 0, 0] (HAL h w) slices_S2x4098x5632_S2x4096x5632_0_0_0))
    (mulf (broadcastInDim S2x4096x5632 ![0, 1, 2] bcast_S1x1x5632_S2x4096x5632_0_1_2 (broadcastInDim S1x1x5632 ![2] bcast_S5632_S1x1x5632_2
        (shapeCast _ (extractStridedSlice S1x5632 ![1, 0] (shapeCast _ k shapeCasts_S1x3x5632_S3x5632) slices_S3x5632_S1x5632_1_0) shapeCasts_S1x5632_S5632)))
      (extractStridedSlice S2x4096x5632 ![0, 1, 0] (HAL h w) slices_S2x4098x5632_S2x4096x5632_0_1_0)))
    (mulf (broadcastInDim S2x4096x5632 ![0, 1, 2] bcast_S1x1x5632_S2x4096x5632_0_1_2 (broadcastInDim S1x1x5632 ![2] bcast_S5632_S1x1x5632_2
        (shapeCast _ (extractStridedSlice S1x5632 ![2, 0] (shapeCast _ k shapeCasts_S1x3x5632_S3x5632) slices_S3x5632_S1x5632_2_0) shapeCasts_S1x5632_S5632)))
      (extractStridedSlice S2x4096x5632 ![0, 2, 0] (HAL h w) slices_S2x4098x5632_S2x4096x5632_0_2_0)))
    (broadcastInDim S2x4096x5632 ![0, 1, 2] bcast_S1x1x5632_S2x4096x5632_0_1_2 (broadcastInDim S1x1x5632 ![2] bcast_S5632_S1x1x5632_2
      (shapeCast _ b shapeCasts_S1x5632_S5632)))

/-- The activation, by the tangent approximation, times the gate. -/
def GEL (x g : FVec Ideal S2x4096x5632 .f32) : FVec Ideal S2x4096x5632 .f32 :=
  mulf (mulf x (mulf (broadcastInDim S2x4096x5632 ![] bcast_S_S2x4096x5632 (constant S_ .f32 0x3F000000#32))
    (addf (broadcastInDim S2x4096x5632 ![] bcast_S_S2x4096x5632 (constant S_ .f32 0x3F800000#32))
      (Host.tanh (mulf (broadcastInDim S2x4096x5632 ![] bcast_S_S2x4096x5632 (constant S_ .f32 0x3F4C422A#32))
        (addf x (mulf (broadcastInDim S2x4096x5632 ![] bcast_S_S2x4096x5632 (constant S_ .f32 0x3D372713#32)) (mulf (mulf x x) x)))))))) g

/-- What the reference leaves first: the gated activation. -/
def REF (h : FVec Ideal S8192x2048 .bf16) (w : FVec Ideal S1x2048x11264 .f32) (k : FVec Ideal S1x3x5632 .f32) (b : FVec Ideal S1x5632 .f32) :
    FVec Ideal S8192x5632 .bf16 :=
  truncf .bf16 (shapeCast _ (GEL (CNV h w k b)
    (extractStridedSlice S2x4096x5632 ![0, 0, 5632] (DOT h w) slices_S2x4096x11264_S2x4096x5632_0_0_5632)) shapeCasts_S2x4096x5632_S8192x5632) bitsLt_bf16_f32

/-- What the reference leaves second: the last two rows of the activation half. -/
def STT (h : FVec Ideal S8192x2048 .bf16) (w : FVec Ideal S1x2048x11264 .f32) : FVec Ideal S2x2x5632 .f32 :=
  extractStridedSlice S2x2x5632 ![0, 4096, 0] (HAL h w) slices_S2x4098x5632_S2x2x5632_0_4096_0

/-- One entry of the up projection. -/
def ROW (h : FVec Ideal S8192x2048 .bf16) (w : FVec Ideal S1x2048x11264 .f32) (r d : ℕ) : EReal :=
  if hh : r < 8192 ∧ d < 11264 then ∑ k : Fin 2048, h (ix2 ⟨r, hh.1⟩ k) * w (ix3 0 k ⟨d, hh.2⟩) else 0

/-- The entry `s` rows earlier in the same sequence, zero before its start. -/
def PRV (h : FVec Ideal S8192x2048 .bf16) (w : FVec Ideal S1x2048x11264 .f32) (s r d : ℕ) : EReal :=
  if s ≤ r % 4096 then ROW h w (r - s) d else 0

/-- The activation of one number times one gate. -/
def ACT (x g : EReal) : EReal :=
  (x * (Ideal.ofBits .f32 0x3F000000#32 * (1 + Ideal.tanh (Ideal.ofBits .f32 0x3F4C422A#32 * (x + Ideal.ofBits .f32 0x3D372713#32 * (x * x * x)))))) * g

/-- One entry of the first result. -/
def ENT (h : FVec Ideal S8192x2048 .bf16) (w : FVec Ideal S1x2048x11264 .f32) (k : FVec Ideal S1x3x5632 .f32) (b : FVec Ideal S1x5632 .f32)
    (r : ℕ) (d : Fin 5632) : EReal :=
  ACT (k (ix3 0 0 d) * PRV h w 2 r d + k (ix3 0 1 d) * PRV h w 1 r d + k (ix3 0 2 d) * ROW h w r d + b (ix2 0 d)) (ROW h w r (5632 + d))

theorem dot_at (h : FVec Ideal S8192x2048 .bf16) (w : FVec Ideal S1x2048x11264 .f32) (n : Fin 2) (s : Fin 4096) (d : Fin 11264) :
    DOT h w (ix3 n s d) = ROW h w (n * 4096 + s) d := by
  pointwise [DOT]
  rw [ROW, dif_pos ⟨by omega, d.isLt⟩]

theorem hal_at (h : FVec Ideal S8192x2048 .bf16) (w : FVec Ideal S1x2048x11264 .f32) (n : Fin 2) (s : Fin 4098) (d : Fin 5632) :
    HAL h w (ix3 n s d) = if s.val < 2 then 0 else ROW h w (n * 4096 + (s - 2)) d := by
  pointwise [HAL]
  by_cases hs : s.val < 2
  · simp only [hs, ↓reduceDIte, ↓reduceIte]
  · simp only [hs, ↓reduceDIte, ↓reduceIte]
    exact dot_at h w n ⟨s.val - 2, by omega⟩ ⟨d.val, by omega⟩

theorem prv_at (h : FVec Ideal S8192x2048 .bf16) (w : FVec Ideal S1x2048x11264 .f32) (r : Fin 8192) (d : Fin 5632) (a : ℕ) (ha : a ≤ 2)
    (s : Fin 4098) (hs : s.val = a + r.val % 4096) (n : Fin 2) (hn : n.val = r.val / 4096) :
    HAL h w (ix3 n s d) = PRV h w (2 - a) r d := by
  rw [hal_at, PRV]
  by_cases h2 : s.val < 2
  · rw [if_pos h2, if_neg (by omega)]
  · rw [if_neg h2, if_pos (by omega)]
    congr 1; omega

theorem cnv_at (h : FVec Ideal S8192x2048 .bf16) (w : FVec Ideal S1x2048x11264 .f32) (k : FVec Ideal S1x3x5632 .f32) (b : FVec Ideal S1x5632 .f32)
    (n : Fin 2) (s : Fin 4096) (d : Fin 5632) :
    CNV h w k b (ix3 n s d) = k (ix3 0 0 d) * HAL h w (ix3 n ⟨s, by omega⟩ d) + k (ix3 0 1 d) * HAL h w (ix3 n ⟨1 + s, by omega⟩ d)
      + k (ix3 0 2 d) * HAL h w (ix3 n ⟨2 + s, by omega⟩ d) + b (ix2 0 d) := by
  pointwise [CNV]

theorem ref_at (h : FVec Ideal S8192x2048 .bf16) (w : FVec Ideal S1x2048x11264 .f32) (k : FVec Ideal S1x3x5632 .f32) (b : FVec Ideal S1x5632 .f32)
    (r : Fin 8192) (d : Fin 5632) : REF h w k b (ix2 r d) = ENT h w k b r d := by
  have hc : CNV h w k b (ix3 ⟨r.val / 4096, by omega⟩ ⟨r.val % 4096, by omega⟩ d)
      = k (ix3 0 0 d) * PRV h w 2 r d + k (ix3 0 1 d) * PRV h w 1 r d + k (ix3 0 2 d) * ROW h w r d + b (ix2 0 d) := by
    rw [cnv_at, prv_at h w r d 0 (by omega) _ (by simp) _ rfl, prv_at h w r d 1 (by omega) _ rfl _ rfl, prv_at h w r d 2 (by omega) _ rfl _ rfl]
    simp only [PRV, Nat.sub_self, Nat.zero_le, ↓reduceIte, Nat.sub_zero]
  have hg : DOT h w (ix3 ⟨r.val / 4096, by omega⟩ ⟨r.val % 4096, by omega⟩ ⟨5632 + d.val, by omega⟩) = ROW h w r (5632 + d) := by
    rw [dot_at]
    congr 1
    show r.val / 4096 * 4096 + r.val % 4096 = r.val
    omega
  pointwise [REF, GEL]
  unfold ENT ACT
  rw [← hc, ← hg]

theorem stt_at (h : FVec Ideal S8192x2048 .bf16) (w : FVec Ideal S1x2048x11264 .f32) (n a : Fin 2) (d : Fin 5632) :
    STT h w (ix3 n a d) = ROW h w (n * 4096 + 4094 + a) d := by
  pointwise [STT]
  refine (hal_at h w n ⟨4096 + a.val, by omega⟩ d).trans ?_
  rw [if_neg (by show ¬ 4096 + a.val < 2; omega)]
  congr 1
  show n.val * 4096 + (4096 + a.val - 2) = _
  omega

end Cert.RefUpIdeal.Hand

end
-- ==== Proof.UpValue.lean ====
module

public import proofs.«01_k».proof.Defs
public import proofs.«01_k».proof.Proof.Gen.UpIdeal.Value
public import proofs.«01_k».proof.Proof.Gen.RefUpIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.UpRef
public import proofs.«01_k».proof.Proof.Rows

@[expose] public section

set_option maxRecDepth 16384

noncomputable section

namespace Cert.UpIdeal.Hand

open Cert.UpIdeal Cert.UpIdeal.Gen
open Idealize.ShloMosaic Idealize.ShloMosaic.TcCoe Idealize.SL.Sem
open Idealize.ShloMosaic.Pipeline (Dat)

variable (m : (ℓ : Loc nD τ sig) → Buf (Elt Ideal) ℓ)

open Cert.RefUpIdeal.Hand (ROW PRV ACT ENT REF STT ref_at stt_at)
open Cert.Rows (pick)

/-- Which blocks a grid point reads and writes: rows by the point modulo 8, columns by its quotient. -/
theorem idx : ∀ t : Fin cfg0.N, win0_0.index t = ![t.val % 8, 0] ∧ win0_1.index t = ![0, 0, t.val / 8]
    ∧ win0_2.index t = ![0, 0, 11 + t.val / 8] ∧ win0_3.index t = ![0, 0, t.val / 8] ∧ win0_4.index t = ![0, t.val / 8]
    ∧ win0_5.index t = ![t.val % 8, t.val / 8] ∧ win0_6.index t = ![t.val % 8 / 4, 0, t.val / 8] :=
  (by decide +kernel : ∀ t : Fin grid0.N, _)

theorem lt11 (t : Fin cfg0.N) : t.val / 8 < 11 := by
  have h : t.val < 88 := t.isLt
  omega

/-- The two halves' weight columns of one column block, side by side. -/
def GW (w : FVec Ideal S1x2048x11264 .f32) (n : ℕ) (hn : n < 11) : FVec Ideal S2048x1024 .bf16 := fun j =>
  if h : (j 1).val < 512 then w (ix3 0 (j 0) ⟨512 * n + (j 1).val, by omega⟩)
  else w (ix3 0 (j 0) ⟨5632 + 512 * n + ((j 1).val - 512), by
    have := (j 1).isLt
    have h : S2048x1024.size 1 = 1024 := rfl
    omega⟩)

/-- The weights kept in scratch are, at every point, its column block's. -/
theorem held0 (c : Dev nD) (t : Fin cfg0.N) (j : S2048x1024.Idx) :
    (outsAt0 m c t.val t.isLt).2.2.1 j = GW (m ((c : Thread nD τ).loc main_arg1)) (t.val / 8) (lt11 t) j := by
  have key := Pipeline.eq_of_write_hold_apply (fun n h => (outsAt0 m c n h).2.2.1) 8
    (fun t => GW (m ((c : Thread nD τ).loc main_arg1)) (t.val / 8) (lt11 t)) ?_ ?_ t j
  · rw [key]; congr 1; show 8 * (t.val / 8) / 8 = _; omega
  · intro t h j
    rw [outsAt0_A m c t h (by omega) (by omega)]; frame_out
    canon_tiles x hx
    · pointwise [k0_pay3, GW]
      rw [dif_neg (show ¬ (j 1).val < 512 by omega)]
      blk_point [iblk, V, idx t]
    · pointwise [k0_pay2, GW]
      rw [dif_pos (show (j 1).val < 512 by omega)]
      blk_point [iblk, V, idx t]
  · intro t h j
    by_cases h4 : t.val % 4 = 0
    · rw [outsAt0_D m c t h h4 (by omega)]; rfl
    · by_cases h3 : t.val % 4 = 3
      · rw [outsAt0_C m c t h h4 h3]; rfl
      · rw [outsAt0_B m c t h h4 h3]; rfl

/-- One entry of the first product of a grid point is the up projection's. -/
theorem pay4_at (c : Dev nD) (t : Fin cfg0.N) (r : Fin 1024) (l : Fin 1024) :
    k0_pay4 (F := Ideal) (iblk m c 0 t) (GW (m ((c : Thread nD τ).loc main_arg1)) (t.val / 8) (lt11 t)) (ix2 r l)
      = ROW (m ((c : Thread nD τ).loc main_arg0)) (m ((c : Thread nD τ).loc main_arg1)) (1024 * (t.val % 8) + r)
        (if l.val < 512 then 512 * (t.val / 8) + l else 5632 + 512 * (t.val / 8) + (l - 512)) := by
  have ht := lt11 t
  pointwise [k0_pay4]
  rw [ROW, dif_pos ⟨by omega, by split <;> omega⟩]
  refine Finset.sum_congr rfl fun k _ => Ideal.mul_congr ?_ ?_
  · blk_point [iblk, V, idx t]
  · unfold GW
    by_cases hl : l.val < 512
    · rw [dif_pos (show ((ix2 k l : S2048x1024.Idx) 1).val < 512 from hl)]
      refine congrArg _ ((ix3_inj ..).2 ⟨rfl, rfl, Fin.ext ?_⟩)
      show 512 * (t.val / 8) + l.val = if l.val < 512 then 512 * (t.val / 8) + l.val else 5632 + 512 * (t.val / 8) + (l.val - 512)
      rw [if_pos hl]
    · rw [dif_neg (show ¬ ((ix2 k l : S2048x1024.Idx) 1).val < 512 from hl)]
      refine congrArg _ ((ix3_inj ..).2 ⟨rfl, rfl, Fin.ext ?_⟩)
      show 5632 + 512 * (t.val / 8) + (l.val - 512) = if l.val < 512 then 512 * (t.val / 8) + l.val else 5632 + 512 * (t.val / 8) + (l.val - 512)
      rw [if_neg hl]

/-- The two rows kept for the next block of rows: the last two of this point's activation half. -/
theorem pay13_at (c : Dev nD) (t : Fin cfg0.N) (a : Fin 2) (l : Fin 512) :
    k0_pay13 (k0_pay5 (F := Ideal) (iblk m c 0 t) (GW (m ((c : Thread nD τ).loc main_arg1)) (t.val / 8) (lt11 t))) (ix2 a l)
      = ROW (m ((c : Thread nD τ).loc main_arg0)) (m ((c : Thread nD τ).loc main_arg1)) (1024 * (t.val % 8) + (1022 + a))
        (512 * (t.val / 8) + l) := by
  pointwise [k0_pay13, k0_pay12, k0_pay5]
  refine (pay4_at m c t ⟨1022 + a.val, by omega⟩ ⟨l.val, by omega⟩).trans ?_
  rw [if_pos l.isLt]

/-- The state block of a point: the last two rows of its activation half. -/
theorem pay14_at (c : Dev nD) (t : Fin cfg0.N) (a : Fin 2) (l : Fin 512) :
    k0_pay14 (k0_pay5 (F := Ideal) (iblk m c 0 t) (GW (m ((c : Thread nD τ).loc main_arg1)) (t.val / 8) (lt11 t))) (ix3 0 a l)
      = ROW (m ((c : Thread nD τ).loc main_arg0)) (m ((c : Thread nD τ).loc main_arg1)) (1024 * (t.val % 8) + (1022 + a))
        (512 * (t.val / 8) + l) := by
  pointwise [k0_pay14, k0_pay12, k0_pay5]
  refine (pay4_at m c t ⟨1022 + a.val, by omega⟩ ⟨l.val, by omega⟩).trans ?_
  rw [if_pos l.isLt]

/-- The row before, from the product when it is there and from the kept rows otherwise. -/
theorem pay9_at (x : FVec Ideal S1024x2048 .bf16) (w : FVec Ideal S2048x1024 .bf16) (v : FVec Ideal S2x512 .f32) (r : Fin 1024) (l : Fin 512) :
    k0_pay9 (F := Ideal) x w v (ix2 r l)
      = if h : 1 ≤ r.val then k0_pay4 (F := Ideal) x w (ix2 ⟨r - 1, by omega⟩ ⟨l, by omega⟩) else v (ix2 1 l) := by
  pointwise [k0_pay9, k0_pay8, k0_pay5]
  refine (pick r.val 0 r.isLt (by omega) _ _).trans ?_
  by_cases h : 1 ≤ r.val
  · rw [if_neg (by omega), dif_pos h]
    refine congrArg _ ((ix2_inj ..).2 ⟨Fin.ext ?_, rfl⟩)
    show (r.val + 1024 - 1) % 1024 = r.val - 1
    omega
  · rw [if_pos (by omega), dif_neg h]

/-- The convolution at one entry. -/
theorem pay15_at (x : FVec Ideal S1024x2048 .bf16) (w : FVec Ideal S2048x1024 .bf16) (v : FVec Ideal S2x512 .f32) (k0 k1 k2 : FVec Ideal S1x1x512 .f32)
    (r : Fin 1024) (l : Fin 512) :
    k0_pay15 (F := Ideal) (k0_pay5 x w) (k0_pay7 v) (k0_pay8 v) (k0_pay9 x w v) k0_pay10 k0_pay11 2#32 k0 k1 k2 (ix2 r l)
      = k0 (ix3 0 0 l) * (if h : 2 ≤ r.val then k0_pay4 (F := Ideal) x w (ix2 ⟨r - 2, by omega⟩ ⟨l, by omega⟩)
          else if r.val = 1 then v (ix2 1 l) else v (ix2 0 l))
        + k1 (ix3 0 0 l) * k0_pay9 (F := Ideal) x w v (ix2 r l) + k2 (ix3 0 0 l) * k0_pay4 (F := Ideal) x w (ix2 r ⟨l, by omega⟩) := by
  pointwise [k0_pay15, k0_pay10, k0_pay11, k0_pay7, k0_pay8, k0_pay5]
  refine Ideal.add_congr (Ideal.add_congr (Ideal.mul_congr rfl ?_) rfl) rfl
  refine (pick r.val 0 r.isLt (by omega) _ _).trans ?_
  by_cases h : 2 ≤ r.val
  · rw [if_neg (by omega), dif_pos h]
    refine (pick r.val 1 r.isLt (by omega) _ _).trans ?_
    rw [if_neg (by omega)]
    refine congrArg _ ((ix2_inj ..).2 ⟨Fin.ext ?_, rfl⟩)
    show (r.val + 1024 - 2) % 1024 = r.val - 2
    omega
  · rw [dif_neg h]
    by_cases h1 : r.val = 1
    · rw [if_neg (by omega), if_pos h1]
      refine (pick r.val 1 r.isLt (by omega) _ _).trans ?_
      rw [if_pos h1]
    · rw [if_pos (by omega), if_neg h1]

/-- The gated activation at one entry. -/
theorem pay1_at (v5 : FVec Ideal S1024x1024 .f32) (v71 : FVec Ideal S1024x512 .f32) (v72 : FVec Ideal S1x512 .f32) (r : Fin 1024) (l : Fin 512) :
    k0_pay1 (F := Ideal) v5 v71 v72 (ix2 r l) = ACT (v71 (ix2 r l) + v72 (ix2 0 l)) (v5 (ix2 r ⟨512 + l, by omega⟩)) := by
  pointwise [k0_pay1, ACT]
  rw [mul_comm (v71 (ix2 r l) + v72 (ix2 0 l)) ((v71 (ix2 r l) + v72 (ix2 0 l)) * (v71 (ix2 r l) + v72 (ix2 0 l)))]

/-- The two rows before the block of rows of a point: zeros when a sequence starts there. -/
def KEPT (h : FVec Ideal S8192x2048 .bf16) (w : FVec Ideal S1x2048x11264 .f32) (n : ℕ) (v : FVec Ideal S2x512 .f32) : Prop :=
  ∀ (a : Fin 2) (l : Fin 512), v (ix2 a l) = if n % 4 = 0 then 0 else ROW h w (1024 * (n % 8) + a - 2) (512 * (n / 8) + l)

/-- One entry of the gated activation is the reference's. -/
theorem core_at (c : Dev nD) (t : Fin cfg0.N) (v : FVec Ideal S2x512 .f32)
    (hv : KEPT (m ((c : Thread nD τ).loc main_arg0)) (m ((c : Thread nD τ).loc main_arg1)) t.val v) (r : Fin 1024) (l : Fin 512) (d : Fin 5632) (hd : d.val = 512 * (t.val / 8) + l) :
    k0_pay1 (F := Ideal) (k0_pay4 (iblk m c 0 t) (GW (m ((c : Thread nD τ).loc main_arg1)) (t.val / 8) (lt11 t)))
      (k0_pay15 (k0_pay5 (iblk m c 0 t) (GW (m ((c : Thread nD τ).loc main_arg1)) (t.val / 8) (lt11 t))) (k0_pay7 v) (k0_pay8 v)
        (k0_pay9 (iblk m c 0 t) (GW (m ((c : Thread nD τ).loc main_arg1)) (t.val / 8) (lt11 t)) v) k0_pay10 k0_pay11 2#32
        (View.ld (iblk m c 3 t) (Rect.unit ![0, 0, 0] ![1, 1, 512] inb_S1x3x512_S1x1x512_0_0_0))
        (View.ld (iblk m c 3 t) (Rect.unit ![0, 1, 0] ![1, 1, 512] inb_S1x3x512_S1x1x512_0_1_0))
        (View.ld (iblk m c 3 t) (Rect.unit ![0, 2, 0] ![1, 1, 512] inb_S1x3x512_S1x1x512_0_2_0))) (iblk m c 4 t) (ix2 r l)
      = ENT (m ((c : Thread nD τ).loc main_arg0)) (m ((c : Thread nD τ).loc main_arg1)) (m ((c : Thread nD τ).loc main_arg2)) (m ((c : Thread nD τ).loc main_arg3)) (1024 * (t.val % 8) + r) d := by
  have ht := lt11 t
  refine (pay1_at ..).trans (congrArg₂ ACT (Ideal.add_congr ((pay15_at ..).trans (Ideal.add_congr (Ideal.add_congr (Ideal.mul_congr ?_ ?_)
    (Ideal.mul_congr ?_ ?_)) (Ideal.mul_congr ?_ ?_))) ?_) ?_)
  · pointwise; blk_point [iblk, V, idx t, hd]
  · unfold PRV
    by_cases h : 2 ≤ r.val
    · rw [dif_pos h, if_pos (by omega), pay4_at m c t, if_pos (by show l.val < 512; omega), hd]
      congr 1; show 1024 * (t.val % 8) + (r.val - 2) = _; omega
    · rw [dif_neg h, hd]
      by_cases h1 : r.val = 1
      · rw [if_pos h1, hv]
        by_cases h4 : t.val % 4 = 0
        · rw [if_pos h4, if_neg (by omega)]
        · rw [if_neg h4, if_pos (by omega), h1]; rfl
      · rw [if_neg h1, hv]
        by_cases h4 : t.val % 4 = 0
        · rw [if_pos h4, if_neg (by omega)]
        · rw [if_neg h4, if_pos (by omega), show r.val = 0 by omega]; rfl
  · pointwise; blk_point [iblk, V, idx t, hd]
  · unfold PRV
    rw [pay9_at, hd]
    by_cases h : 1 ≤ r.val
    · rw [dif_pos h, if_pos (by omega), pay4_at m c t, if_pos (by show l.val < 512; omega)]
      congr 1; show 1024 * (t.val % 8) + (r.val - 1) = _; omega
    · rw [dif_neg h, hv]
      by_cases h4 : t.val % 4 = 0
      · rw [if_pos h4, if_neg (by omega)]
      · rw [if_neg h4, if_pos (by omega), show r.val = 0 by omega]; rfl
  · pointwise; blk_point [iblk, V, idx t, hd]
  · rw [pay4_at m c t, if_pos (by show l.val < 512; omega), hd]
  · blk_point [iblk, V, idx t, hd]
  · rw [pay4_at m c t, if_neg (by show ¬ 512 + l.val < 512; omega), hd]
    congr 1; show 5632 + 512 * (t.val / 8) + (512 + l.val - 512) = _; omega

/-- One block of the gated activation is the reference's, when the weights and the kept rows are right. -/
theorem core (c : Dev nD) (t : Fin cfg0.N) (v : FVec Ideal S2x512 .f32) (hv : KEPT (m ((c : Thread nD τ).loc main_arg0)) (m ((c : Thread nD τ).loc main_arg1)) t.val v)
    (W : FVec Ideal S2048x1024 .bf16) (hW : ∀ j, W j = GW (m ((c : Thread nD τ).loc main_arg1)) (t.val / 8) (lt11 t) j) (y : S1024x512.Idx) :
    k0_pay1 (F := Ideal) (k0_pay4 (iblk m c 0 t) W)
      (k0_pay15 (k0_pay5 (iblk m c 0 t) W) (k0_pay7 v) (k0_pay8 v) (k0_pay9 (iblk m c 0 t) W v) k0_pay10 k0_pay11 2#32
        (View.ld (iblk m c 3 t) (Rect.unit ![0, 0, 0] ![1, 1, 512] inb_S1x3x512_S1x1x512_0_0_0))
        (View.ld (iblk m c 3 t) (Rect.unit ![0, 1, 0] ![1, 1, 512] inb_S1x3x512_S1x1x512_0_1_0))
        (View.ld (iblk m c 3 t) (Rect.unit ![0, 2, 0] ![1, 1, 512] inb_S1x3x512_S1x1x512_0_2_0))) (iblk m c 4 t) y
      = REF (m ((c : Thread nD τ).loc main_arg0)) (m ((c : Thread nD τ).loc main_arg1)) (m ((c : Thread nD τ).loc main_arg2)) (m ((c : Thread nD τ).loc main_arg3)) (((cfg0.win 5).blk t).view.emb y) := by
  obtain rfl : W = _ := funext hW
  have e := (idx t).2.2.2.2.2.1
  have h0 : (((cfg0.win 5).blk t).view.emb y 0).val = win0_5.index t (0 : Fin 2) * 1024 + 1 * (y 0).val := rfl
  have h1 : (((cfg0.win 5).blk t).view.emb y 1).val = win0_5.index t (1 : Fin 2) * 512 + 1 * (y 1).val := rfl
  rw [e] at h0 h1
  change _ = t.val % 8 * 1024 + 1 * (y 0).val at h0
  change _ = t.val / 8 * 512 + 1 * (y 1).val at h1
  rw [eq_ix2 (((cfg0.win 5).blk t).view.emb y)]
  refine (congrArg _ (eq_ix2 y)).trans ?_
  refine (core_at m c t v hv (y 0) (y 1) (((cfg0.win 5).blk t).view.emb y 1) (by omega)).trans (Eq.trans ?_ (ref_at ..).symm)
  congr 1
  omega

/-- The rows kept in scratch after a point are the last two of its activation half. -/
theorem held1 (c : Dev nD) (t : Fin cfg0.N) (a : Fin 2) (l : Fin 512) : (outsAt0 m c t.val t.isLt).2.2.2 (ix2 a l)
      = ROW (m ((c : Thread nD τ).loc main_arg0)) (m ((c : Thread nD τ).loc main_arg1)) (1024 * (t.val % 8) + (1022 + a)) (512 * (t.val / 8) + l) := by
  refine Eq.trans ?_ (pay13_at m c t a l)
  have hh0 := held0 m c t
  by_cases h : t.val % 8 = 0
  · rw [outsAt0_A m c t h (by omega) (by omega)] at hh0 ⊢
    frame_out at hh0 ⊢
    refine congrFun (congrArg (fun z => k0_pay13 (k0_pay5 (F := Ideal) (iblk m c 0 t) z)) (funext fun j => ?_)) _
    rw [View.readCov_eq_canon']
    beta_reduce
    rw [show (Rect.unit (s := S2048x1024) ![0, 0] ![2048, 1024] inb_S2048x1024_S2048x1024_0_0).toLoadRect.idx j = j from
      funext fun a => Fin.ext (by fin_cases a <;> · show 0 + 1 * _ = _; omega)]
    exact hh0 j
  · by_cases h4 : t.val % 4 = 0
    · rw [outsAt0_D m c t h h4 (by omega)] at hh0 ⊢
      frame_out
      simp only [read_unread_whole]
      exact congrFun (congrArg (fun z => k0_pay13 (k0_pay5 (F := Ideal) (iblk m c 0 t) z)) (funext hh0)) _
    · by_cases h3 : t.val % 4 = 3
      · rw [outsAt0_C m c t h h4 h3] at hh0 ⊢
        frame_out
        simp only [read_unread_whole]
        exact congrFun (congrArg (fun z => k0_pay13 (k0_pay5 (F := Ideal) (iblk m c 0 t) z)) (funext hh0)) _
      · rw [outsAt0_B m c t h h4 h3] at hh0 ⊢
        frame_out
        simp only [read_unread_whole]
        exact congrFun (congrArg (fun z => k0_pay13 (k0_pay5 (F := Ideal) (iblk m c 0 t) z)) (funext hh0)) _

/-- Fresh kept rows are zeros. -/
theorem kept_zero (c : Dev nD) (t : Fin cfg0.N) (h : t.val % 4 = 0) : KEPT (m ((c : Thread nD τ).loc main_arg0)) (m ((c : Thread nD τ).loc main_arg1)) t.val (k0_pay6 (F := Ideal)) := by
  intro a l
  rw [if_pos h]
  pointwise [k0_pay6]

/-- Kept rows carried from the point before are the two rows before this point's. -/
theorem kept_prev (c : Dev nD) (t : Fin cfg0.N) (h : ¬ t.val % 4 = 0) (hp : t.val - 1 < cfg0.N) :
    KEPT (m ((c : Thread nD τ).loc main_arg0)) (m ((c : Thread nD τ).loc main_arg1)) t.val (outsAt0 m c (t.val - 1) hp).2.2.2 := by
  intro a l
  rw [if_neg h]
  refine (held1 m c ⟨t.val - 1, hp⟩ a l).trans ?_
  show ROW (m ((c : Thread nD τ).loc main_arg0)) (m ((c : Thread nD τ).loc main_arg1)) (1024 * ((t.val - 1) % 8) + (1022 + a.val)) (512 * ((t.val - 1) / 8) + l.val) = _
  congr 1 <;> omega

/-- The kernel's first result array is the reference's. -/
theorem final1 (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hp : (t.val - 1) < cfg0.N := Nat.lt_of_le_of_lt (Nat.sub_le _ _) t.isLt
  have hh0 := held0 m c t
  by_cases h : t.val % 8 = 0
  · rw [outsAt0_A m c t h (by omega) (by omega)] at hh0 ⊢
    frame_out at hh0 ⊢
    refine core m c t _ (kept_zero m c t (by omega)) _ (fun j => ?_) y
    rw [View.readCov_eq_canon']
    beta_reduce
    rw [show (Rect.unit (s := S2048x1024) ![0, 0] ![2048, 1024] inb_S2048x1024_S2048x1024_0_0).toLoadRect.idx j = j from
      funext fun a => Fin.ext (by fin_cases a <;> · show 0 + 1 * _ = _; omega)]
    exact hh0 j
  · by_cases h4 : t.val % 4 = 0
    · rw [outsAt0_D m c t h h4 (by omega)] at hh0 ⊢
      frame_out
      simp only [read_unread_whole]
      exact core m c t _ (kept_zero m c t h4) _ hh0 y
    · by_cases h3 : t.val % 4 = 3
      · rw [outsAt0_C m c t h h4 h3] at hh0 ⊢
        frame_out
        simp only [read_unread_whole]
        exact core m c t _ (kept_prev m c t h4 hp) _ hh0 y
      · rw [outsAt0_B m c t h h4 h3] at hh0 ⊢
        frame_out
        simp only [read_unread_whole]
        exact core m c t _ (kept_prev m c t h4 hp) _ hh0 y

/-- One block of the state is the reference's, when the weights are right. -/
theorem core2 (c : Dev nD) (t : Fin cfg0.N) (h3 : t.val % 4 = 3)
    (W : FVec Ideal S2048x1024 .bf16) (hW : ∀ j, W j = GW (m ((c : Thread nD τ).loc main_arg1)) (t.val / 8) (lt11 t) j) (y : S1x2x512.Idx) :
    k0_pay14 (F := Ideal) (k0_pay5 (iblk m c 0 t) W) y = STT (m ((c : Thread nD τ).loc main_arg0)) (m ((c : Thread nD τ).loc main_arg1)) (((cfg0.win 6).blk t).view.emb y) := by
  obtain rfl : W = _ := funext hW
  have e := (idx t).2.2.2.2.2.2
  have h0 : (((cfg0.win 6).blk t).view.emb y 0).val = win0_6.index t (0 : Fin 3) * 1 + 1 * (y 0).val := rfl
  have h1 : (((cfg0.win 6).blk t).view.emb y 1).val = win0_6.index t (1 : Fin 3) * 2 + 1 * (y 1).val := rfl
  have h2 : (((cfg0.win 6).blk t).view.emb y 2).val = win0_6.index t (2 : Fin 3) * 512 + 1 * (y 2).val := rfl
  rw [e] at h0 h1 h2
  change _ = t.val % 8 / 4 * 1 + 1 * (y 0).val at h0
  change _ = 0 * 2 + 1 * (y 1).val at h1
  change _ = t.val / 8 * 512 + 1 * (y 2).val at h2
  have hy : (y 0).val < 1 := (y 0).isLt
  have hr := stt_at (m ((c : Thread nD τ).loc main_arg0)) (m ((c : Thread nD τ).loc main_arg1)) (((cfg0.win 6).blk t).view.emb y 0) (((cfg0.win 6).blk t).view.emb y 1) (((cfg0.win 6).blk t).view.emb y 2)
  rw [h0, h1, h2, ← eq_ix3 (((cfg0.win 6).blk t).view.emb y)] at hr
  refine Eq.trans ?_ hr.symm
  refine (congrArg _ (show y = ix3 0 (y 1) (y 2) from (eq_ix3 y).trans ((ix3_inj ..).2 ⟨Fin.ext (by show (y 0).val = 0; omega), rfl, rfl⟩))).trans ?_
  refine (pay14_at m c t (y 1) (y 2)).trans ?_
  congr 1
  · show 1024 * (t.val % 8) + (1022 + (y 1).val) = _; omega
  · omega

/-- The kernel's second result array is the reference's. -/
theorem final2 (c : Dev nD) : (dats m 0 c).arrAt 6 (cfgs 0).N = STT (m ((c : Thread nD τ).loc main_arg0)) (m ((c : Thread nD τ).loc main_arg1)) := by
  refine (dats m 0 c).arrAt_eq_of_covers 6 _ (by decide +kernel) fun t hf y => ?_
  have h3 : t.val % 4 = 3 := (by decide +kernel : ∀ t : Fin grid0.N, win0_6.flush t = true → t.val % 4 = 3) t hf
  blk_simp
  rw [after0_6]
  have hh0 := held0 m c t
  rw [outsAt0_C m c t (by omega) (by omega) h3] at hh0 ⊢
  frame_out
  simp only [read_unread_whole]
  exact core2 m c t h3 _ hh0 y

/-- The kernel over the reals and the reference end with the same results. -/
theorem equal : Cert.algebraic_UpIdeal_RefUpIdeal := by
  intro m g m' g' _ hag
  refine ⟨fun c => REF (m ((c : Thread nD τ).loc main_arg0)) (m ((c : Thread nD τ).loc main_arg1)) (m ((c : Thread nD τ).loc main_arg2)) (m ((c : Thread nD τ).loc main_arg3)), fun c => STT (m ((c : Thread nD τ).loc main_arg0)) (m ((c : Thread nD τ).loc main_arg1)),
    (θ_run _ _ _).mono (fun r h c => ⟨(h c).1.trans (final1 m c), (h c).2.1.trans (final2 m c), (h c).2.2⟩)
      (Cert.UpIdeal.Value.run_blocks m g),
    (θ_run _ _ _).mono (fun r h c => ⟨(h c).1.trans ?_, (h c).2.1.trans ?_, (h c).2.2⟩) (Cert.RefUpIdeal.Value.run m' g')⟩
  · show REF (m' ((c : Thread nD τ).loc Cert.RefUpIdeal.main_arg0)) (m' ((c : Thread nD τ).loc Cert.RefUpIdeal.main_arg1))
      (m' ((c : Thread nD τ).loc Cert.RefUpIdeal.main_arg2)) (m' ((c : Thread nD τ).loc Cert.RefUpIdeal.main_arg3)) = _
    rw [(hag c).1, (hag c).2.1, (hag c).2.2.1, (hag c).2.2.2]
  · show STT (m' ((c : Thread nD τ).loc Cert.RefUpIdeal.main_arg0)) (m' ((c : Thread nD τ).loc Cert.RefUpIdeal.main_arg1)) = _
    rw [(hag c).1, (hag c).2.1]

/-- The reference terminates with its arguments unchanged and nothing in flight. -/
theorem refFrame : Cert.quiescent_RefUpIdeal := fun m g _ =>
  (θ_run Cert.RefUpIdeal.defs _ _).mono (fun r h => ⟨fun c => (h c).2.2, sem_eq_zero_of_no_sems (by decide) r.2⟩)
    (Cert.RefUpIdeal.Value.run m g)

end Cert.UpIdeal.Hand

end
-- ==== Proof.DownValue.lean ====
module

public import proofs.«01_k».proof.Defs
public import proofs.«01_k».proof.Proof.Gen.DownIdeal.Value
public import proofs.«01_k».proof.Proof.Gen.RefDownIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.DownIdeal.Hand

open Cert.DownIdeal Cert.DownIdeal.Gen
open Idealize.ShloMosaic Idealize.ShloMosaic.TcCoe Idealize.SL.Sem
open Idealize.ShloMosaic.Pipeline (Dat)

variable (m : (ℓ : Loc nD τ sig) → Buf (Elt Ideal) ℓ)

/-- What the reference program leaves: the activations times the down projection. -/
abbrev REF (a : FVec Ideal S8192x5632 .bf16) (w : FVec Ideal S1x5632x2048 .f32) : FVec Ideal S8192x2048 .bf16 :=
  truncf .bf16 (Host.dotGeneral Cert.RefDownIdeal.dot_S8192x5632_S5632x2048_S8192x2048_1_0_0_1_n_n none
    (extf .f32 a Cert.RefDownIdeal.Gen.bitsLt_bf16_f32)
    (shapeCast _ w Cert.RefDownIdeal.Gen.shapeCasts_S1x5632x2048_S5632x2048)) Cert.RefDownIdeal.Gen.bitsLt_bf16_f32

/-- Which blocks a grid point reads and writes: rows by the point modulo 16, columns by its quotient. -/
theorem idx : ∀ t : Fin cfg0.N, win0_0.index t = ![t.val % 16, 0] ∧ win0_1.index t = ![0, 0, t.val / 16]
    ∧ win0_2.index t = ![t.val % 16, t.val / 16] := (by decide +kernel : ∀ t : Fin grid0.N, _)

/-- The weight block kept in scratch is, at every point, the block written at the start of its column. -/
theorem held (c : Dev nD) (t : Fin cfg0.N) (j : S5632x512.Idx) :
    (outsAt0 m c t.val t.isLt).2 j
      = k0_pay1 (F := Ideal) (iblk m c 1 ⟨16 * (t.val / 16), Pipeline.run_start_lt t⟩) j := by
  refine Pipeline.eq_of_write_hold_apply (fun n h => (outsAt0 m c n h).2) 16
    (fun t => k0_pay1 (F := Ideal) (iblk m c 1 t)) ?_ ?_ t j
  · intro t h j
    rw [outsAt0_A m c t h]; frame_out
  · intro t h j
    rw [outsAt0_B m c t h]; rfl

/-- One output block is the reference's, entry by entry, when the weights come from the block of its column. -/
theorem core (c : Dev nD) (t u : Fin cfg0.N) (hu : u.val / 16 = t.val / 16) (y : S512x512.Idx) :
    k0_pay2 (F := Ideal) (iblk m c 0 t) (k0_pay1 (F := Ideal) (iblk m c 1 u)) y
      = REF (m ((c : Thread nD τ).loc main_arg0)) (m ((c : Thread nD τ).loc main_arg1))
          (((cfg0.win 2).blk t).view.emb y) := by
  pointwise [k0_pay1, k0_pay2, REF]
  blk_point [iblk, V, idx t, idx u]

/-- The kernel's result array is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  by_cases h : t.val % 16 = 0
  · rw [outsAt0_A m c t h]
    frame_out
    exact core m c t t rfl y
  · have hh := held m c t
    rw [outsAt0_B m c t h] at hh ⊢
    frame_out
    simp only [read_unread_whole]
    rw [show (outsAt0 m c (t.val - 1) (Nat.lt_of_le_of_lt (Nat.sub_le _ _) t.isLt)).2 = _ from funext hh]
    exact core m c t _ (by show 16 * (t.val / 16) / 16 = _; omega) y

/-- The kernel over the reals and the reference end with the same result. -/
theorem equal : Cert.algebraic_DownIdeal_RefDownIdeal := by
  intro m g m' g' _ hag
  exact ⟨fun c => REF (m ((c : Thread nD τ).loc main_arg0)) (m ((c : Thread nD τ).loc main_arg1)),
    (θ_run _ _ _).mono (fun r h c => ⟨(h c).1.trans (final m c), (h c).2⟩) (Cert.DownIdeal.Value.run_blocks m g),
    (θ_run _ _ _).mono (fun r h c => ⟨(h c).1.trans (by rw [(hag c).1, (hag c).2]), (h c).2⟩)
      (Cert.RefDownIdeal.Value.run m' g')⟩

/-- The reference terminates with its arguments unchanged and nothing in flight. -/
theorem refFrame : Cert.quiescent_RefDownIdeal := fun m g _ =>
  (θ_run Cert.RefDownIdeal.defs _ _).mono (fun r h => ⟨fun c => (h c).2, sem_eq_zero_of_no_sems (by decide) r.2⟩)
    (Cert.RefDownIdeal.Value.run m g)

end Cert.DownIdeal.Hand

end
-- ==== Proof.FinalValue.lean ====
module

public import proofs.«01_k».proof.Defs
public import proofs.«01_k».proof.Proof.Gen.FinalIdeal.Value
public import proofs.«01_k».proof.Proof.Gen.RefFinalIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.FinalIdeal.Hand

open Cert.FinalIdeal Cert.FinalIdeal.Gen
open Idealize.ShloMosaic Idealize.ShloMosaic.TcCoe Idealize.SL.Sem
open Idealize.ShloMosaic.Pipeline (Dat)

variable (m : (ℓ : Loc nD τ sig) → Buf (Elt Ideal) ℓ)

/-- Each row over the root of its mean square plus a small constant, times a gain. -/
abbrev NORM (x : FVec Ideal S8192x2048 .f32) (g : FVec Ideal S1x2048 .f32) : FVec Ideal S8192x2048 .f32 :=
  mulf (mulf x (broadcastInDim S8192x2048 ![0, 1] Cert.RefFinalIdeal.Gen.bcast_S8192x1_S8192x2048_0_1 (Host.rsqrt (addf
    (Host.divf (broadcastInDim Cert.RefFinalIdeal.S8192x1 ![0] Cert.RefFinalIdeal.Gen.bcast_S8192_S8192x1_0 (Host.reduceAdd (mulf x x) (constant Cert.RefFinalIdeal.S_ .f32 0x00000000#32)
        Cert.RefFinalIdeal.Gen.reducesTo_S8192x2048_S8192_d1 Cert.RefFinalIdeal.Gen.h_S_)) (broadcastInDim Cert.RefFinalIdeal.S8192x1 ![] Cert.RefFinalIdeal.Gen.bcast_S_S8192x1 (constant Cert.RefFinalIdeal.S_ .f32 0x45000000#32)))
    (broadcastInDim Cert.RefFinalIdeal.S8192x1 ![] Cert.RefFinalIdeal.Gen.bcast_S_S8192x1 (constant Cert.RefFinalIdeal.S_ .f32 0x358637BD#32))))))
    (broadcastInDim S8192x2048 ![0, 1] Cert.RefFinalIdeal.Gen.bcast_S1x2048_S8192x2048_0_1 (broadcastInDim S1x2048 ![1] Cert.RefFinalIdeal.Gen.bcast_S2048_S1x2048_1
      (shapeCast _ g Cert.RefFinalIdeal.Gen.shapeCasts_S1x2048_S2048)))

/-- The residual stream with the normalised feed-forward output added. -/
abbrev X2 (f : FVec Ideal S8192x2048 .bf16) (x1 : FVec Ideal S8192x2048 .f32) (g : FVec Ideal S1x2048 .f32) : FVec Ideal S8192x2048 .f32 :=
  addf x1 (NORM (extf .f32 f Cert.RefFinalIdeal.Gen.bitsLt_bf16_f32) g)

/-- What the reference program leaves: the stream plus the gated embedding. -/
abbrev REF (f : FVec Ideal S8192x2048 .bf16) (x1 : FVec Ideal S8192x2048 .f32) (p : FVec Ideal S8192x256 .f32) (g : FVec Ideal S1x2048 .f32)
    (wg : FVec Ideal S1x2048x2048 .f32) (wp : FVec Ideal S1x256x2048 .f32) : FVec Ideal S8192x2048 .f32 :=
  addf (X2 f x1 g) (mulf (Host.divf (broadcastInDim S8192x2048 ![] Cert.RefFinalIdeal.Gen.bcast_S_S8192x2048 (constant Cert.RefFinalIdeal.S_ .f32 0x3F800000#32))
      (addf (broadcastInDim S8192x2048 ![] Cert.RefFinalIdeal.Gen.bcast_S_S8192x2048 (constant Cert.RefFinalIdeal.S_ .f32 0x3F800000#32)) (Host.exp (Host.negf
        (Host.dotGeneral Cert.RefFinalIdeal.dot_S8192x2048_S2048x2048_S8192x2048_1_0_0_1_n_n none (X2 f x1 g)
          (shapeCast _ wg Cert.RefFinalIdeal.Gen.shapeCasts_S1x2048x2048_S2048x2048))))))
    (Host.dotGeneral Cert.RefFinalIdeal.dot_S8192x256_S256x2048_S8192x2048_1_0_0_1_n_n none p (shapeCast _ wp Cert.RefFinalIdeal.Gen.shapeCasts_S1x256x2048_S256x2048)))

/-- Which blocks a grid point reads and writes: its rows, and all of the weights. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0]
    ∧ win0_6.index t = ![t.val, 0] := (by decide +kernel : ∀ t : Fin grid0.N, _)

/-- The gate's weights kept in scratch are the ones written at the first point. -/
theorem held1 (c : Dev nD) (t : Fin cfg0.N) (j : S2048x2048.Idx) : (outsAt0 m c t.val t.isLt).2.1 j
      = k0_pay1 (F := Ideal) (iblk m c 4 ⟨32 * (t.val / 32), Pipeline.run_start_lt t⟩) j := by
  refine Pipeline.eq_of_write_hold_apply (fun n h => (outsAt0 m c n h).2.1) 32
    (fun t => k0_pay1 (F := Ideal) (iblk m c 4 t)) ?_ ?_ t j
  · intro t h j
    rw [outsAt0_A m c t h]; frame_out
  · intro t h j
    rw [outsAt0_B m c t h]; rfl

/-- The embedding's weights kept in scratch are the ones written at the first point. -/
theorem held2 (c : Dev nD) (t : Fin cfg0.N) (j : S256x2048.Idx) : (outsAt0 m c t.val t.isLt).2.2 j
      = k0_pay2 (F := Ideal) (iblk m c 5 ⟨32 * (t.val / 32), Pipeline.run_start_lt t⟩) j := by
  refine Pipeline.eq_of_write_hold_apply (fun n h => (outsAt0 m c n h).2.2) 32
    (fun t => k0_pay2 (F := Ideal) (iblk m c 5 t)) ?_ ?_ t j
  · intro t h j
    rw [outsAt0_A m c t h]; frame_out
  · intro t h j
    rw [outsAt0_B m c t h]; rfl

/-- One output block is the reference's, entry by entry. -/
theorem core (c : Dev nD) (t u : Fin cfg0.N) (y : S256x2048.Idx) :
    k0_pay3 (F := Ideal) (iblk m c 1 t) (iblk m c 0 t) (iblk m c 3 t) (k0_pay1 (iblk m c 4 u)) (iblk m c 2 t) (k0_pay2 (iblk m c 5 u)) y
      =
        REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  pointwise [k0_pay1, k0_pay2, k0_pay3, REF, X2, NORM]
  unfold Ideal.logistic
  blk_point [iblk, V, idx t, idx u]

/-- The kernel's result array is the reference's. -/
theorem final (c : Dev nD) : (dats m 0 c).arrAt 6 (cfgs 0).N = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 32 = 0
  · rw [outsAt0_A m c t h]
    frame_out
    exact core m c t t y
  · have hh1 := held1 m c t
    have hh2 := held2 m c t
    have hp : (t.val - 1) < cfg0.N := Nat.lt_of_le_of_lt (Nat.sub_le _ _) t.isLt
    rw [outsAt0_B m c t h] at hh1 hh2 ⊢
    frame_out
    simp only [read_unread_whole]
    rw [show (outsAt0 m c (t.val - 1) hp).2.1 = _ from funext hh1, show (outsAt0 m c (t.val - 1) hp).2.2 = _ from funext hh2]
    exact core m c t _ y

/-- The kernel over the reals and the reference end with the same result. -/
theorem equal : Cert.algebraic_FinalIdeal_RefFinalIdeal := by
  intro m g m' g' _ hag
  exact ⟨fun c => REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)),
    (θ_run _ _ _).mono (fun r h c => ⟨(h c).1.trans (final m c), (h c).2⟩) (Cert.FinalIdeal.Value.run_blocks m g),
    (θ_run _ _ _).mono (fun r h c => ⟨(h c).1.trans (by
        rw [(hag c).1, (hag c).2.1, (hag c).2.2.1, (hag c).2.2.2.1, (hag c).2.2.2.2.1, (hag c).2.2.2.2.2]),
      (h c).2⟩) (Cert.RefFinalIdeal.Value.run m' g')⟩

/-- The reference terminates with its arguments unchanged and nothing in flight. -/
theorem refFrame : Cert.quiescent_RefFinalIdeal := fun m g _ =>
  (θ_run Cert.RefFinalIdeal.defs _ _).mono (fun r h => ⟨fun c => (h c).2, sem_eq_zero_of_no_sems (by decide) r.2⟩)
    (Cert.RefFinalIdeal.Value.run m g)

end Cert.FinalIdeal.Hand

end
-- ==== Proof.SattnRef.lean ====
module

public import proofs.«01_k».proof.Defs
public import proofs.«01_k».proof.Proof.Gen.RefSattnIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.Softmax

@[expose] public section

set_option maxRecDepth 16384

noncomputable section

namespace Cert.RefSattnIdeal.Hand

open Cert.RefSattnIdeal Cert.RefSattnIdeal.Gen
open Idealize.ShloMosaic Idealize.ShloMosaic.TcCoe Idealize.SL.Sem

/-- The keys (or values) kept for a sequence with the new one behind, as the reference lays them out. -/
def KV (x : FVec Ideal S32x128 .f32) (b : FVec Ideal S32x128x2x64 .f32) : FVec Ideal S32x129x2x64 .f32 :=
  concatenate S32x129x2x64 1 [⟨S32x128x2x64, b⟩, ⟨S32x1x2x64, (shapeCast _ x shapeCasts_S32x128_S32x1x2x64)⟩] concatenates_S32x128x2x64_S32x1x2x64_S32x129x2x64_d1

/-- The last 128 of them: what is kept for the next step. -/
def NEW (x : FVec Ideal S32x128 .f32) (b : FVec Ideal S32x128x2x64 .f32) : FVec Ideal S32x128x128 .f32 :=
  shapeCast _ (extractStridedSlice S32x128x2x64 ![0, 1, 0, 0] (KV x b) slices_S32x129x2x64_S32x128x2x64_0_1_0_0) shapeCasts_S32x128x2x64_S32x128x128

/-- The reference's scores before masking. -/
def SC (q : FVec Ideal S32x1024 .bf16) (k : FVec Ideal S32x128 .f32) (bk : FVec Ideal S32x128x2x64 .f32) : FVec Ideal S32x1x2x8x1x129 .f32 :=
  transpose S32x1x2x8x1x129 [0, 1, 2, 5, 4, 3] (Host.dotGeneral dot_S32x1x129x2x64_S32x1x1x2x8x64_S32x1x2x129x1x8_4_5_2_24_013_013 none (broadcastInDim S32x1x129x2x64 ![0, 2, 3, 4] bcast_S32x129x2x64_S32x1x129x2x64_0_2_3_4 (KV k bk)) (shapeCast _ (extf .f32 q bitsLt_bf16_f32) shapeCasts_S32x1024_S32x1x1x2x8x64)) transposes_S32x1x2x129x1x8_S32x1x2x8x1x129_0_1_2_5_4_3

/-- The reference's masked scores. -/
def SM (q : FVec Ideal S32x1024 .bf16) (k : FVec Ideal S32x128 .f32) (bk : FVec Ideal S32x128x2x64 .f32) : FVec Ideal S32x1x2x8x1x129 .f32 :=
  select (broadcastInDim S32x1x2x8x1x129 ![0, 1, 2, 3, 4, 5] bcast_S1x1x1x1x1x129_S32x1x2x8x1x129_0_1_2_3_4_5 (broadcastInDim S1x1x1x1x1x129 ![1, 4, 5] bcast_S1x1x129_S1x1x1x1x1x129_1_4_5 (broadcastInDim S1x1x129 ![1, 2] bcast_S1x129_S1x1x129_1_2 (andi (cmpi .sge (subi (broadcastInDim S1x129 ![0, 1] bcast_S1x1_S1x129_0_1 (broadcastInDim S1x1 ![0] bcast_S1_S1x1_0 (addi (broadcastInDim S1 ![] bcast_S_S1 (constantI S_ 32 16384#32)) (iotaInDim S1 32 0)))) (broadcastInDim S1x129 ![1] bcast_S129_S1x129_1 (addi (broadcastInDim S129 ![] bcast_S_S129 (constantI S_ 32 16256#32)) (iotaInDim S129 32 0)))) (broadcastInDim S1x129 ![] bcast_S_S1x129 (constantI S_ 32 0#32))) (cmpi .slt (subi (broadcastInDim S1x129 ![0, 1] bcast_S1x1_S1x129_0_1 (broadcastInDim S1x1 ![0] bcast_S1_S1x1_0 (addi (broadcastInDim S1 ![] bcast_S_S1 (constantI S_ 32 16384#32)) (iotaInDim S1 32 0)))) (broadcastInDim S1x129 ![1] bcast_S129_S1x129_1 (addi (broadcastInDim S129 ![] bcast_S_S129 (constantI S_ 32 16256#32)) (iotaInDim S129 32 0)))) (broadcastInDim S1x129 ![] bcast_S_S1x129 (constantI S_ 32 128#32))))))) (SC q k bk) (broadcastInDim S32x1x2x8x1x129 ![] bcast_S_S32x1x2x8x1x129 (id (constant S_ .f32 0xFF800000#32)))

/-- The reference's masked scores with the sink as a last column. -/
def S2 (sinks : FVec Ideal S1x16 .f32) (q : FVec Ideal S32x1024 .bf16) (k : FVec Ideal S32x128 .f32) (bk : FVec Ideal S32x128x2x64 .f32) : FVec Ideal S32x1x2x8x1x130 .f32 :=
  concatenate S32x1x2x8x1x130 5 [⟨S32x1x2x8x1x129, (SM q k bk)⟩, ⟨S32x1x2x8x1x1, (broadcastInDim S32x1x2x8x1x1 ![0, 1, 2, 3, 4, 5] bcast_S1x1x2x8x1x1_S32x1x2x8x1x1_0_1_2_3_4_5 (broadcastInDim S1x1x2x8x1x1 ![2, 3] bcast_S2x8_S1x1x2x8x1x1_2_3 (shapeCast _ sinks shapeCasts_S1x16_S2x8)))⟩] concatenates_S32x1x2x8x1x129_S32x1x2x8x1x1_S32x1x2x8x1x130_d5

/-- The reference's row maxima. -/
def MX (sinks : FVec Ideal S1x16 .f32) (q : FVec Ideal S32x1024 .bf16) (k : FVec Ideal S32x128 .f32) (bk : FVec Ideal S32x128x2x64 .f32) : FVec Ideal S32x1x2x8x1 .f32 :=
  maximumf (broadcastInDim S32x1x2x8x1 ![] bcast_S_S32x1x2x8x1 (constant S_ .f32 0xFF800000#32)) (Host.reduce FloatOps.maximumf (S2 sinks q k bk) (constant S_ .f32 0xFF800000#32) reducesTo_S32x1x2x8x1x130_S32x1x2x8x1_d5 h_S_)

/-- The exponentials of the scores and the sink less the row maxima. -/
def E (sinks : FVec Ideal S1x16 .f32) (q : FVec Ideal S32x1024 .bf16) (k : FVec Ideal S32x128 .f32) (bk : FVec Ideal S32x128x2x64 .f32) : FVec Ideal S32x1x2x8x1x130 .f32 :=
  Host.exp (subf (S2 sinks q k bk) (broadcastInDim S32x1x2x8x1x130 ![0, 1, 2, 3, 4, 5] bcast_S32x1x2x8x1x1_S32x1x2x8x1x130_0_1_2_3_4_5 (broadcastInDim S32x1x2x8x1x1 ![0, 1, 2, 3, 4] bcast_S32x1x2x8x1_S32x1x2x8x1x1_0_1_2_3_4 (MX sinks q k bk))))

/-- Their sums along the rows. -/
def DEN (sinks : FVec Ideal S1x16 .f32) (q : FVec Ideal S32x1024 .bf16) (k : FVec Ideal S32x128 .f32) (bk : FVec Ideal S32x128x2x64 .f32) : FVec Ideal S32x1x2x8x1 .f32 :=
  Host.reduceAdd (E sinks q k bk) (constant S_ .f32 0x00000000#32) reducesTo_S32x1x2x8x1x130_S32x1x2x8x1_d5 h_S_

/-- The reference's result as a function of its six arguments. -/
def REF (sinks : FVec Ideal S1x16 .f32) (q : FVec Ideal S32x1024 .bf16) (k : FVec Ideal S32x128 .f32) (v : FVec Ideal S32x128 .f32) (bk bv : FVec Ideal S32x128x2x64 .f32) : FVec Ideal S32x16x64 .bf16 :=
  truncf .bf16 (shapeCast _ (transpose S32x1x1x2x8x64 [0, 1, 5, 2, 4, 3] (Host.dotGeneral dot_S32x1x129x2x64_S32x1x2x8x1x129_S32x1x2x64x8x1_2_5_4_34_013_012 none (broadcastInDim S32x1x129x2x64 ![0, 2, 3, 4] bcast_S32x129x2x64_S32x1x129x2x64_0_2_3_4 (KV v bv)) (extractStridedSlice S32x1x2x8x1x129 ![0, 0, 0, 0, 0, 0] (Host.divf (E sinks q k bk) (broadcastInDim S32x1x2x8x1x130 ![0, 1, 2, 3, 4, 5] bcast_S32x1x2x8x1x1_S32x1x2x8x1x130_0_1_2_3_4_5 (broadcastInDim S32x1x2x8x1x1 ![0, 1, 2, 3, 4] bcast_S32x1x2x8x1_S32x1x2x8x1x1_0_1_2_3_4 (DEN sinks q k bk)))) slices_S32x1x2x8x1x130_S32x1x2x8x1x129_0_0_0_0_0_0)) transposes_S32x1x2x64x8x1_S32x1x1x2x8x64_0_1_5_2_4_3) shapeCasts_S32x1x1x2x8x64_S32x16x64) bitsLt_bf16_f32

/-- The indices that drop to a given one, along the last of six axes. -/
theorem fiber (h : S32x1x2x8x1x130.ReducesTo [5] S32x1x2x8x1) (n : Fin 32) (b : Fin 1) (kh : Fin 2) (g : Fin 8) (r : Fin 1)
    (i : S32x1x2x8x1x130.Idx) :
    h.drop i = (ix5 n b kh g r : S32x1x2x8x1.Idx) ↔ ∃ c : Fin 130, (ix6 n b kh g r c : S32x1x2x8x1x130.Idx) = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨c, rfl⟩
    funext a; apply Fin.ext
    match a with
    | ⟨0, _⟩ => rfl
    | ⟨1, _⟩ => rfl
    | ⟨2, _⟩ => rfl
    | ⟨3, _⟩ => rfl
    | ⟨4, _⟩ => rfl

/-- The host's sum along the last of six axes. -/
theorem reduceAdd_at (x : FVec Ideal S32x1x2x8x1x130 .f32) (z : FVec Ideal S_ .f32) (n : Fin 32) (b : Fin 1) (kh : Fin 2) (g : Fin 8)
    (r : Fin 1) :
    Host.reduceAdd x z reducesTo_S32x1x2x8x1x130_S32x1x2x8x1_d5 h_S_ (ix5 n b kh g r)
      = z (Shape.Idx.first h_S_) + ∑ c : Fin 130, x (ix6 n b kh g r c) := by
  pointwise
  unfold Ideal.hostReduceAdd
  rw [Finset.sum_filter_eq_sum_of_fiber _ (fun c : Fin 130 => (ix6 n b kh g r c : S32x1x2x8x1x130.Idx))
    (fun _ _ e => congrFun e 5) (fiber _ n b kh g r) x]

/-- The host's maximum along the last of six axes. -/
theorem reduceMax_at (x : FVec Ideal S32x1x2x8x1x130 .f32) (z : FVec Ideal S_ .f32) (n : Fin 32) (b : Fin 1) (kh : Fin 2) (g : Fin 8)
    (r : Fin 1) :
    Host.reduce FloatOps.maximumf x z reducesTo_S32x1x2x8x1x130_S32x1x2x8x1_d5 h_S_ (ix5 n b kh g r)
      = (Finset.univ : Finset (Fin 130)).fold (max : EReal → EReal → EReal) (z (Shape.Idx.first h_S_)) fun c => x (ix6 n b kh g r c) := by
  pointwise
  exact Finset.fold_filter_eq_fold_of_fiber (max : EReal → EReal → EReal) _ (fun c : Fin 130 => (ix6 n b kh g r c : S32x1x2x8x1x130.Idx))
    (fun _ _ e => congrFun e 5) (fiber reducesTo_S32x1x2x8x1x130_S32x1x2x8x1_d5 n b kh g r) _ x

/-- A column of the scores and the sink side by side. -/
theorem concat_at (x : FVec Ideal S32x1x2x8x1x129 .f32) (w : FVec Ideal S32x1x2x8x1x1 .f32) (n : Fin 32) (b : Fin 1) (kh : Fin 2)
    (g : Fin 8) (r : Fin 1) (c : Fin 130) :
    concatenate S32x1x2x8x1x130 5 [⟨S32x1x2x8x1x129, x⟩, ⟨S32x1x2x8x1x1, w⟩]
        concatenates_S32x1x2x8x1x129_S32x1x2x8x1x1_S32x1x2x8x1x130_d5 (ix6 n b kh g r c)
      = if h : c.val < 129 then x (ix6 n b kh g r ⟨c.val, h⟩) else w (ix6 n b kh g r 0) := by
  obtain rfl : b = 0 := Subsingleton.elim _ _
  obtain rfl : r = 0 := Subsingleton.elim _ _
  pointwise
  by_cases h : (c : ℕ) < 129
  · rw [dif_pos h, dif_pos h]
  · rw [dif_neg h, dif_neg h]
    exact congrArg w (congrArg (ix6 n 0 kh g 0) (Subsingleton.elim _ _))

/-- An entry of the kept keys (or values). -/
theorem KV_old (x : FVec Ideal S32x128 .f32) (b : FVec Ideal S32x128x2x64 .f32) (n : Fin 32) (j : Fin 129) (h : Fin 2) (d : Fin 64)
    (hj : j.val < 128) : KV x b (ix4 n j h d) = b (ix4 n ⟨j.val, hj⟩ h d) := by
  pointwise [KV]
  rw [dif_pos hj]

/-- An entry of the new key (or value). -/
theorem KV_new (x : FVec Ideal S32x128 .f32) (b : FVec Ideal S32x128x2x64 .f32) (n : Fin 32) (j : Fin 129) (h : Fin 2) (d : Fin 64)
    (hj : ¬ j.val < 128) : KV x b (ix4 n j h d) = x (ix2 n ⟨h.val * 64 + d.val, by omega⟩) := by
  pointwise [KV]
  rw [dif_neg hj]

/-- The keys (or values) kept for the next step, entry by entry. -/
theorem NEW_at (x : FVec Ideal S32x128 .f32) (b : FVec Ideal S32x128x2x64 .f32) (n : Fin 32) (j : Fin 128) (c : Fin 128) :
    NEW x b (ix3 n j c) = KV x b (ix4 n j.succ ⟨c.val / 64, by omega⟩ ⟨c.val % 64, by omega⟩) := by
  pointwise [NEW]
  exact congrArg _ ((ix4_inj ..).2 ⟨rfl, Fin.ext (Nat.add_comm _ _), rfl, rfl⟩)

/-- The mask bit of a column: every column but the first. -/
def mk (j : Fin 129) : BitVec 1 := if j.val = 0 then 0#1 else 1#1

/-- The pattern of −∞ is −∞. -/
theorem ofBits_bot : Ideal.ofBits .f32 0xFF800000#32 = ⊥ := by simp [Ideal.ofBits, Ideal.ieee]

/-- A masked score: the product of a query and a key where the mask allows it, else −∞. -/
theorem SM_at (q : FVec Ideal S32x1024 .bf16) (k : FVec Ideal S32x128 .f32) (bk : FVec Ideal S32x128x2x64 .f32)
    (n : Fin 32) (kh : Fin 2) (g : Fin 8) (j : Fin 129) :
    SM q k bk (ix6 n 0 kh g 0 j) = Scalar.select (mk j)
      (∑ d : Fin 64, KV k bk (ix4 n j kh d) * q (ix2 n ⟨kh * 512 + g * 64 + d, by omega⟩))
      (⊥ : EReal) := by
  pointwise [SM, SC]
  rw [show (id (constant (F := Ideal) S_ FTy.f32 4286578688#32) ix0 : EReal) = ⊥ from ofBits_bot]
  refine congrArg (fun z : BitVec 1 => Scalar.select z (_ : EReal) (⊥ : EReal)) ?_
  clear q k bk
  revert j
  decide +kernel

/-- A column of the scores with the sink, before the last. -/
theorem S2_at (sinks : FVec Ideal S1x16 .f32) (q : FVec Ideal S32x1024 .bf16) (k : FVec Ideal S32x128 .f32) (bk : FVec Ideal S32x128x2x64 .f32)
    (n : Fin 32) (b : Fin 1) (kh : Fin 2) (g : Fin 8) (r : Fin 1) (j : Fin 129) :
    S2 sinks q k bk (ix6 n b kh g r j.castSucc) = SM q k bk (ix6 n b kh g r j) := by
  unfold S2
  rw [concat_at, dif_pos (show (j.castSucc : Fin 130).val < 129 from j.isLt)]; rfl

/-- The sink's column. -/
theorem S2_last (sinks : FVec Ideal S1x16 .f32) (q : FVec Ideal S32x1024 .bf16) (k : FVec Ideal S32x128 .f32) (bk : FVec Ideal S32x128x2x64 .f32)
    (n : Fin 32) (b : Fin 1) (kh : Fin 2) (g : Fin 8) (r : Fin 1) :
    S2 sinks q k bk (ix6 n b kh g r (Fin.last 129)) = sinks (ix2 0 ⟨kh * 8 + g, by omega⟩) := by
  unfold S2
  rw [concat_at, dif_neg (show ¬ (Fin.last 129 : Fin 130).val < 129 by decide)]
  pointwise

/-- The greater of two entries. -/
theorem max_at (x w : FVec Ideal S32x1x2x8x1 .f32) (i : S32x1x2x8x1.Idx) : maximumf x w i = max (x i : EReal) (w i) := rfl

/-- One number laid out over the rows. -/
theorem bcast_at (z : FVec Ideal S_ .f32) (i : S32x1x2x8x1.Idx) :
    broadcastInDim S32x1x2x8x1 ![] bcast_S_S32x1x2x8x1 z i = z ix0 := by
  pointwise

/-- A constant number. -/
theorem const_at (b : BitVec 32) (i : S_.Idx) : constant (F := Ideal) S_ .f32 b i = Ideal.ofBits .f32 b := rfl

/-- The reference's row maxima. -/
theorem MX_at (sinks : FVec Ideal S1x16 .f32) (q : FVec Ideal S32x1024 .bf16) (k : FVec Ideal S32x128 .f32) (bk : FVec Ideal S32x128x2x64 .f32)
    (n : Fin 32) (b : Fin 1) (kh : Fin 2) (g : Fin 8) (r : Fin 1) :
    MX sinks q k bk (ix5 n b kh g r) = Soft.top (fun j : Fin 129 => SM q k bk (ix6 n b kh g r j)) (sinks (ix2 0 ⟨kh * 8 + g, by omega⟩)) := by
  unfold MX Soft.top
  rw [max_at, reduceMax_at, bcast_at, const_at, const_at, ofBits_bot,
    Soft.fold_max_succ (n := 129), S2_last, bot_sup_eq]
  simp only [S2_at]

/-- An exponential of the reference. -/
theorem E_at (sinks : FVec Ideal S1x16 .f32) (q : FVec Ideal S32x1024 .bf16) (k : FVec Ideal S32x128 .f32) (bk : FVec Ideal S32x128x2x64 .f32)
    (n : Fin 32) (b : Fin 1) (kh : Fin 2) (g : Fin 8) (r : Fin 1) (c : Fin 130) :
    E sinks q k bk (ix6 n b kh g r c) = Ideal.exp (S2 sinks q k bk (ix6 n b kh g r c) - MX sinks q k bk (ix5 n b kh g r)) := by
  obtain rfl : b = 0 := Subsingleton.elim _ _
  obtain rfl : r = 0 := Subsingleton.elim _ _
  pointwise [E]

/-- The reference's denominators. -/
theorem DEN_at (sinks : FVec Ideal S1x16 .f32) (q : FVec Ideal S32x1024 .bf16) (k : FVec Ideal S32x128 .f32) (bk : FVec Ideal S32x128x2x64 .f32)
    (n : Fin 32) (b : Fin 1) (kh : Fin 2) (g : Fin 8) (r : Fin 1) :
    DEN sinks q k bk (ix5 n b kh g r) = Soft.den (fun j : Fin 129 => SM q k bk (ix6 n b kh g r j)) (sinks (ix2 0 ⟨kh * 8 + g, by omega⟩)) := by
  unfold DEN
  rw [reduceAdd_at, Fin.sum_univ_castSucc, E_at, S2_last, MX_at]
  simp only [E_at, S2_at, MX_at]
  rw [const_at, show Ideal.ofBits .f32 0x00000000#32 = 0 from Ideal.ofBits_zero _, zero_add]
  rfl

/-- The score of one entry of the result and one kept key. -/
def sc (q : FVec Ideal S32x1024 .bf16) (k : FVec Ideal S32x128 .f32) (bk : FVec Ideal S32x128x2x64 .f32) (n : Fin 32) (a : Fin 16) (j : Fin 128) : EReal :=
  ∑ d : Fin 64, q (ix2 n ⟨a.val * 64 + d.val, by omega⟩) * KV k bk (ix4 n j.succ ⟨a.val / 8, by omega⟩ d)

/-- The masked scores are those of the kept keys behind a first one of −∞. -/
theorem SM_zero (q : FVec Ideal S32x1024 .bf16) (k : FVec Ideal S32x128 .f32) (bk : FVec Ideal S32x128x2x64 .f32) (n : Fin 32) (kh : Fin 2) (g : Fin 8) :
    SM q k bk (ix6 n 0 kh g 0 0) = (⊥ : EReal) := by
  rw [SM_at]; rfl

theorem SM_succ (q : FVec Ideal S32x1024 .bf16) (k : FVec Ideal S32x128 .f32) (bk : FVec Ideal S32x128x2x64 .f32) (n : Fin 32) (a : Fin 16) (j : Fin 128) :
    SM q k bk (ix6 n 0 ⟨a / 8, by omega⟩ ⟨a % 8, by omega⟩ 0 j.succ) = sc q k bk n a j := by
  rw [SM_at, show mk j.succ = 1#1 from if_neg (by simp)]
  unfold Scalar.select sc
  rw [if_pos (by decide)]
  refine Finset.sum_congr rfl fun d _ => ?_
  rw [mul_comm]
  refine Ideal.mul_congr (congrArg q ((ix2_inj ..).2 ⟨rfl, Fin.ext ?_⟩)) rfl
  show a.val / 8 * 512 + a.val % 8 * 64 + d.val = a.val * 64 + d.val; omega

/-- The masked scores of one entry of the result. -/
def sm (q : FVec Ideal S32x1024 .bf16) (k : FVec Ideal S32x128 .f32) (bk : FVec Ideal S32x128x2x64 .f32) (n : Fin 32) (a : Fin 16) (j : Fin 129) : EReal :=
  SM q k bk (ix6 n 0 ⟨a / 8, by omega⟩ ⟨a % 8, by omega⟩ 0 j)

/-- Every key the reference scores is a real number. -/
theorem KV_fin (k : FVec Ideal S32x128 .f32) (bk : FVec Ideal S32x128x2x64 .f32) (hk : ∀ i, (k i : EReal) ≠ ⊥ ∧ (k i : EReal) ≠ ⊤)
    (hb : ∀ i, (bk i : EReal) ≠ ⊥ ∧ (bk i : EReal) ≠ ⊤) (n : Fin 32) (j : Fin 129) (h : Fin 2) (d : Fin 64) :
    (KV k bk (ix4 n j h d) : EReal) ≠ ⊥ ∧ (KV k bk (ix4 n j h d) : EReal) ≠ ⊤ := by
  by_cases hj : j.val < 128
  · rw [KV_old _ _ _ _ _ _ hj]; exact hb _
  · rw [KV_new _ _ _ _ _ _ hj]; exact hk _

/-- The reference's result, read at an entry, for finite sinks, queries and keys. -/
theorem REF_at (sinks : FVec Ideal S1x16 .f32) (q : FVec Ideal S32x1024 .bf16) (k v : FVec Ideal S32x128 .f32) (bk bv : FVec Ideal S32x128x2x64 .f32)
    (hs : ∀ i, (sinks i : EReal) ≠ ⊥ ∧ (sinks i : EReal) ≠ ⊤) (hq : ∀ i, (q i : EReal) ≠ ⊥ ∧ (q i : EReal) ≠ ⊤)
    (hk : ∀ i, (k i : EReal) ≠ ⊥ ∧ (k i : EReal) ≠ ⊤) (hb : ∀ i, (bk i : EReal) ≠ ⊥ ∧ (bk i : EReal) ≠ ⊤) (n : Fin 32) (a : Fin 16) (d : Fin 64) :
    REF sinks q k v bk bv (ix3 n a d) = Soft.soft (sc q k bk n a) (fun j => KV v bv (ix4 n j.succ ⟨a.val / 8, by omega⟩ d)) (sinks (ix2 0 a)) := by
  have hz : (⟨a.val / 8 * 8 + a.val % 8, by omega⟩ : Fin 16) = a := Fin.ext (by show a.val / 8 * 8 + a.val % 8 = a.val; omega)
  have e1 : sc q k bk n a = fun j : Fin 128 => sm q k bk n a j.succ := funext fun j => (SM_succ q k bk n a j).symm
  have e0 : sm q k bk n a 0 = ⊥ := SM_zero q k bk n _ _
  rw [e1, ← Soft.soft_bot (n := 128) (sm q k bk n a) (fun j : Fin 129 => KV v bv (ix4 n j ⟨a.val / 8, by omega⟩ d)) _ e0]
  rw [Soft.soft_eq (sm q k bk n a) _ (fun j : Fin 129 => KV v bv (ix4 n j ⟨a.val / 8, by omega⟩ d)) _ (hs _).1 (hs _).2]
  · pointwise [REF]
    refine Finset.sum_congr rfl fun j _ => ?_
    rw [DEN_at]
    have he := E_at sinks q k bk n 0 ⟨a / 8, by omega⟩ ⟨a % 8, by omega⟩ 0 j.castSucc
    rw [S2_at, MX_at] at he
    simp only [hz] at he ⊢
    exact Ideal.mul_congr rfl (congrArg (fun z => Ideal.div z _) he)
  · intro j
    unfold sm
    rw [SM_at]
    unfold Scalar.select
    split_ifs
    · exact Soft.sum_mul_ne_top _ _ (fun d => KV_fin k bk hk hb _ _ _ _) (fun d => hq _)
    · exact bot_ne_top
  · exact fun j => Or.inr rfl

end Cert.RefSattnIdeal.Hand

end
-- ==== Proof.SattnValue.lean ====
module

public import proofs.«01_k».proof.Defs
public import proofs.«01_k».proof.Proof.Gen.SattnIdeal.Value
public import proofs.«01_k».proof.Proof.Gen.RefSattnIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.SattnRef
public import proofs.«01_k».proof.Proof.Softmax

@[expose] public section

set_option maxRecDepth 16384

noncomputable section

namespace Cert.SattnIdeal.Hand

open Cert.SattnIdeal Cert.SattnIdeal.Gen
open Idealize.ShloMosaic Idealize.ShloMosaic.TcCoe Idealize.SL.Sem
open Idealize.ShloMosaic.Pipeline (Dat)

variable (m : (ℓ : Loc nD τ sig) → Buf (Elt Ideal) ℓ)

open Cert.RefSattnIdeal.Hand (REF NEW KV sc KV_old KV_new NEW_at REF_at ofBits_bot)

/-- The one grid point reads and writes every array whole. -/
theorem idx : ∀ t : Fin cfg0.N, win0_0.index t = ![0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] := (by decide +kernel : ∀ t : Fin grid0.N, _)

/-- Eight heads' results, from their keys, values, queries and sinks. -/
abbrev HEAD (k v : Vec Ideal S32x128x64 .f32) (q : Vec Ideal S32x8x64 .bf16) (s : Vec Ideal S8x1 .f32) : FVec Ideal S32x8x64 .bf16 :=
  k0_pay8 (F := Ideal) (k0_pay6 v) (k0_pay7 k q) s

/-- The other eight heads' are computed in the same way. -/
theorem head1 (k v : Vec Ideal S32x128x64 .f32) (q : Vec Ideal S32x8x64 .bf16) (s : Vec Ideal S8x1 .f32) :
    k0_pay1 (F := Ideal) (k0_pay9 v) (k0_pay10 k q) (k0_pay11 s) (k0_pay12 k q s) (k0_pay13 k q s) = HEAD k v q s := rfl

/-- Eight heads' results, entry by entry. -/
theorem head_at (k v : Vec Ideal S32x128x64 .f32) (q : Vec Ideal S32x8x64 .bf16) (s : Vec Ideal S8x1 .f32) (n : Fin 32) (g : Fin 8) (d : Fin 64) :
    HEAD k v q s (ix3 n g d) = Cert.Soft.soft (fun j : Fin 128 => ∑ e : Fin 64, q (ix3 n g e) * k (ix3 n j e))
      (fun j => v (ix3 n j d)) (s (ix2 g 0)) := by
  unfold Cert.Soft.soft Cert.Soft.den Cert.Soft.top
  pointwise [HEAD, k0_pay8, k0_pay7, k0_pay6]
  simp only [ofBits_bot]

/-- The sinks the one grid point reads. -/
theorem blk0 (c : Dev nD) (t : Fin cfg0.N) (r : S16x1.Idx) : iblk m c 0 t r = V m c main_v0 r := by
  blk_point [iblk, idx t]

/-- The queries the one grid point reads. -/
theorem blk1 (c : Dev nD) (t : Fin cfg0.N) (r : S32x16x64.Idx) : iblk m c 1 t r = V m c main_v1 r := by
  blk_point [iblk, idx t]

/-- The new keys the one grid point reads. -/
theorem blk2 (c : Dev nD) (t : Fin cfg0.N) (r : S32x1x128.Idx) : iblk m c 2 t r = V m c main_v2 r := by
  blk_point [iblk, idx t]

/-- The new values the one grid point reads. -/
theorem blk3 (c : Dev nD) (t : Fin cfg0.N) (r : S32x1x128.Idx) : iblk m c 3 t r = V m c main_v3 r := by
  blk_point [iblk, idx t]

/-- The kept keys the one grid point reads. -/
theorem blk4 (c : Dev nD) (t : Fin cfg0.N) (r : S32x128x128.Idx) : iblk m c 4 t r = V m c main_v4 r := by
  blk_point [iblk, idx t]

/-- The kept values the one grid point reads. -/
theorem blk5 (c : Dev nD) (t : Fin cfg0.N) (r : S32x128x128.Idx) : iblk m c 5 t r = V m c main_v5 r := by
  blk_point [iblk, idx t]

/-- The sinks, as a column. -/
theorem host0 (c : Dev nD) (a : Fin 16) : V m c main_v0 (ix2 a 0) = m ((c : Thread nD τ).loc main_arg0) (ix2 0 a) := by
  entry_read
  pointwise
  all_goals rfl

/-- The queries, head by head. -/
theorem host1 (c : Dev nD) (n : Fin 32) (a : Fin 16) (d : Fin 64) :
    V m c main_v1 (ix3 n a d) = m ((c : Thread nD τ).loc main_arg1) (ix2 n ⟨a.val * 64 + d.val, by omega⟩) := by
  entry_read
  pointwise
  all_goals rfl

/-- The new keys. -/
theorem host2 (c : Dev nD) (n : Fin 32) (e : Fin 128) : V m c main_v2 (ix3 n 0 e) = m ((c : Thread nD τ).loc main_arg2) (ix2 n e) := by
  entry_read
  pointwise
  all_goals rfl

/-- The new values. -/
theorem host3 (c : Dev nD) (n : Fin 32) (e : Fin 128) : V m c main_v3 (ix3 n 0 e) = m ((c : Thread nD τ).loc main_arg3) (ix2 n e) := by
  entry_read
  pointwise
  all_goals rfl

/-- The kept keys, their two heads side by side. -/
theorem host4 (c : Dev nD) (n : Fin 32) (j : Fin 128) (e : Fin 128) :
    V m c main_v4 (ix3 n j e) = m ((c : Thread nD τ).loc main_arg4) (ix4 n j ⟨e.val / 64, by omega⟩ ⟨e.val % 64, by omega⟩) := by
  entry_read
  pointwise
  all_goals rfl

/-- The kept values, their two heads side by side. -/
theorem host5 (c : Dev nD) (n : Fin 32) (j : Fin 128) (e : Fin 128) :
    V m c main_v5 (ix3 n j e) = m ((c : Thread nD τ).loc main_arg5) (ix4 n j ⟨e.val / 64, by omega⟩ ⟨e.val % 64, by omega⟩) := by
  entry_read
  pointwise
  all_goals rfl

/-- All but the last row laid down for the next step are the kept rows, one row up. -/
theorem new_keep (x : FVec Ideal S32x128 .f32) (b : FVec Ideal S32x128x2x64 .f32) (n : Fin 32) (j : Fin 127) (e : Fin 128) :
    NEW x b (ix3 n ⟨0 + 1 * j.val, by omega⟩ e) = b (ix4 n ⟨1 + 1 * j.val, by omega⟩ ⟨e.val / 64, by omega⟩ ⟨e.val % 64, by omega⟩) := by
  rw [NEW_at, KV_old _ _ _ _ _ _ (by show 0 + 1 * j.val + 1 < 128; omega)]
  exact congrArg b (congrArg (fun z => ix4 n z _ _) (Fin.ext (by show 0 + 1 * j.val + 1 = 1 + 1 * j.val; omega)))

/-- The last row is the new one. -/
theorem new_last (x : FVec Ideal S32x128 .f32) (b : FVec Ideal S32x128x2x64 .f32) (n : Fin 32) (e : Fin 128) :
    NEW x b (ix3 n 127 e) = x (ix2 n e) := by
  rw [NEW_at, KV_new _ _ _ _ _ _ (by decide)]
  exact congrArg x (congrArg (fun z => ix2 n z) (Fin.ext (by show e.val / 64 * 64 + e.val % 64 = e.val; omega)))

/-- A column of head `o`. -/
theorem new_col (x : FVec Ideal S32x128 .f32) (b : FVec Ideal S32x128x2x64 .f32) (n : Fin 32) (j : Fin 128) (o : Fin 2) (d : Fin 64) :
    NEW x b (ix3 n j ⟨64 * o.val + d.val, by omega⟩) = KV x b (ix4 n j.succ o d) := by
  rw [NEW_at]
  exact congrArg (KV x b) (congr (congrArg (ix4 n j.succ) (Fin.ext (by show (64 * o.val + d.val) / 64 = o.val; omega)))
    (Fin.ext (by show (64 * o.val + d.val) % 64 = d.val; omega)))

/-- Two stores, of the first 127 rows and of the last, lay an array down whole. -/
theorem two_at (p3 : FVec Ideal S32x1x128 .f32) (p2 : FVec Ideal S32x127x128 .f32) (W : FVec Ideal S32x128x128 .f32)
    (h3 : ∀ (n : Fin 32) (e : Fin 128), p3 (ix3 n 0 e) = W (ix3 n 127 e))
    (h2 : ∀ (n : Fin 32) (j : Fin 127) (e : Fin 128), p2 (ix3 n j e) = W (ix3 n ⟨0 + 1 * j.val, by omega⟩ e)) (y : S32x128x128.Idx) :
    View.canon (Val := Elt Ideal) (e := .f32) [⟨Rect.unit ![0, 127, 0] ![32, 1, 128] inb_S32x128x128_S32x1x128_0_127_0, p3⟩,
      ⟨Rect.unit ![0, 0, 0] ![32, 127, 128] inb_S32x128x128_S32x127x128_0_0_0, p2⟩] y = W y := by
  refine View.canon_apply_of_pieces (Val := Elt Ideal) (e := .f32) W _ ?_ y ?_
  · intro p hp x
    rcases List.mem_cons.mp hp with rfl | hp
    · obtain ⟨n, j, e, rfl⟩ : ∃ (n : Fin 32) (j : Fin 1) (e : Fin 128), x = ix3 n j e := ⟨_, _, _, eq_ix3 (n0 := 32) (n1 := 1) (n2 := 128) x⟩
      obtain rfl : j = 0 := Subsingleton.elim _ _
      refine (h3 n e).trans (congrArg W (funext fun a => ?_))
      match a with
      | ⟨0, _⟩ => exact Fin.ext (by show n.val = 0 + 1 * n.val; omega)
      | ⟨1, _⟩ => exact Fin.ext (by show 127 = 127 + 1 * 0; omega)
      | ⟨2, _⟩ => exact Fin.ext (by show e.val = 0 + 1 * e.val; omega)
    rcases List.mem_cons.mp hp with rfl | hp
    · obtain ⟨n, j, e, rfl⟩ : ∃ (n : Fin 32) (j : Fin 127) (e : Fin 128), x = ix3 n j e := ⟨_, _, _, eq_ix3 (n0 := 32) (n1 := 127) (n2 := 128) x⟩
      refine (h2 n j e).trans (congrArg W (funext fun a => ?_))
      match a with
      | ⟨0, _⟩ => exact Fin.ext (by show n.val = 0 + 1 * n.val; omega)
      | ⟨1, _⟩ => rfl
      | ⟨2, _⟩ => exact Fin.ext (by show e.val = 0 + 1 * e.val; omega)
    nomatch hp
  · have hy0 : (y 0).val < 32 := (y 0).isLt
    have hy1 : (y 1).val < 128 := (y 1).isLt
    have hy2 : (y 2).val < 128 := (y 2).isLt
    by_cases h : (y 1).val < 127
    · refine ⟨⟨Rect.unit ![0, 0, 0] ![32, 127, 128] inb_S32x128x128_S32x127x128_0_0_0, p2⟩, List.mem_cons_of_mem _ List.mem_cons_self, ?_⟩
      show y ∈ (Rect.unit (s := S32x128x128) ![0, 0, 0] ![32, 127, 128] inb_S32x128x128_S32x127x128_0_0_0).set
      rw [Rect.mem_set_unit]
      intro a
      match a with
      | ⟨0, _⟩ => show 0 ≤ (y 0).val ∧ (y 0).val < 0 + 32; omega
      | ⟨1, _⟩ => show 0 ≤ (y 1).val ∧ (y 1).val < 0 + 127; omega
      | ⟨2, _⟩ => show 0 ≤ (y 2).val ∧ (y 2).val < 0 + 128; omega
    · refine ⟨⟨Rect.unit ![0, 127, 0] ![32, 1, 128] inb_S32x128x128_S32x1x128_0_127_0, p3⟩, List.mem_cons_self, ?_⟩
      show y ∈ (Rect.unit (s := S32x128x128) ![0, 127, 0] ![32, 1, 128] inb_S32x128x128_S32x1x128_0_127_0).set
      rw [Rect.mem_set_unit]
      intro a
      match a with
      | ⟨0, _⟩ => show 0 ≤ (y 0).val ∧ (y 0).val < 0 + 32; omega
      | ⟨1, _⟩ => show 127 ≤ (y 1).val ∧ (y 1).val < 127 + 1; omega
      | ⟨2, _⟩ => show 0 ≤ (y 2).val ∧ (y 2).val < 0 + 128; omega

/-- The keys the kernel lays down for the next step are the reference's. -/
theorem keys (c : Dev nD) (t : Fin cfg0.N) (y : S32x128x128.Idx) :
    View.canon (Val := Elt Ideal) (e := .f32) [⟨Rect.unit ![0, 127, 0] ![32, 1, 128] inb_S32x128x128_S32x1x128_0_127_0, k0_pay3 (F := Ideal) (iblk m c 2 t)⟩,
      ⟨Rect.unit ![0, 0, 0] ![32, 127, 128] inb_S32x128x128_S32x127x128_0_0_0,
        k0_pay2 (F := Ideal) (View.ld (iblk m c 4 t) (Rect.unit ![0, 1, 0] ![32, 127, 128] inb_S32x128x128_S32x127x128_0_1_0))⟩] y
      = NEW (m ((c : Thread nD τ).loc main_arg2)) (m ((c : Thread nD τ).loc main_arg4)) y := by
  refine two_at _ _ _ (fun n e => ?_) (fun n j e => ?_) y
  · rw [new_last, ← host2 m c, ← blk2 m c t]
    pointwise [k0_pay3]
  · rw [new_keep, ← host4 m c, ← blk4 m c t]
    pointwise [k0_pay2]

/-- The kernel's result array of keys is the reference's. -/
theorem final7 (c : Dev nD) : (dats m 0 c).arrAt 7 (cfgs 0).N = NEW (m ((c : Thread nD τ).loc main_arg2)) (m ((c : Thread nD τ).loc main_arg4)) := by
  refine (dats m 0 c).arrAt_eq_of_covers 7 _ (by decide +kernel) fun t hf y => ?_
  blk_simp
  rw [after0_7]; unfold outsAt0
  frame_out
  simp only [read_unread_whole]
  refine (keys m c t y).trans (congrArg (NEW _ _) ?_)
  blk_ext [idx t]

/-- The values the kernel lays down for the next step are the reference's. -/
theorem values (c : Dev nD) (t : Fin cfg0.N) (y : S32x128x128.Idx) :
    View.canon (Val := Elt Ideal) (e := .f32) [⟨Rect.unit ![0, 127, 0] ![32, 1, 128] inb_S32x128x128_S32x1x128_0_127_0, k0_pay5 (F := Ideal) (iblk m c 3 t)⟩,
      ⟨Rect.unit ![0, 0, 0] ![32, 127, 128] inb_S32x128x128_S32x127x128_0_0_0,
        k0_pay4 (F := Ideal) (View.ld (iblk m c 5 t) (Rect.unit ![0, 1, 0] ![32, 127, 128] inb_S32x128x128_S32x127x128_0_1_0))⟩] y
      = NEW (m ((c : Thread nD τ).loc main_arg3)) (m ((c : Thread nD τ).loc main_arg5)) y := by
  refine two_at _ _ _ (fun n e => ?_) (fun n j e => ?_) y
  · rw [new_last, ← host3 m c, ← blk3 m c t]
    pointwise [k0_pay5]
  · rw [new_keep, ← host5 m c, ← blk5 m c t]
    pointwise [k0_pay4]

/-- The kernel's result array of values is the reference's. -/
theorem final8 (c : Dev nD) : (dats m 0 c).arrAt 8 (cfgs 0).N = NEW (m ((c : Thread nD τ).loc main_arg3)) (m ((c : Thread nD τ).loc main_arg5)) := by
  refine (dats m 0 c).arrAt_eq_of_covers 8 _ (by decide +kernel) fun t hf y => ?_
  blk_simp
  rw [after0_8]; unfold outsAt0
  frame_out
  simp only [read_unread_whole]
  refine (values m c t y).trans (congrArg (NEW _ _) ?_)
  blk_ext [idx t]

/-- Every entry is a real number. -/
def Finite {s : Shape} {φ : FTy} (x : FVec Ideal s φ) : Prop := ∀ i, (x i : EReal) ≠ ⊥ ∧ (x i : EReal) ≠ ⊤

/-- Eight heads of the kernel's result, all reading key head `o`, are the reference's. -/
theorem core (o : Fin 2) (sinks : FVec Ideal S1x16 .f32) (q : FVec Ideal S32x1024 .bf16) (k v : FVec Ideal S32x128 .f32) (bk bv : FVec Ideal S32x128x2x64 .f32)
    (hs : Finite sinks) (hq : Finite q) (hk : Finite k) (hb : Finite bk)
    (kk vv : Vec Ideal S32x128x64 .f32) (qq : Vec Ideal S32x8x64 .bf16) (ss : Vec Ideal S8x1 .f32)
    (hkk : ∀ n j d, kk (ix3 n j d) = NEW k bk (ix3 n j ⟨64 * o.val + d.val, by omega⟩))
    (hvv : ∀ n j d, vv (ix3 n j d) = NEW v bv (ix3 n j ⟨64 * o.val + d.val, by omega⟩))
    (hqq : ∀ n (g : Fin 8) (d : Fin 64), qq (ix3 n g d) = q (ix2 n ⟨(8 * o.val + g.val) * 64 + d.val, by omega⟩))
    (hss : ∀ g : Fin 8, ss (ix2 g 0) = sinks (ix2 0 ⟨8 * o.val + g.val, by omega⟩)) (n : Fin 32) (g : Fin 8) (d : Fin 64) :
    HEAD kk vv qq ss (ix3 n g d) = REF sinks q k v bk bv (ix3 n ⟨8 * o.val + g.val, by omega⟩ d) := by
  have ho : (⟨(8 * o.val + g.val) / 8, by omega⟩ : Fin 2) = o := Fin.ext (by show (8 * o.val + g.val) / 8 = o.val; omega)
  have e1 : (fun j : Fin 128 => ∑ e : Fin 64, qq (ix3 n g e) * kk (ix3 n j e)) = sc q k bk n ⟨8 * o.val + g.val, by omega⟩ := funext fun j => by
    unfold sc
    refine Finset.sum_congr rfl fun e _ => ?_
    rw [hqq, hkk, new_col]
    exact Ideal.mul_congr rfl (congrArg (fun z => KV k bk (ix4 n j.succ z e)) ho.symm)
  have e2 : (fun j : Fin 128 => vv (ix3 n j d)) = fun j : Fin 128 => KV v bv (ix4 n j.succ ⟨(8 * o.val + g.val) / 8, by omega⟩ d) := funext fun j => by
    rw [hvv, new_col]
    exact congrArg (fun z => KV v bv (ix4 n j.succ z d)) ho.symm
  rw [head_at, e1, e2, hss]
  exact (REF_at sinks q k v bk bv hs hq hk hb n ⟨8 * o.val + g.val, by omega⟩ d).symm

/-- The kernel's result array of attention is the reference's. -/
theorem final6 (c : Dev nD) (hs : Finite (s := S1x16) (φ := .f32) (m ((c : Thread nD τ).loc main_arg0)))
    (hq : Finite (s := S32x1024) (φ := .bf16) (m ((c : Thread nD τ).loc main_arg1)))
    (hk : Finite (s := S32x128) (φ := .f32) (m ((c : Thread nD τ).loc main_arg2)))
    (hb : Finite (s := S32x128x2x64) (φ := .f32) (m ((c : Thread nD τ).loc main_arg4))) :
    (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]; unfold outsAt0
  frame_out
  canon_tiles x h
  case piece0 =>
    simp only [read_unread_whole]
    rw [head1]
    obtain ⟨n, g, d, rfl⟩ : ∃ (n : Fin 32) (g : Fin 8) (d : Fin 64), x = ix3 n g d := ⟨_, _, _, eq_ix3 (n0 := 32) (n1 := 8) (n2 := 64) x⟩
    refine (core 1 _ _ _ _ _ _ hs hq hk hb _ _ _ _ (fun n j d => ?_) (fun n j d => ?_) (fun n g d => ?_) (fun g => ?_) n g d).trans (congrArg (REF _ _ _ _ _ _) ?_)
    · refine (congrFun (View.readCov_eq_canon' _ _ _) _).trans ((keys m c t _).trans (congrArg (NEW _ _) (funext fun a => ?_)))
      match a with
      | ⟨0, _⟩ => exact Fin.ext (by show 0 + 1 * n.val = n.val; omega)
      | ⟨1, _⟩ => exact Fin.ext (by show 0 + 1 * j.val = j.val; omega)
      | ⟨2, _⟩ => exact Fin.ext (by show 64 + 1 * d.val = 64 * 1 + d.val; omega)
    · refine (congrFun (View.readCov_eq_canon' _ _ _) _).trans ((values m c t _).trans (congrArg (NEW _ _) (funext fun a => ?_)))
      match a with
      | ⟨0, _⟩ => exact Fin.ext (by show 0 + 1 * n.val = n.val; omega)
      | ⟨1, _⟩ => exact Fin.ext (by show 0 + 1 * j.val = j.val; omega)
      | ⟨2, _⟩ => exact Fin.ext (by show 64 + 1 * d.val = 64 * 1 + d.val; omega)
    · refine Eq.trans ?_ (host1 m c n ⟨8 * 1 + g.val, by omega⟩ d)
      refine (blk1 m c t _).trans (congrArg (V m c main_v1) (funext fun a => ?_))
      match a with
      | ⟨0, _⟩ => exact Fin.ext (by show 0 + 1 * n.val = n.val; omega)
      | ⟨1, _⟩ => exact Fin.ext (by show 8 + 1 * g.val = 8 * 1 + g.val; omega)
      | ⟨2, _⟩ => exact Fin.ext (by show 0 + 1 * d.val = d.val; omega)
    · refine Eq.trans ?_ (host0 m c ⟨8 * 1 + g.val, by omega⟩)
      refine (blk0 m c t _).trans (congrArg (V m c main_v0) (funext fun a => ?_))
      match a with
      | ⟨0, _⟩ => exact Fin.ext (by show 8 + 1 * g.val = 8 * 1 + g.val; omega)
      | ⟨1, _⟩ => exact Fin.ext (by show 0 + 1 * 0 = 0; omega)
    · change (y 0).val = n.val at h0
      change (y 1).val = _ + g.val at h1
      change (y 2).val = d.val at h2
      blk_ext [idx t]
  case piece1 =>
    simp only [read_unread_whole]

    obtain ⟨n, g, d, rfl⟩ : ∃ (n : Fin 32) (g : Fin 8) (d : Fin 64), x = ix3 n g d := ⟨_, _, _, eq_ix3 (n0 := 32) (n1 := 8) (n2 := 64) x⟩
    refine (core 0 _ _ _ _ _ _ hs hq hk hb _ _ _ _ (fun n j d => ?_) (fun n j d => ?_) (fun n g d => ?_) (fun g => ?_) n g d).trans (congrArg (REF _ _ _ _ _ _) ?_)
    · refine (congrFun (View.readCov_eq_canon' _ _ _) _).trans ((keys m c t _).trans (congrArg (NEW _ _) (funext fun a => ?_)))
      match a with
      | ⟨0, _⟩ => exact Fin.ext (by show 0 + 1 * n.val = n.val; omega)
      | ⟨1, _⟩ => exact Fin.ext (by show 0 + 1 * j.val = j.val; omega)
      | ⟨2, _⟩ => exact Fin.ext (by show 0 + 1 * d.val = 64 * 0 + d.val; omega)
    · refine (congrFun (View.readCov_eq_canon' _ _ _) _).trans ((values m c t _).trans (congrArg (NEW _ _) (funext fun a => ?_)))
      match a with
      | ⟨0, _⟩ => exact Fin.ext (by show 0 + 1 * n.val = n.val; omega)
      | ⟨1, _⟩ => exact Fin.ext (by show 0 + 1 * j.val = j.val; omega)
      | ⟨2, _⟩ => exact Fin.ext (by show 0 + 1 * d.val = 64 * 0 + d.val; omega)
    · refine Eq.trans ?_ (host1 m c n ⟨8 * 0 + g.val, by omega⟩ d)
      refine (blk1 m c t _).trans (congrArg (V m c main_v1) (funext fun a => ?_))
      match a with
      | ⟨0, _⟩ => exact Fin.ext (by show 0 + 1 * n.val = n.val; omega)
      | ⟨1, _⟩ => exact Fin.ext (by show 0 + 1 * g.val = 8 * 0 + g.val; omega)
      | ⟨2, _⟩ => exact Fin.ext (by show 0 + 1 * d.val = d.val; omega)
    · refine Eq.trans ?_ (host0 m c ⟨8 * 0 + g.val, by omega⟩)
      refine (blk0 m c t _).trans (congrArg (V m c main_v0) (funext fun a => ?_))
      match a with
      | ⟨0, _⟩ => exact Fin.ext (by show 0 + 1 * g.val = 8 * 0 + g.val; omega)
      | ⟨1, _⟩ => exact Fin.ext (by show 0 + 1 * 0 = 0; omega)
    · change (y 0).val = n.val at h0
      change (y 1).val = g.val at h1
      change (y 2).val = d.val at h2
      blk_ext [idx t]

/-- The bit pattern of +∞ in 16 bits is +∞. -/
theorem inf16 : (Ideal.ofBits .bf16 0x7F80#16 : EReal) = ⊤ := by simp [Ideal.ofBits, Ideal.ieee]

/-- The bit pattern of +∞ in 32 bits is +∞. -/
theorem inf32 : (Ideal.ofBits .f32 0x7F800000#32 : EReal) = ⊤ := by simp [Ideal.ofBits, Ideal.ieee]

/-- An array whose entries' absolute values are all below +∞ holds real numbers. -/
theorem finite_of_lt {s : Shape} {φ : FTy} (x b : FVec Ideal s φ) (hb : ∀ i, (b i : EReal) = ⊤)
    (h : cmpf .olt (Host.absf x) b = fun _ => 1#1) : Finite x := by
  intro i
  have e : BitVec.ofBool (decide (max (x i : EReal) (-(x i : EReal)) < (b i : EReal))) = 1#1 := congrFun h i
  rw [hb] at e
  have e' : max (x i : EReal) (-(x i : EReal)) < ⊤ := by
    by_contra hn
    rw [decide_eq_false hn] at e
    exact absurd e (by decide)
  obtain ⟨e1, e2⟩ := max_lt_iff.1 e'
  refine ⟨fun hx => ?_, ne_of_lt e1⟩
  rw [hx, EReal.neg_bot] at e2
  exact lt_irrefl _ e2

/-- The side conditions of the precondition's own operations. -/
theorem preFacts : Cert.Pre_finite_sample_scores.Facts := ⟨by decide, by decide, by decide, by decide⟩

/-- The kernel and the reference leave the same results. -/
theorem equal : Cert.algebraic_SattnIdeal_RefSattnIdeal_pre_finite_sample_scores (hPre_finite_sample_scores := preFacts) := by
  intro m g m' g' hpre hag
  have hs := fun c => finite_of_lt _ _ (fun _ => inf32) (hpre c).1
  have hq := fun c => finite_of_lt _ _ (fun _ => inf16) (hpre c).2.1
  have hk := fun c => finite_of_lt _ _ (fun _ => inf32) (hpre c).2.2.1
  have hb := fun c => finite_of_lt _ _ (fun _ => inf32) (hpre c).2.2.2
  exact ⟨fun c => REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => NEW (m ((c : Thread nD τ).loc main_arg2)) (m ((c : Thread nD τ).loc main_arg4)), fun c => NEW (m ((c : Thread nD τ).loc main_arg3)) (m ((c : Thread nD τ).loc main_arg5)),
    (θ_run _ _ _).mono (fun r h c => ⟨(h c).1.trans (final6 m c (hs c) (hq c) (hk c) (hb c)), (h c).2.1.trans (final7 m c), (h c).2.2.1.trans (final8 m c), (h c).2.2.2⟩)
      (Cert.SattnIdeal.Value.run_blocks m g),
    (θ_run _ _ _).mono (fun r h c => ⟨(h c).1.trans (by
      show REF (m' ((c : Thread nD τ).loc Cert.RefSattnIdeal.main_arg0)) (m' ((c : Thread nD τ).loc Cert.RefSattnIdeal.main_arg1)) (m' ((c : Thread nD τ).loc Cert.RefSattnIdeal.main_arg2)) (m' ((c : Thread nD τ).loc Cert.RefSattnIdeal.main_arg3)) (m' ((c : Thread nD τ).loc Cert.RefSattnIdeal.main_arg4)) (m' ((c : Thread nD τ).loc Cert.RefSattnIdeal.main_arg5)) = _
      rw [(hag c).1, (hag c).2.1, (hag c).2.2.1, (hag c).2.2.2.1, (hag c).2.2.2.2.1, (hag c).2.2.2.2.2]),
      (h c).2.1.trans (by
      show NEW (m' ((c : Thread nD τ).loc Cert.RefSattnIdeal.main_arg2)) (m' ((c : Thread nD τ).loc Cert.RefSattnIdeal.main_arg4)) = _
      rw [(hag c).2.2.1, (hag c).2.2.2.2.1]),
      (h c).2.2.1.trans (by
      show NEW (m' ((c : Thread nD τ).loc Cert.RefSattnIdeal.main_arg3)) (m' ((c : Thread nD τ).loc Cert.RefSattnIdeal.main_arg5)) = _
      rw [(hag c).2.2.2.1, (hag c).2.2.2.2.2]), (h c).2.2.2⟩)
      (Cert.RefSattnIdeal.Value.run m' g')⟩

/-- The reference terminates with its arguments unchanged and nothing in flight. -/
theorem refFrame : Cert.quiescent_RefSattnIdeal := fun m g _ =>
  (θ_run Cert.RefSattnIdeal.defs _ _).mono (fun r h => ⟨fun c => (h c).2.2.2, sem_eq_zero_of_no_sems (by decide) r.2⟩)
    (Cert.RefSattnIdeal.Value.run m g)

end Cert.SattnIdeal.Hand

end
-- ==== Proof.lean ====
module

public import proofs.«01_k».proof.Defs
public import proofs.«01_k».proof.Proof.Gen.Attn.Frame
public import proofs.«01_k».proof.Proof.Gen.AttnIdeal.Value
public import proofs.«01_k».proof.Proof.Gen.RefAttnIdeal.Run
public import proofs.«01_k».proof.Proof.AttnValue
public import proofs.«01_k».proof.Proof.Gen.Qkv.Frame
public import proofs.«01_k».proof.Proof.Gen.QkvIdeal.Value
public import proofs.«01_k».proof.Proof.Gen.RefQkvIdeal.Run
public import proofs.«01_k».proof.Proof.QkvValue
public import proofs.«01_k».proof.Proof.Gen.Conv.Frame
public import proofs.«01_k».proof.Proof.Gen.ConvIdeal.Value
public import proofs.«01_k».proof.Proof.Gen.RefConvIdeal.Run
public import proofs.«01_k».proof.Proof.ConvValue
public import proofs.«01_k».proof.Proof.Gen.Merge.Frame
public import proofs.«01_k».proof.Proof.Gen.MergeIdeal.Value
public import proofs.«01_k».proof.Proof.Gen.RefMergeIdeal.Run
public import proofs.«01_k».proof.Proof.MergeValue
public import proofs.«01_k».proof.Proof.Gen.Oproj.Frame
public import proofs.«01_k».proof.Proof.Gen.OprojIdeal.Value
public import proofs.«01_k».proof.Proof.Gen.RefOprojIdeal.Run
public import proofs.«01_k».proof.Proof.OprojValue
public import proofs.«01_k».proof.Proof.Gen.Up.Frame
public import proofs.«01_k».proof.Proof.Gen.UpIdeal.Value
public import proofs.«01_k».proof.Proof.Gen.RefUpIdeal.Run
public import proofs.«01_k».proof.Proof.UpValue
public import proofs.«01_k».proof.Proof.Gen.Down.Frame
public import proofs.«01_k».proof.Proof.Gen.DownIdeal.Value
public import proofs.«01_k».proof.Proof.Gen.RefDownIdeal.Run
public import proofs.«01_k».proof.Proof.DownValue
public import proofs.«01_k».proof.Proof.Gen.Final.Frame
public import proofs.«01_k».proof.Proof.Gen.FinalIdeal.Value
public import proofs.«01_k».proof.Proof.Gen.RefFinalIdeal.Run
public import proofs.«01_k».proof.Proof.FinalValue
public import proofs.«01_k».proof.Proof.Gen.Sattn.Frame
public import proofs.«01_k».proof.Proof.Gen.SattnIdeal.Value
public import proofs.«01_k».proof.Proof.Gen.RefSattnIdeal.Run
public import proofs.«01_k».proof.Proof.SattnValue
public import Idealize.ShloMosaic.Adequacy
public import Idealize.ShloMosaic.Init

@[expose] public section

noncomputable section

namespace Cert.Proof

open Idealize.ShloMosaic Idealize.SL.Sem

/-- Everything claimed: each call of the kernel runs without fault, leaves its arguments and the machine's counters as they
    were, and computes its part of the reference. -/
theorem claim : Cert.Claim := ⟨Cert.Attn.Gen.facts,
  Cert.AttnIdeal.Gen.facts,
  Cert.RefAttnIdeal.Gen.facts,
  Cert.Qkv.Gen.facts,
  Cert.QkvIdeal.Gen.facts,
  Cert.RefQkvIdeal.Gen.facts,
  Cert.Conv.Gen.facts,
  Cert.ConvIdeal.Gen.facts,
  Cert.RefConvIdeal.Gen.facts,
  Cert.Merge.Gen.facts,
  Cert.MergeIdeal.Gen.facts,
  Cert.RefMergeIdeal.Gen.facts,
  Cert.Oproj.Gen.facts,
  Cert.OprojIdeal.Gen.facts,
  Cert.RefOprojIdeal.Gen.facts,
  Cert.Up.Gen.facts,
  Cert.UpIdeal.Gen.facts,
  Cert.RefUpIdeal.Gen.facts,
  Cert.Down.Gen.facts,
  Cert.DownIdeal.Gen.facts,
  Cert.RefDownIdeal.Gen.facts,
  Cert.Final.Gen.facts,
  Cert.FinalIdeal.Gen.facts,
  Cert.RefFinalIdeal.Gen.facts,
  Cert.Sattn.Gen.facts,
  Cert.SattnIdeal.Gen.facts,
  Cert.RefSattnIdeal.Gen.facts,
  Cert.AttnIdeal.Hand.preFacts,
  Cert.SattnIdeal.Hand.preFacts,
  fun m ρ _ => Cert.Attn.Gen.frame m ρ,
  fun m ρ _ => Cert.AttnIdeal.Gen.frame m ρ,
  fun m ρ _ => Cert.AttnIdeal.Gen.frame m ρ,
  Cert.AttnIdeal.Hand.refFrame,
  fun m g _ => Cert.AttnIdeal.Hand.refFrame m g trivial,
  fun m ρ _ => Cert.Qkv.Gen.frame m ρ,
  fun m ρ _ => Cert.QkvIdeal.Gen.frame m ρ,
  Cert.QkvIdeal.Hand.refFrame,
  fun m ρ _ => Cert.Conv.Gen.frame m ρ,
  fun m ρ _ => Cert.ConvIdeal.Gen.frame m ρ,
  Cert.ConvIdeal.Hand.refFrame,
  fun m ρ _ => Cert.Merge.Gen.frame m ρ,
  fun m ρ _ => Cert.MergeIdeal.Gen.frame m ρ,
  Cert.MergeIdeal.Hand.refFrame,
  fun m ρ _ => Cert.Oproj.Gen.frame m ρ,
  fun m ρ _ => Cert.OprojIdeal.Gen.frame m ρ,
  Cert.OprojIdeal.Hand.refFrame,
  fun m ρ _ => Cert.Up.Gen.frame m ρ,
  fun m ρ _ => Cert.UpIdeal.Gen.frame m ρ,
  Cert.UpIdeal.Hand.refFrame,
  fun m ρ _ => Cert.Down.Gen.frame m ρ,
  fun m ρ _ => Cert.DownIdeal.Gen.frame m ρ,
  Cert.DownIdeal.Hand.refFrame,
  fun m ρ _ => Cert.Final.Gen.frame m ρ,
  fun m ρ _ => Cert.FinalIdeal.Gen.frame m ρ,
  Cert.FinalIdeal.Hand.refFrame,
  fun m ρ _ => Cert.Sattn.Gen.frame m ρ,
  fun m ρ _ => Cert.SattnIdeal.Gen.frame m ρ,
  fun m ρ _ => Cert.SattnIdeal.Gen.frame m ρ,
  Cert.SattnIdeal.Hand.refFrame,
  fun m g _ => Cert.SattnIdeal.Hand.refFrame m g trivial,
  IdealRules.named_const.statement Cert.AttnIdeal.κ "mask" .f32 0xF149F2CA#32 ⊥ rfl,
  Cert.AttnIdeal.Hand.equal,
  trivial,
  Cert.QkvIdeal.Hand.equal,
  trivial,
  Cert.ConvIdeal.Hand.equal,
  trivial,
  Cert.MergeIdeal.Hand.equal,
  trivial,
  Cert.OprojIdeal.Hand.equal,
  trivial,
  Cert.UpIdeal.Hand.equal,
  trivial,
  Cert.DownIdeal.Hand.equal,
  trivial,
  Cert.FinalIdeal.Hand.equal,
  trivial,
  Cert.SattnIdeal.Hand.equal⟩

end Cert.Proof

end
